-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_c [hPre_finite_c : Cert.Pre_finite_c.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_c.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_c [hPre_finite_c : Cert.Pre_finite_c.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_c.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_c [hKernel5Ideal : Cert.Kernel5Ideal.Facts] [hPre_finite_c : Cert.Pre_finite_c.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_c m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_c [hReference5Ideal : Cert.Reference5Ideal.Facts] [hPre_finite_c : Cert.Pre_finite_c.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_c m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_c [hKernel5Ideal : Cert.Kernel5Ideal.Facts] [hReference5Ideal : Cert.Reference5Ideal.Facts] [hPre_finite_c : Cert.Pre_finite_c.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_c m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_c : Cert.Pre_finite_c.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_c (hKernel5Ideal := hKernel5Ideal) (hPre_finite_c := hPre_finite_c)
    ∧ quiescent_Reference5Ideal (hReference5Ideal := hReference5Ideal)
    ∧ quiescent_Reference5Ideal_pre_finite_c (hReference5Ideal := hReference5Ideal) (hPre_finite_c := hPre_finite_c)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_c (hKernel5Ideal := hKernel5Ideal) (hReference5Ideal := hReference5Ideal) (hPre_finite_c := hPre_finite_c)
-- ==== Pre_finite.lean ====
abbrev S32768x4096 : Shape := ⟨2, ![32768, 4096]⟩
abbrev S2x1024 : Shape := ⟨2, ![2, 1024]⟩
abbrev S128 : Shape := ⟨1, ![128]⟩
abbrev S32768x1024 : Shape := ⟨2, ![32768, 1024]⟩
abbrev S_ : Shape := ⟨0, ![]⟩

class Facts : Prop where
  slices_S32768x4096_S32768x1024_0_0 : S32768x4096.Slices ![0, 0] S32768x1024
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S32768x4096_S32768x1024_0_2048 : S32768x4096.Slices ![0, 2048] S32768x1024
  bitsLt_bf16_f32 : FTy.bits .bf16 < FTy.bits .f32
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_arg2 : FVec F S2x1024 .f32) (main_v17 : IVec S_ 1) : IVec S_ 1 :=
  let main_v18 : FVec F S2x1024 .f32 := Host.absf main_arg2
  let main_cst_4 : FVec F S_ .f32 := constant S_ .f32 0x7F800000#32
  let main_v19 : FVec F S2x1024 .f32 := broadcastInDim S2x1024 ![] bcast_S_S2x1024 main_cst_4
  let main_v20 : IVec S2x1024 1 := cmpf .olt main_v18 main_v19
  let main_c_5 : IVec S_ 1 := constantI S_ 1 1#1
  let main_v21 : IVec S_ 1 := (fun x v => Host.reduce IntOp.andi x v reducesTo_S2x1024_S_d0_1 h_S_) main_v20 main_c_5
  let main_v22 : IVec S_ 1 := andi main_v17 main_v21
  main_v22

def fn {F : FTy → Type} [FloatOps F] (main_arg0 : FVec F S32768x4096 .f32) (main_arg1 : FVec F S32768x4096 .bf16) (main_arg2 : FVec F S2x1024 .f32) (main_arg3 : FVec F S128 .f32) : IVec S_ 1 :=
  let main_v0 : FVec F S32768x1024 .f32 := (extractStridedSlice S32768x1024 ![0, 0] · slices_S32768x4096_S32768x1024_0_0) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extractStridedSlice S32768x1024 ![0, 2048] · slices_S32768x4096_S32768x1024_0_2048) main_arg0
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  let main_v11 : FVec F S32768x1024 .bf16 := (extractStridedSlice S32768x1024 ![0, 0] · slices_S32768x4096_S32768x1024_0_0) main_arg1
  let main_v12 : FVec F S32768x1024 .f32 := (extf .f32 · bitsLt_bf16_f32) main_v11
  let main_v13 : FVec F S32768x1024 .f32 := Host.absf main_v12
  let main_cst_2 : FVec F S_ .f32 := constant S_ .f32 0x7F800000#32
  let main_v14 : FVec F S32768x1024 .f32 := broadcastInDim S32768x1024 ![] bcast_S_S32768x1024 main_cst_2
  let main_v15 : IVec S32768x1024 1 := cmpf .olt main_v13 main_v14
  let main_c_3 : IVec S_ 1 := constantI S_ 1 1#1
  let main_v16 : IVec S_ 1 := (fun x v => Host.reduce IntOp.andi x v reducesTo_S32768x1024_S_d0_1 h_S_) main_v15 main_c_3
  let main_v17 : IVec S_ 1 := andi main_v10 main_v16
  fn_part1 (F := F) main_arg2 main_v17
-- ==== Pre_finite_c.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x1024 .f32) (main_arg1 : FVec F S2x1024x3072 .f32) (main_arg2 : FVec F S2x3072 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  main_v3
-- ==== Kernel.lean ====
abbrev S32768x4096 : Shape := ⟨2, ![32768, 4096]⟩
abbrev S2x1024 : Shape := ⟨2, ![2, 1024]⟩
abbrev S128 : Shape := ⟨1, ![128]⟩
abbrev S384x128 : Shape := ⟨2, ![384, 128]⟩
abbrev S128x128 : Shape := ⟨2, ![128, 128]⟩
abbrev S1x128 : Shape := ⟨2, ![1, 128]⟩
abbrev S32768x1024 : Shape := ⟨2, ![32768, 1024]⟩
abbrev S4096x256 : Shape := ⟨2, ![4096, 256]⟩
abbrev S2x256 : Shape := ⟨2, ![2, 256]⟩
abbrev S2x128x128 : Shape := ⟨3, ![2, 128, 128]⟩
abbrev S384x512 : Shape := ⟨2, ![384, 512]⟩
abbrev S2x128x256 : Shape := ⟨3, ![2, 128, 256]⟩
abbrev S2x128x512 : Shape := ⟨3, ![2, 128, 512]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S128x512 : Shape := ⟨2, ![128, 512]⟩
abbrev S1x128x512 : Shape := ⟨3, ![1, 128, 512]⟩
abbrev S8x16x512 : Shape := ⟨3, ![8, 16, 512]⟩
abbrev S8x1x512 : Shape := ⟨3, ![8, 1, 512]⟩
abbrev S1x1x512 : Shape := ⟨3, ![1, 1, 512]⟩
abbrev S7x1x512 : Shape := ⟨3, ![7, 1, 512]⟩
abbrev S1x8x1x512 : Shape := ⟨4, ![1, 8, 1, 512]⟩
abbrev S1 : Shape := ⟨1, ![1]⟩
abbrev S1x1x1x1 : Shape := ⟨4, ![1, 1, 1, 1]⟩
abbrev S1x128x128 : Shape := ⟨3, ![1, 128, 128]⟩
abbrev S8x16x128 : Shape := ⟨3, ![8, 16, 128]⟩
abbrev S8x1x128 : Shape := ⟨3, ![8, 1, 128]⟩
abbrev S1x1x128 : Shape := ⟨3, ![1, 1, 128]⟩
abbrev S7x1x128 : Shape := ⟨3, ![7, 1, 128]⟩
abbrev S4x32x128 : Shape := ⟨3, ![4, 32, 128]⟩
abbrev S4x1x128 : Shape := ⟨3, ![4, 1, 128]⟩
abbrev S2x64x128 : Shape := ⟨3, ![2, 64, 128]⟩
abbrev S2x1x128 : Shape := ⟨3, ![2, 1, 128]⟩
abbrev S128x1 : Shape := ⟨2, ![128, 1]⟩
abbrev S256x128 : Shape := ⟨2, ![256, 128]⟩
abbrev S256x512 : Shape := ⟨2, ![256, 512]⟩

abbrev nBuf : Space → Nat
  | .hbm => 8
  | .vmem => 20
  | .smem => 0
  | _ => 0

abbrev bufTy : (tb : Table) → Fin (tcTables nBuf tb) → BufTy
  | .hbm, ⟨0, _⟩ => ⟨S32768x4096, .f32⟩
  | .hbm, ⟨1, _⟩ => ⟨S32768x4096, .bf16⟩
  | .hbm, ⟨2, _⟩ => ⟨S2x1024, .f32⟩
  | .hbm, ⟨3, _⟩ => ⟨S128, .f32⟩
  | .hbm, ⟨4, _⟩ => ⟨S384x128, .bf16⟩
  | .hbm, ⟨5, _⟩ => ⟨S128x128, .i32⟩
  | .hbm, ⟨6, _⟩ => ⟨S1x128, .f32⟩
  | .hbm, ⟨7, _⟩ => ⟨S32768x1024, .bf16⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .bf16⟩
  | .local _ .vmem, ⟨5, _⟩ => ⟨S4096x256, .bf16⟩
  | .local _ .vmem, ⟨6, _⟩ => ⟨S4096x256, .f32⟩
  | .local _ .vmem, ⟨7, _⟩ => ⟨S4096x256, .f32⟩
  | .local _ .vmem, ⟨8, _⟩ => ⟨S2x256, .f32⟩
  | .local _ .vmem, ⟨9, _⟩ => ⟨S2x256, .f32⟩
  | .local _ .vmem, ⟨10, _⟩ => ⟨S1x128, .f32⟩
  | .local _ .vmem, ⟨11, _⟩ => ⟨S384x128, .bf16⟩
  | .local _ .vmem, ⟨12, _⟩ => ⟨S128x128, .i32⟩
  | .local _ .vmem, ⟨13, _⟩ => ⟨S4096x256, .bf16⟩
  | .local _ .vmem, ⟨14, _⟩ => ⟨S4096x256, .bf16⟩
  | .local _ .vmem, ⟨15, _⟩ => ⟨S2x128x128, .f32⟩
  | .local _ .vmem, ⟨16, _⟩ => ⟨S384x512, .f32⟩
  | .local _ .vmem, ⟨17, _⟩ => ⟨S2x128x256, .bf16⟩
  | .local _ .vmem, ⟨18, _⟩ => ⟨S2x128x256, .bf16⟩
  | .local _ .vmem, ⟨19, _⟩ => ⟨S2x128x512, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 4, 1], ![false, false, false]⟩

def k0_mult1 : BitVec 32 :=
  let c0_i32_20 : BitVec 32 := 0#32
  c0_i32_20
def k0_mult2 : BitVec 32 :=
  let c128_i32 : BitVec 32 := 128#32
  c128_i32
@[reducible] def k0_t1_loop : Scf.Loop 32 :=
  let c0_i32_81 : BitVec 32 := 0#32
  let c16_i32_82 : BitVec 32 := 16#32
  let v210 : BitVec 32 := Scalar.addi c0_i32_81 c16_i32_82
  let c1_i32_83 : BitVec 32 := 1#32
  ⟨c0_i32_81, v210, c1_i32_83⟩
def k0_mult3 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c2_i32 : BitVec 32 := 2#32
  let v216 : BitVec 32 := Scalar.muli arg17 c2_i32
  let c0_i32_87 : BitVec 32 := 0#32
  let v217 : BitVec 32 := Scalar.addi v216 c0_i32_87
  let c128_i32_88 : BitVec 32 := 128#32
  let v218 : BitVec 32 := Scalar.muli v217 c128_i32_88
  v218
def k0_mult4 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c2_i32_89 : BitVec 32 := 2#32
  let v220 : BitVec 32 := Scalar.muli arg17 c2_i32_89
  let c1_i32_90 : BitVec 32 := 1#32
  let v221 : BitVec 32 := Scalar.addi v220 c1_i32_90
  let c128_i32_91 : BitVec 32 := 128#32
  let v222 : BitVec 32 := Scalar.muli v221 c128_i32_91
  v222
def k0_off1 (k0_t1 : Fin k0_t1_loop.trips) (c0_i32_87 : BitVec 32) : Fin 2 → Nat :=
  let c0_i32_81 : BitVec 32 := 0#32
  let c1_i32_83 : BitVec 32 := 1#32
  let arg17 : BitVec 32 := Scf.iv c0_i32_81 c1_i32_83 k0_t1
  let c2_i32 : BitVec 32 := 2#32
  let v216 : BitVec 32 := Scalar.muli arg17 c2_i32
  let v217 : BitVec 32 := Scalar.addi v216 c0_i32_87
  let c128_i32_88 : BitVec 32 := 128#32
  let v218 : BitVec 32 := Scalar.muli v217 c128_i32_88
  let v219 : BitVec 32 := v218
  let v225 : Index := Scalar.indexCast v219
  let c0_94 : Index := 0#32
  ![v225.toNat, 0]
def k0_off2 (k0_t1 : Fin k0_t1_loop.trips) (c0_i32_87 : BitVec 32) : Fin 2 → Nat :=
  let c0_i32_81 : BitVec 32 := 0#32
  let c1_i32_83 : BitVec 32 := 1#32
  let arg17 : BitVec 32 := Scf.iv c0_i32_81 c1_i32_83 k0_t1
  let c2_i32 : BitVec 32 := 2#32
  let v216 : BitVec 32 := Scalar.muli arg17 c2_i32
  let v217 : BitVec 32 := Scalar.addi v216 c0_i32_87
  let c128_i32_88 : BitVec 32 := 128#32
  let v218 : BitVec 32 := Scalar.muli v217 c128_i32_88
  let v219 : BitVec 32 := v218
  let v233 : Index := Scalar.indexCast v219
  let c128 : Index := 128#32
  ![v233.toNat, 128]
def k0_mult5 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c1_i32_185 : BitVec 32 := 1#32
  let v608 : BitVec 32 := Scalar.addi arg17 c1_i32_185
  let c15_i32 : BitVec 32 := 15#32
  let v609 : BitVec 32 := Scalar.minsi v608 c15_i32
  let c2_i32_186 : BitVec 32 := 2#32
  let v610 : BitVec 32 := Scalar.muli v609 c2_i32_186
  let c0_i32_187 : BitVec 32 := 0#32
  let v611 : BitVec 32 := Scalar.addi v610 c0_i32_187
  let c128_i32_188 : BitVec 32 := 128#32
  let v612 : BitVec 32 := Scalar.muli v611 c128_i32_188
  v612
def k0_mult6 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c1_i32_185 : BitVec 32 := 1#32
  let v608 : BitVec 32 := Scalar.addi arg17 c1_i32_185
  let c15_i32 : BitVec 32 := 15#32
  let v609 : BitVec 32 := Scalar.minsi v608 c15_i32
  let c2_i32_189 : BitVec 32 := 2#32
  let v614 : BitVec 32 := Scalar.muli v609 c2_i32_189
  let c1_i32_190 : BitVec 32 := 1#32
  let v615 : BitVec 32 := Scalar.addi v614 c1_i32_190
  let c128_i32_191 : BitVec 32 := 128#32
  let v616 : BitVec 32 := Scalar.muli v615 c128_i32_191
  v616
def k0_off3 (k0_t1 : Fin k0_t1_loop.trips) (c0_i32_187 : BitVec 32) : Fin 2 → Nat :=
  let c0_i32_81 : BitVec 32 := 0#32
  let c1_i32_83 : BitVec 32 := 1#32
  let arg17 : BitVec 32 := Scf.iv c0_i32_81 c1_i32_83 k0_t1
  let c1_i32_185 : BitVec 32 := 1#32
  let v608 : BitVec 32 := Scalar.addi arg17 c1_i32_185
  let c15_i32 : BitVec 32 := 15#32
  let v609 : BitVec 32 := Scalar.minsi v608 c15_i32
  let c2_i32_186 : BitVec 32 := 2#32
  let v610 : BitVec 32 := Scalar.muli v609 c2_i32_186
  let v611 : BitVec 32 := Scalar.addi v610 c0_i32_187
  let c128_i32_188 : BitVec 32 := 128#32
  let v612 : BitVec 32 := Scalar.muli v611 c128_i32_188
  let v613 : BitVec 32 := v612
  let v618 : Index := Scalar.indexCast v613
  let c0_192 : Index := 0#32
  ![v618.toNat, 0]
def k0_mult7 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c2_i32 : BitVec 32 := 2#32
  let v216 : BitVec 32 := Scalar.muli arg17 c2_i32
  let c0_i32_87 : BitVec 32 := 0#32
  let v217 : BitVec 32 := Scalar.addi v216 c0_i32_87
  let c128_i32_88 : BitVec 32 := 128#32
  let v218 : BitVec 32 := Scalar.muli v217 c128_i32_88
  v218
def k0_mult8 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c2_i32_89 : BitVec 32 := 2#32
  let v220 : BitVec 32 := Scalar.muli arg17 c2_i32_89
  let c1_i32_90 : BitVec 32 := 1#32
  let v221 : BitVec 32 := Scalar.addi v220 c1_i32_90
  let c128_i32_91 : BitVec 32 := 128#32
  let v222 : BitVec 32 := Scalar.muli v221 c128_i32_91
  v222
def k0_off4 (k0_t1 : Fin k0_t1_loop.trips) (c0_i32_87 : BitVec 32) : Fin 2 → Nat :=
  let c0_i32_81 : BitVec 32 := 0#32
  let c1_i32_83 : BitVec 32 := 1#32
  let arg17 : BitVec 32 := Scf.iv c0_i32_81 c1_i32_83 k0_t1
  let c2_i32 : BitVec 32 := 2#32
  let v216 : BitVec 32 := Scalar.muli arg17 c2_i32
  let v217 : BitVec 32 := Scalar.addi v216 c0_i32_87
  let c128_i32_88 : BitVec 32 := 128#32
  let v218 : BitVec 32 := Scalar.muli v217 c128_i32_88
  let v219 : BitVec 32 := v218
  let v225 : Index := Scalar.indexCast v219
  let c0_94 : Index := 0#32
  ![v225.toNat, 0]
def k0_off5 (k0_t1 : Fin k0_t1_loop.trips) (c0_i32_87 : BitVec 32) : Fin 2 → Nat :=
  let c0_i32_81 : BitVec 32 := 0#32
  let c1_i32_83 : BitVec 32 := 1#32
  let arg17 : BitVec 32 := Scf.iv c0_i32_81 c1_i32_83 k0_t1
  let c2_i32 : BitVec 32 := 2#32
  let v216 : BitVec 32 := Scalar.muli arg17 c2_i32
  let v217 : BitVec 32 := Scalar.addi v216 c0_i32_87
  let c128_i32_88 : BitVec 32 := 128#32
  let v218 : BitVec 32 := Scalar.muli v217 c128_i32_88
  let v219 : BitVec 32 := v218
  let v233 : Index := Scalar.indexCast v219
  let c128 : Index := 128#32
  ![v233.toNat, 128]
def k0_mult9 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c1_i32_250 : BitVec 32 := 1#32
  let v718 : BitVec 32 := Scalar.addi arg17 c1_i32_250
  let c15_i32 : BitVec 32 := 15#32
  let v719 : BitVec 32 := Scalar.minsi v718 c15_i32
  let c2_i32_251 : BitVec 32 := 2#32
  let v720 : BitVec 32 := Scalar.muli v719 c2_i32_251
  let c0_i32_252 : BitVec 32 := 0#32
  let v721 : BitVec 32 := Scalar.addi v720 c0_i32_252
  let c128_i32_253 : BitVec 32 := 128#32
  let v722 : BitVec 32 := Scalar.muli v721 c128_i32_253
  v722
def k0_mult10 (k0_t1 : Fin k0_t1_loop.trips) : BitVec 32 :=
  let c0_i32_81 : BitVec 32 := 0#32
  let c1_i32_83 : BitVec 32 := 1#32
  let arg17 : BitVec 32 := Scf.iv c0_i32_81 c1_i32_83 k0_t1
  let c1_i32_250 : BitVec 32 := 1#32
  let v718 : BitVec 32 := Scalar.addi arg17 c1_i32_250
  let c15_i32 : BitVec 32 := 15#32
  let v719 : BitVec 32 := Scalar.minsi v718 c15_i32
  let c2_i32_254 : BitVec 32 := 2#32
  let v724 : BitVec 32 := Scalar.muli v719 c2_i32_254
  let c1_i32_255 : BitVec 32 := 1#32
  let v725 : BitVec 32 := Scalar.addi v724 c1_i32_255
  let c128_i32_256 : BitVec 32 := 128#32
  let v726 : BitVec 32 := Scalar.muli v725 c128_i32_256
  v726
def k0_off6 (k0_t1 : Fin k0_t1_loop.trips) (c0_i32_252 : BitVec 32) : Fin 2 → Nat :=
  let c0_i32_81 : BitVec 32 := 0#32
  let c1_i32_83 : BitVec 32 := 1#32
  let arg17 : BitVec 32 := Scf.iv c0_i32_81 c1_i32_83 k0_t1
  let c1_i32_250 : BitVec 32 := 1#32
  let v718 : BitVec 32 := Scalar.addi arg17 c1_i32_250
  let c15_i32 : BitVec 32 := 15#32
  let v719 : BitVec 32 := Scalar.minsi v718 c15_i32
  let c2_i32_251 : BitVec 32 := 2#32
  let v720 : BitVec 32 := Scalar.muli v719 c2_i32_251
  let v721 : BitVec 32 := Scalar.addi v720 c0_i32_252
  let c128_i32_253 : BitVec 32 := 128#32
  let v722 : BitVec 32 := Scalar.muli v721 c128_i32_253
  let v723 : BitVec 32 := v722
  let v728 : Index := Scalar.indexCast v723
  let c0_257 : Index := 0#32
  ![v728.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== ReferenceIdeal.lean ====
abbrev S32768x4096 : Shape := ⟨2, ![32768, 4096]⟩
abbrev S2x1024 : Shape := ⟨2, ![2, 1024]⟩
abbrev S128 : Shape := ⟨1, ![128]⟩
abbrev S32768x1024 : Shape := ⟨2, ![32768, 1024]⟩
abbrev S8x4096x1024 : Shape := ⟨3, ![8, 4096, 1024]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S8x64x64x8x128 : Shape := ⟨5, ![8, 64, 64, 8, 128]⟩
abbrev S64x8x8x64x128 : Shape := ⟨5, ![64, 8, 8, 64, 128]⟩
abbrev S64x64 : Shape := ⟨2, ![64, 64]⟩
abbrev S64x64x1 : Shape := ⟨3, ![64, 64, 1]⟩
abbrev S8x8x128x128 : Shape := ⟨4, ![8, 8, 128, 128]⟩
abbrev S1x8x8x64x128 : Shape := ⟨5, ![1, 8, 8, 64, 128]⟩
abbrev S8x8x64x128 : Shape := ⟨4, ![8, 8, 64, 128]⟩
abbrev S8x8x64x1x128 : Shape := ⟨5, ![8, 8, 64, 1, 128]⟩
abbrev S8x8x1x64x128 : Shape := ⟨5, ![8, 8, 1, 64, 128]⟩
abbrev S8x8x64x64x128 : Shape := ⟨5, ![8, 8, 64, 64, 128]⟩
abbrev S8x8x64x64 : Shape := ⟨4, ![8, 8, 64, 64]⟩
abbrev S8x8x1x128 : Shape := ⟨4, ![8, 8, 1, 128]⟩
abbrev S8x8x128 : Shape := ⟨3, ![8, 8, 128]⟩
abbrev S8x8x128x1 : Shape := ⟨4, ![8, 8, 128, 1]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 238
  | .vmem => 0
  | .smem => 0
  | _ => 0

abbrev hbmTy0_0 (i : Nat) : BufTy := match i % 128 with
  | 0 => ⟨S32768x4096, .f32⟩
  | 1 => ⟨S32768x4096, .bf16⟩
  | 2 => ⟨S2x1024, .f32⟩
  | 3 => ⟨S128, .f32⟩
  | 4 => ⟨S32768x4096, .f32⟩
  | 5 => ⟨S32768x1024, .f32⟩
  | 6 => ⟨S8x4096x1024, .f32⟩
  | 7 => ⟨S32768x1024, .f32⟩
  | 8 => ⟨S8x4096x1024, .f32⟩
  | 9 => ⟨S32768x1024, .f32⟩
  | 10 => ⟨S8x4096x1024, .f32⟩
  | 11 => ⟨S_, .f32⟩
  | 12 => ⟨S1024, .f32⟩
  | 13 => ⟨S_, .f32⟩
  | 14 => ⟨S1024, .f32⟩
  | 15 => ⟨S1024, .f32⟩
  | 16 => ⟨S1x1024, .f32⟩
  | 17 => ⟨S2x1024, .f32⟩
  | 18 => ⟨S2x1024, .f32⟩
  | 19 => ⟨S2x1024, .f32⟩
  | 20 => ⟨S_, .f32⟩
  | 21 => ⟨S1024, .f32⟩
  | 22 => ⟨S1x1024, .f32⟩
  | 23 => ⟨S2x1024, .f32⟩
  | 24 => ⟨S2x1024, .f32⟩
  | 25 => ⟨S_, .f32⟩
  | 26 => ⟨S_, .f32⟩
  | 27 => ⟨S2x1024, .f32⟩
  | 28 => ⟨S1x1024, .f32⟩
  | 29 => ⟨S2x1024, .f32⟩
  | 30 => ⟨S2x1024, .f32⟩
  | 31 => ⟨S1x1024, .f32⟩
  | 32 => ⟨S1024, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S8x4096x1024, .f32⟩
  | 42 => ⟨S1024, .f32⟩
  | 43 => ⟨S1024, .f32⟩
  | 44 => ⟨S1024, .f32⟩
  | 45 => ⟨S8x4096x1024, .f32⟩
  | 46 => ⟨S_, .f32⟩
  | 47 => ⟨S8x4096x1024, .f32⟩
  | 48 => ⟨S8x4096x1024, .f32⟩
  | 49 => ⟨S8x4096x1024, .f32⟩
  | 50 => ⟨S8x4096x1024, .f32⟩
  | 51 => ⟨S8x4096x1024, .i1⟩
  | 52 => ⟨S8x4096x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S1x1x1024, .f32⟩
  | 62 => ⟨S8x4096x1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S8x4096x1024, .i1⟩
  | 70 => ⟨S8x4096x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S8x4096x1024, .f32⟩
  | 77 => ⟨S8x4096x1024, .f32⟩
  | 78 => ⟨S_, .f32⟩
  | 79 => ⟨S1024, .f32⟩
  | 80 => ⟨S1024, .f32⟩
  | 81 => ⟨S8x4096x1024, .f32⟩
  | 82 => ⟨S8x4096x1024, .f32⟩
  | 83 => ⟨S8x4096x1024, .f32⟩
  | 84 => ⟨S_, .f32⟩
  | 85 => ⟨S8x4096x1024, .f32⟩
  | 86 => ⟨S8x4096x1024, .f32⟩
  | 87 => ⟨S_, .f32⟩
  | 88 => ⟨S8x4096x1024, .f32⟩
  | 89 => ⟨S8x4096x1024, .f32⟩
  | 90 => ⟨S1x1x1024, .f32⟩
  | 91 => ⟨S8x4096x1024, .f32⟩
  | 92 => ⟨S8x4096x1024, .f32⟩
  | 93 => ⟨S8x64x64x8x128, .f32⟩
  | 94 => ⟨S64x8x8x64x128, .f32⟩
  | 95 => ⟨S8x64x64x8x128, .f32⟩
  | 96 => ⟨S64x8x8x64x128, .f32⟩
  | 97 => ⟨S8x64x64x8x128, .f32⟩
  | 98 => ⟨S64x8x8x64x128, .f32⟩
  | 99 => ⟨S8x64x64x8x128, .f32⟩
  | 100 => ⟨S64x8x8x64x128, .f32⟩
  | 101 => ⟨S_, .f32⟩
  | 102 => ⟨S_, .f32⟩
  | 103 => ⟨S64x8x8x64x128, .f32⟩
  | 104 => ⟨S_, .i1⟩
  | 105 => ⟨S64x64, .i1⟩
  | 106 => ⟨S64x64, .i32⟩
  | 107 => ⟨S_, .i32⟩
  | 108 => ⟨S64x64, .i32⟩
  | 109 => ⟨S64x64, .i32⟩
  | 110 => ⟨S64x64, .i32⟩
  | 111 => ⟨S64x64, .i1⟩
  | 112 => ⟨S_, .i1⟩
  | 113 => ⟨S64x64, .i1⟩
  | 114 => ⟨S64x64, .i1⟩
  | 115 => ⟨S64x64x1, .i1⟩
  | 116 => ⟨S_, .f32⟩
  | 117 => ⟨S8x8x128x128, .f32⟩
  | 118 => ⟨S_, .f32⟩
  | 119 => ⟨S64x8x8x64x128, .f32⟩
  | 120 => ⟨S_, .i32⟩
  | 121 => ⟨S64x8x8x64x128, .f32⟩
  | 122 => ⟨S64x8x8x64x128, .f32⟩
  | 123 => ⟨S64x8x8x64x128, .f32⟩
  | 124 => ⟨S64x8x8x64x128, .f32⟩
  | 125 => ⟨S64x64x1, .i1⟩
  | 126 => ⟨S_, .i32⟩
  | 127 => ⟨S8x8x128x128, .f32⟩
  | _ => ⟨S32768x4096, .f32⟩

abbrev hbmTy0_1 (i : Nat) : BufTy := match i % 128 with
  | 0 => ⟨S64x8x8x64x128, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S1x8x8x64x128, .f32⟩
  | 8 => ⟨S8x8x64x128, .f32⟩
  | 9 => ⟨S_, .i32⟩
  | 10 => ⟨S_, .i32⟩
  | 11 => ⟨S_, .i32⟩
  | 12 => ⟨S_, .i32⟩
  | 13 => ⟨S1x8x8x64x128, .f32⟩
  | 14 => ⟨S8x8x64x128, .f32⟩
  | 15 => ⟨S_, .i32⟩
  | 16 => ⟨S_, .i32⟩
  | 17 => ⟨S_, .i32⟩
  | 18 => ⟨S_, .i32⟩
  | 19 => ⟨S1x8x8x64x128, .f32⟩
  | 20 => ⟨S8x8x64x128, .f32⟩
  | 21 => ⟨S_, .i32⟩
  | 22 => ⟨S_, .i32⟩
  | 23 => ⟨S_, .i32⟩
  | 24 => ⟨S_, .i32⟩
  | 25 => ⟨S1x8x8x64x128, .f32⟩
  | 26 => ⟨S8x8x64x128, .f32⟩
  | 27 => ⟨S8x8x64x1x128, .f32⟩
  | 28 => ⟨S8x8x1x64x128, .f32⟩
  | 29 => ⟨S8x8x64x64x128, .f32⟩
  | 30 => ⟨S8x8x64x64x128, .f32⟩
  | 31 => ⟨S8x8x64x64x128, .f32⟩
  | 32 => ⟨S_, .f32⟩
  | 33 => ⟨S_, .f32⟩
  | 34 => ⟨S8x8x64x64x128, .i1⟩
  | 35 => ⟨S8x8x64x64x128, .f32⟩
  | 36 => ⟨S8x8x64x64x128, .f32⟩
  | 37 => ⟨S8x8x64x64x128, .f32⟩
  | 38 => ⟨S_, .f32⟩
  | 39 => ⟨S_, .f32⟩
  | 40 => ⟨S8x8x64x64x128, .i1⟩
  | 41 => ⟨S8x8x64x64x128, .f32⟩
  | 42 => ⟨S8x8x64x64x128, .f32⟩
  | 43 => ⟨S8x8x64x1x128, .f32⟩
  | 44 => ⟨S8x8x1x64x128, .f32⟩
  | 45 => ⟨S8x8x64x64x128, .f32⟩
  | 46 => ⟨S8x8x64x64x128, .f32⟩
  | 47 => ⟨S8x8x64x64x128, .f32⟩
  | 48 => ⟨S8x8x64x64x128, .f32⟩
  | 49 => ⟨S_, .f32⟩
  | 50 => ⟨S8x8x64x64, .f32⟩
  | 51 => ⟨S8x8x1x128, .f32⟩
  | 52 => ⟨S8x8x128, .f32⟩
  | 53 => ⟨S8x8x64x128, .f32⟩
  | 54 => ⟨S8x8x64x128, .f32⟩
  | 55 => ⟨S8x8x64x128, .f32⟩
  | 56 => ⟨S8x8x64x128, .f32⟩
  | 57 => ⟨S8x8x64x128, .f32⟩
  | 58 => ⟨S8x8x1x128, .f32⟩
  | 59 => ⟨S8x8x64x128, .f32⟩
  | 60 => ⟨S8x8x64x128, .f32⟩
  | 61 => ⟨S8x8x64x128, .f32⟩
  | 62 => ⟨S8x8x64x128, .f32⟩
  | 63 => ⟨S8x8x128, .f32⟩
  | 64 => ⟨S8x8x128x1, .f32⟩
  | 65 => ⟨S8x8x128x128, .f32⟩
  | 66 => ⟨S8x8x128x128, .f32⟩
  | 67 => ⟨S8x8x128x128, .f32⟩
  | 68 => ⟨S8x8x128x128, .f32⟩
  | 69 => ⟨S1x8x8x64x128, .f32⟩
  | 70 => ⟨S_, .i32⟩
  | 71 => ⟨S_, .i32⟩
  | 72 => ⟨S_, .i32⟩
  | 73 => ⟨S_, .i32⟩
  | 74 => ⟨S64x8x8x64x128, .f32⟩
  | 75 => ⟨S_, .i32⟩
  | 76 => ⟨S_, .i32⟩
  | 77 => ⟨S8x64x64x8x128, .f32⟩
  | 78 => ⟨S8x4096x8x128, .f32⟩
  | 79 => ⟨S8x4096x8x128, .f32⟩
  | 80 => ⟨S_, .f32⟩
  | 81 => ⟨S8x4096x8, .f32⟩
  | 82 => ⟨S8x4096x8x1, .f32⟩
  | 83 => ⟨S_, .f32⟩
  | 84 => ⟨S8x4096x8x1, .f32⟩
  | 85 => ⟨S8x4096x8x1, .f32⟩
  | 86 => ⟨S_, .f32⟩
  | 87 => ⟨S8x4096x8x1, .f32⟩
  | 88 => ⟨S8x4096x8x1, .f32⟩
  | 89 => ⟨S8x4096x8x1, .f32⟩
  | 90 => ⟨S8x4096x8x128, .f32⟩
  | 91 => ⟨S8x4096x8x128, .f32⟩
  | 92 => ⟨S1x1x1x128, .f32⟩
  | 93 => ⟨S8x4096x8x128, .f32⟩
  | 94 => ⟨S8x4096x8x128, .f32⟩
  | 95 => ⟨S8x4096x1024, .f32⟩
  | 96 => ⟨S32768x1024, .f32⟩
  | 97 => ⟨S8x4096x1024, .f32⟩
  | 98 => ⟨S8x4096x1024, .f32⟩
  | 99 => ⟨S8x4096x1024, .f32⟩
  | 100 => ⟨S_, .f32⟩
  | 101 => ⟨S8x4096x1024, .f32⟩
  | 102 => ⟨S8x4096x1024, .f32⟩
  | 103 => ⟨S_, .f32⟩
  | 104 => ⟨S8x4096x1024, .f32⟩
  | 105 => ⟨S8x4096x1024, .f32⟩
  | 106 => ⟨S8x4096x1024, .f32⟩
  | 107 => ⟨S8x4096x1024, .f32⟩
  | 108 => ⟨S32768x1024, .f32⟩
  | 109 => ⟨S32768x1024, .bf16⟩
  | _ => ⟨S32768x4096, .f32⟩

abbrev hbmTy (i : Nat) : BufTy := match i / 128 with
  | 0 => hbmTy0_0 i
  | 1 => hbmTy0_1 i
  | _ => ⟨S32768x4096, .f32⟩

abbrev bufTy : (tb : Table) → Fin (tcTables nBuf tb) → BufTy
  | .hbm, ⟨i, _⟩ => hbmTy i
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_call0_cst : Ref sig .tc := ⟨.hbm, 25, rfl⟩
abbrev main_call0_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_v0 : Ref sig .tc := ⟨.hbm, 45, rfl⟩
abbrev main_call2_call0_cst : Ref sig .tc := ⟨.hbm, 46, rfl⟩
abbrev main_call2_call0_v0 : Ref sig .tc := ⟨.hbm, 47, rfl⟩
abbrev main_call2_call0_v1 : Ref sig .tc := ⟨.hbm, 48, rfl⟩
abbrev main_call2_call0_v2 : Ref sig .tc := ⟨.hbm, 49, rfl⟩
abbrev main_call2_call0_v3 : Ref sig .tc := ⟨.hbm, 50, rfl⟩
abbrev main_call2_call0_v4 : Ref sig .tc := ⟨.hbm, 51, rfl⟩
abbrev main_call2_call0_v5 : Ref sig .tc := ⟨.hbm, 52, rfl⟩
abbrev main_call2_call0_v6 : Ref sig .tc := ⟨.hbm, 53, rfl⟩
abbrev main_call2_call0_v7 : Ref sig .tc := ⟨.hbm, 54, rfl⟩
abbrev main_call2_call0_v8 : Ref sig .tc := ⟨.hbm, 55, rfl⟩
abbrev main_call2_call0_v9 : Ref sig .tc := ⟨.hbm, 56, rfl⟩
abbrev main_call2_call0_v10 : Ref sig .tc := ⟨.hbm, 57, rfl⟩
abbrev main_call2_call0_v11 : Ref sig .tc := ⟨.hbm, 58, rfl⟩
abbrev main_call2_v1 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_2 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_3 : Ref sig .tc := ⟨.hbm, 84, rfl⟩
abbrev main_v51 : Ref sig .tc := ⟨.hbm, 85, rfl⟩
abbrev main_v52 : Ref sig .tc := ⟨.hbm, 86, rfl⟩
abbrev main_cst_4 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call3_call0_cst : Ref sig .tc := ⟨.hbm, 101, rfl⟩
abbrev main_call3_call0_v0 : Ref sig .tc := ⟨.hbm, 102, rfl⟩
abbrev main_v66 : Ref sig .tc := ⟨.hbm, 103, rfl⟩
abbrev main_c : Ref sig .tc := ⟨.hbm, 104, rfl⟩
abbrev main_v67 : Ref sig .tc := ⟨.hbm, 105, rfl⟩
abbrev main_call4_v0 : Ref sig .tc := ⟨.hbm, 106, rfl⟩
abbrev main_call4_c : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_c_0 : Ref sig .tc := ⟨.hbm, 112, rfl⟩
abbrev main_call4_v5 : Ref sig .tc := ⟨.hbm, 113, rfl⟩
abbrev main_v68 : Ref sig .tc := ⟨.hbm, 114, rfl⟩
abbrev main_v69 : Ref sig .tc := ⟨.hbm, 115, rfl⟩
abbrev main_cst_5 : Ref sig .tc := ⟨.hbm, 116, rfl⟩
abbrev main_v70 : Ref sig .tc := ⟨.hbm, 117, rfl⟩
abbrev main_cst_6 : Ref sig .tc := ⟨.hbm, 118, rfl⟩
abbrev main_v71 : Ref sig .tc := ⟨.hbm, 119, rfl⟩
abbrev main_c_7 : Ref sig .tc := ⟨.hbm, 120, rfl⟩
abbrev main_v72_0 : Ref sig .tc := ⟨.hbm, 121, rfl⟩
abbrev main_v72_1 : Ref sig .tc := ⟨.hbm, 122, rfl⟩
abbrev main_v72_2 : Ref sig .tc := ⟨.hbm, 123, rfl⟩
abbrev main_v72_3 : Ref sig .tc := ⟨.hbm, 124, rfl⟩
abbrev main_v72_4 : Ref sig .tc := ⟨.hbm, 125, rfl⟩
abbrev main_v72_5 : Ref sig .tc := ⟨.hbm, 126, rfl⟩
abbrev main_v72_6 : Ref sig .tc := ⟨.hbm, 127, rfl⟩
abbrev main_v72_7 : Ref sig .tc := ⟨.hbm, 128, rfl⟩
abbrev main_while0c_c_18 : Ref sig .tc := ⟨.hbm, 129, rfl⟩
abbrev main_while0c_v95 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_c_2 : Ref sig .tc := ⟨.hbm, 134, rfl⟩
abbrev main_while0b_call5_v0 : Ref sig .tc := ⟨.hbm, 135, rfl⟩
abbrev main_while0b_v95 : Ref sig .tc := ⟨.hbm, 136, rfl⟩
abbrev main_while0b_call6_c : Ref sig .tc := ⟨.hbm, 137, rfl⟩
abbrev main_while0b_call6_c_0 : Ref sig .tc := ⟨.hbm, 138, rfl⟩
abbrev main_while0b_call6_c_1 : Ref sig .tc := ⟨.hbm, 139, rfl⟩
abbrev main_while0b_call6_c_2 : Ref sig .tc := ⟨.hbm, 140, rfl⟩
abbrev main_while0b_call6_v0 : Ref sig .tc := ⟨.hbm, 141, rfl⟩
abbrev main_while0b_v96 : Ref sig .tc := ⟨.hbm, 142, rfl⟩
abbrev main_while0b_call7_c : Ref sig .tc := ⟨.hbm, 143, rfl⟩
abbrev main_while0b_call7_c_0 : Ref sig .tc := ⟨.hbm, 144, rfl⟩
abbrev main_while0b_call7_c_1 : Ref sig .tc := ⟨.hbm, 145, rfl⟩
abbrev main_while0b_call7_c_2 : Ref sig .tc := ⟨.hbm, 146, rfl⟩
abbrev main_while0b_call7_v0 : Ref sig .tc := ⟨.hbm, 147, rfl⟩
abbrev main_while0b_v97 : Ref sig .tc := ⟨.hbm, 148, rfl⟩
abbrev main_while0b_call8_c : Ref sig .tc := ⟨.hbm, 149, rfl⟩
abbrev main_while0b_call8_c_0 : Ref sig .tc := ⟨.hbm, 150, rfl⟩
abbrev main_while0b_call8_c_1 : Ref sig .tc := ⟨.hbm, 151, rfl⟩
abbrev main_while0b_call8_c_2 : Ref sig .tc := ⟨.hbm, 152, rfl⟩
abbrev main_while0b_call8_v0 : Ref sig .tc := ⟨.hbm, 153, rfl⟩
abbrev main_while0b_v98 : Ref sig .tc := ⟨.hbm, 154, rfl⟩
abbrev main_while0b_v99 : Ref sig .tc := ⟨.hbm, 155, rfl⟩
abbrev main_while0b_v100 : Ref sig .tc := ⟨.hbm, 156, rfl⟩
abbrev main_while0b_v101 : Ref sig .tc := ⟨.hbm, 157, rfl⟩
abbrev main_while0b_v102 : Ref sig .tc := ⟨.hbm, 158, rfl⟩
abbrev main_while0b_v103 : Ref sig .tc := ⟨.hbm, 159, rfl⟩
abbrev main_while0b_cst_18 : Ref sig .tc := ⟨.hbm, 160, rfl⟩
abbrev main_while0b_call9_v0 : Ref sig .tc := ⟨.hbm, 161, rfl⟩
abbrev main_while0b_call9_v1 : Ref sig .tc := ⟨.hbm, 162, rfl⟩
abbrev main_while0b_call9_v2 : Ref sig .tc := ⟨.hbm, 163, rfl⟩
abbrev main_while0b_v104 : Ref sig .tc := ⟨.hbm, 164, rfl⟩
abbrev main_while0b_v105 : Ref sig .tc := ⟨.hbm, 165, rfl⟩
abbrev main_while0b_cst_19 : Ref sig .tc := ⟨.hbm, 166, rfl⟩
abbrev main_while0b_call10_v0 : Ref sig .tc := ⟨.hbm, 167, rfl⟩
abbrev main_while0b_call10_v1 : Ref sig .tc := ⟨.hbm, 168, rfl⟩
abbrev main_while0b_call10_v2 : Ref sig .tc := ⟨.hbm, 169, rfl⟩
abbrev main_while0b_v106 : Ref sig .tc := ⟨.hbm, 170, rfl⟩
abbrev main_while0b_v107 : Ref sig .tc := ⟨.hbm, 171, rfl⟩
abbrev main_while0b_v108 : Ref sig .tc := ⟨.hbm, 172, rfl⟩
abbrev main_while0b_v109 : Ref sig .tc := ⟨.hbm, 173, rfl⟩
abbrev main_while0b_v110 : Ref sig .tc := ⟨.hbm, 174, rfl⟩
abbrev main_while0b_v111 : Ref sig .tc := ⟨.hbm, 175, rfl⟩
abbrev main_while0b_v112 : Ref sig .tc := ⟨.hbm, 176, rfl⟩
abbrev main_while0b_cst_20 : Ref sig .tc := ⟨.hbm, 177, rfl⟩
abbrev main_while0b_v113 : Ref sig .tc := ⟨.hbm, 178, rfl⟩
abbrev main_while0b_v114 : Ref sig .tc := ⟨.hbm, 179, rfl⟩
abbrev main_while0b_v115 : Ref sig .tc := ⟨.hbm, 180, rfl⟩
abbrev main_while0b_v116 : Ref sig .tc := ⟨.hbm, 181, rfl⟩
abbrev main_while0b_v117 : Ref sig .tc := ⟨.hbm, 182, rfl⟩
abbrev main_while0b_v118 : Ref sig .tc := ⟨.hbm, 183, rfl⟩
abbrev main_while0b_v119 : Ref sig .tc := ⟨.hbm, 184, rfl⟩
abbrev main_while0b_v120 : Ref sig .tc := ⟨.hbm, 185, rfl⟩
abbrev main_while0b_v121 : Ref sig .tc := ⟨.hbm, 186, rfl⟩
abbrev main_while0b_v122 : Ref sig .tc := ⟨.hbm, 187, rfl⟩
abbrev main_while0b_v123 : Ref sig .tc := ⟨.hbm, 188, rfl⟩
abbrev main_while0b_v124 : Ref sig .tc := ⟨.hbm, 189, rfl⟩
abbrev main_while0b_v125 : Ref sig .tc := ⟨.hbm, 190, rfl⟩
abbrev main_while0b_v126 : Ref sig .tc := ⟨.hbm, 191, rfl⟩
abbrev main_while0b_v127 : Ref sig .tc := ⟨.hbm, 192, rfl⟩
abbrev main_while0b_v128 : Ref sig .tc := ⟨.hbm, 193, rfl⟩
abbrev main_while0b_v129 : Ref sig .tc := ⟨.hbm, 194, rfl⟩
abbrev main_while0b_v130 : Ref sig .tc := ⟨.hbm, 195, rfl⟩
abbrev main_while0b_v131 : Ref sig .tc := ⟨.hbm, 196, rfl⟩
abbrev main_while0b_call11_v0 : Ref sig .tc := ⟨.hbm, 197, rfl⟩
abbrev main_while0b_call11_c : Ref sig .tc := ⟨.hbm, 198, rfl⟩
abbrev main_while0b_call11_c_0 : Ref sig .tc := ⟨.hbm, 199, rfl⟩
abbrev main_while0b_call11_c_1 : Ref sig .tc := ⟨.hbm, 200, rfl⟩
abbrev main_while0b_call11_c_2 : Ref sig .tc := ⟨.hbm, 201, rfl⟩
abbrev main_while0b_v132 : Ref sig .tc := ⟨.hbm, 202, rfl⟩
abbrev main_while0b_c_21 : Ref sig .tc := ⟨.hbm, 203, rfl⟩
abbrev main_while0b_v133 : Ref sig .tc := ⟨.hbm, 204, rfl⟩
abbrev main_v73 : Ref sig .tc := ⟨.hbm, 205, rfl⟩
abbrev main_v74 : Ref sig .tc := ⟨.hbm, 206, rfl⟩
abbrev main_v75 : Ref sig .tc := ⟨.hbm, 207, rfl⟩
abbrev main_cst_8 : Ref sig .tc := ⟨.hbm, 208, rfl⟩
abbrev main_v76 : Ref sig .tc := ⟨.hbm, 209, rfl⟩
abbrev main_v77 : Ref sig .tc := ⟨.hbm, 210, rfl⟩
abbrev main_cst_9 : Ref sig .tc := ⟨.hbm, 211, rfl⟩
abbrev main_v78 : Ref sig .tc := ⟨.hbm, 212, rfl⟩
abbrev main_v79 : Ref sig .tc := ⟨.hbm, 213, rfl⟩
abbrev main_cst_10 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_v84 : Ref sig .tc := ⟨.hbm, 219, rfl⟩
abbrev main_v85 : Ref sig .tc := ⟨.hbm, 220, rfl⟩
abbrev main_v86 : Ref sig .tc := ⟨.hbm, 221, rfl⟩
abbrev main_v87 : Ref sig .tc := ⟨.hbm, 222, rfl⟩
abbrev main_v88 : Ref sig .tc := ⟨.hbm, 223, rfl⟩
abbrev main_v89 : Ref sig .tc := ⟨.hbm, 224, rfl⟩
abbrev main_v90 : Ref sig .tc := ⟨.hbm, 225, rfl⟩
abbrev main_call12_v0 : Ref sig .tc := ⟨.hbm, 226, rfl⟩
abbrev main_call12_v1 : Ref sig .tc := ⟨.hbm, 227, rfl⟩
abbrev main_call12_cst : Ref sig .tc := ⟨.hbm, 228, rfl⟩
abbrev main_call12_v2 : Ref sig .tc := ⟨.hbm, 229, rfl⟩
abbrev main_call12_v3 : Ref sig .tc := ⟨.hbm, 230, rfl⟩
abbrev main_call12_cst_0 : Ref sig .tc := ⟨.hbm, 231, rfl⟩
abbrev main_call12_v4 : Ref sig .tc := ⟨.hbm, 232, rfl⟩
abbrev main_call12_v5 : Ref sig .tc := ⟨.hbm, 233, rfl⟩
abbrev main_v91 : Ref sig .tc := ⟨.hbm, 234, rfl⟩
abbrev main_v92 : Ref sig .tc := ⟨.hbm, 235, rfl⟩
abbrev main_v93 : Ref sig .tc := ⟨.hbm, 236, rfl⟩
abbrev main_v94 : Ref sig .tc := ⟨.hbm, 237, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S8x3072 : Shape := ⟨2, ![8, 3072]⟩
abbrev S1024 : Shape := ⟨1, ![1024]⟩
abbrev S1024x8192 : Shape := ⟨2, ![1024, 8192]⟩
abbrev S32768x1024 : Shape := ⟨2, ![32768, 1024]⟩
abbrev S1024x1024 : Shape := ⟨2, ![1024, 1024]⟩
abbrev S_ : Shape := ⟨0, ![]⟩
abbrev S8x1x3072 : Shape := ⟨3, ![8, 1, 3072]⟩
abbrev S1x1024 : Shape := ⟨2, ![1, 1024]⟩
abbrev S32768x4096 : Shape := ⟨2, ![32768, 4096]⟩
abbrev S1x1x3072 : Shape := ⟨3, ![1, 1, 3072]⟩
abbrev S1024x2048 : Shape := ⟨2, ![1024, 2048]⟩
abbrev S1024x1 : Shape := ⟨2, ![1024, 1]⟩
abbrev S1x1x1024 : Shape := ⟨3, ![1, 1, 1024]⟩

abbrev nBuf : Space → Nat
  | .hbm => 22
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S1024x8192, .f32⟩
  | .hbm, ⟨4, _⟩ => ⟨S32768x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x8192, .f32⟩
  | .hbm, ⟨17, _⟩ => ⟨S1024x8192, .bf16⟩
  | .hbm, ⟨18, _⟩ => ⟨S8x1x3072, .f32⟩
  | .hbm, ⟨19, _⟩ => ⟨S1x1024, .f32⟩
  | .hbm, ⟨20, _⟩ => ⟨S32768x4096, .f32⟩
  | .hbm, ⟨21, _⟩ => ⟨S32768x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | .local _ .vmem, ⟨10, _⟩ => ⟨S1024x2048, .bf16⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x1024 : Shape := ⟨3, ![8, 4096, 1024]⟩
abbrev S8x3072 : Shape := ⟨2, ![8, 3072]⟩
abbrev S1024 : Shape := ⟨1, ![1024]⟩
abbrev S1024x8192 : Shape := ⟨2, ![1024, 8192]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x8192 : Shape := ⟨3, ![8, 4096, 8192]⟩
abbrev S8x4096x4096 : Shape := ⟨3, ![8, 4096, 4096]⟩
abbrev S32768x4096 : Shape := ⟨2, ![32768, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S1024x8192, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x8192, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S8x4096x4096, .f32⟩
  | .hbm, ⟨45, _⟩ => ⟨S8x4096x4096, .f32⟩
  | .hbm, ⟨46, _⟩ => ⟨S32768x4096, .f32⟩
  | .hbm, ⟨47, _⟩ => ⟨S32768x4096, .f32⟩
  | .hbm, ⟨48, _⟩ => ⟨S32768x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Kernel3.lean ====
abbrev S32768x1024 : Shape := ⟨2, ![32768, 1024]⟩
abbrev S2048x1024 : Shape := ⟨2, ![2048, 1024]⟩
abbrev S8x4096x1024 : Shape := ⟨3, ![8, 4096, 1024]⟩
abbrev S8x3072 : Shape := ⟨2, ![8, 3072]⟩
abbrev S1024 : Shape := ⟨1, ![1024]⟩
abbrev S8x1x3072 : Shape := ⟨3, ![8, 1, 3072]⟩
abbrev S1x1024 : Shape := ⟨2, ![1, 1024]⟩
abbrev S512x1024 : Shape := ⟨2, ![512, 1024]⟩
abbrev S1x1x3072 : Shape := ⟨3, ![1, 1, 3072]⟩
abbrev S1024x1024 : Shape := ⟨2, ![1024, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x1024, .f32⟩
  | .hbm, ⟨3, _⟩ => ⟨S8x4096x1024, .f32⟩
  | .hbm, ⟨4, _⟩ => ⟨S8x3072, .f32⟩
  | .hbm, ⟨5, _⟩ => ⟨S1024, .f32⟩
  | .hbm, ⟨6, _⟩ => ⟨S2048x1024, .bf16⟩
  | .hbm, ⟨7, _⟩ => ⟨S32768x1024, .f32⟩
  | .hbm, ⟨8, _⟩ => ⟨S8x1x3072, .f32⟩
  | .hbm, ⟨9, _⟩ => ⟨S1x1024, .f32⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1x3072, .f32⟩
  | .local _ .vmem, ⟨8, _⟩ => ⟨S1x1x3072, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S2048x1024 : Shape := ⟨2, ![2048, 1024]⟩
abbrev S8x4096x1024 : Shape := ⟨3, ![8, 4096, 1024]⟩
abbrev S8x3072 : Shape := ⟨2, ![8, 3072]⟩
abbrev S1024 : Shape := ⟨1, ![1024]⟩
abbrev S8x1024 : Shape := ⟨2, ![8, 1024]⟩
abbrev S8x4096x2048 : Shape := ⟨3, ![8, 4096, 2048]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x1024, .f32⟩
  | .hbm, ⟨3, _⟩ => ⟨S8x4096x1024, .f32⟩
  | .hbm, ⟨4, _⟩ => ⟨S8x3072, .f32⟩
  | .hbm, ⟨5, _⟩ => ⟨S1024, .f32⟩
  | .hbm, ⟨6, _⟩ => ⟨S32768x1024, .f32⟩
  | .hbm, ⟨7, _⟩ => ⟨S8x4096x1024, .f32⟩
  | .hbm, ⟨8, _⟩ => ⟨S32768x1024, .f32⟩
  | .hbm, ⟨9, _⟩ => ⟨S8x4096x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4096x2048, .f32⟩
  | .hbm, ⟨14, _⟩ => ⟨S8x4096x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel4.lean ====
abbrev S32768x1024 : Shape := ⟨2, ![32768, 1024]⟩
abbrev S2048x1024 : Shape := ⟨2, ![2048, 1024]⟩
abbrev S8x4096x1024 : Shape := ⟨3, ![8, 4096, 1024]⟩
abbrev S8x3072 : Shape := ⟨2, ![8, 3072]⟩
abbrev S1024 : Shape := ⟨1, ![1024]⟩
abbrev S8x1x3072 : Shape := ⟨3, ![8, 1, 3072]⟩
abbrev S1x1024 : Shape := ⟨2, ![1, 1024]⟩
abbrev S512x1024 : Shape := ⟨2, ![512, 1024]⟩
abbrev S1x1x3072 : Shape := ⟨3, ![1, 1, 3072]⟩
abbrev S1024x1024 : Shape := ⟨2, ![1024, 1024]⟩
abbrev S1x1x1024 : Shape := ⟨3, ![1, 1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x1024, .f32⟩
  | .hbm, ⟨3, _⟩ => ⟨S8x4096x1024, .f32⟩
  | .hbm, ⟨4, _⟩ => ⟨S8x3072, .f32⟩
  | .hbm, ⟨5, _⟩ => ⟨S1024, .f32⟩
  | .hbm, ⟨6, _⟩ => ⟨S2048x1024, .bf16⟩
  | .hbm, ⟨7, _⟩ => ⟨S32768x1024, .f32⟩
  | .hbm, ⟨8, _⟩ => ⟨S8x1x3072, .f32⟩
  | .hbm, ⟨9, _⟩ => ⟨S1x1024, .f32⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1x3072, .f32⟩
  | .local _ .vmem, ⟨8, _⟩ => ⟨S1x1x3072, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x1024 : Shape := ⟨2, ![32768, 1024]⟩
abbrev S2048x1024 : Shape := ⟨2, ![2048, 1024]⟩
abbrev S8x4096x1024 : Shape := ⟨3, ![8, 4096, 1024]⟩
abbrev S8x3072 : Shape := ⟨2, ![8, 3072]⟩
abbrev S1024 : Shape := ⟨1, ![1024]⟩
abbrev S8x1024 : Shape := ⟨2, ![8, 1024]⟩
abbrev S8x4096x2048 : Shape := ⟨3, ![8, 4096, 2048]⟩
abbrev S8x1x1024 : Shape := ⟨3, ![8, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x1024, .f32⟩
  | .hbm, ⟨3, _⟩ => ⟨S8x4096x1024, .f32⟩
  | .hbm, ⟨4, _⟩ => ⟨S8x3072, .f32⟩
  | .hbm, ⟨5, _⟩ => ⟨S1024, .f32⟩
  | .hbm, ⟨6, _⟩ => ⟨S32768x1024, .f32⟩
  | .hbm, ⟨7, _⟩ => ⟨S8x4096x1024, .f32⟩
  | .hbm, ⟨8, _⟩ => ⟨S32768x1024, .f32⟩
  | .hbm, ⟨9, _⟩ => ⟨S8x4096x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4096x2048, .f32⟩
  | .hbm, ⟨14, _⟩ => ⟨S8x4096x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S8x1024 : Shape := ⟨2, ![8, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S1x8x3072 : Shape := ⟨3, ![1, 8, 3072]⟩
abbrev S2x8x3072 : Shape := ⟨3, ![2, 8, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x3072, .f32⟩
  | .hbm, ⟨13, _⟩ => ⟨S1024x3072, .f32⟩
  | .hbm, ⟨14, _⟩ => ⟨S8x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8x3072, .f32⟩
  | .hbm, ⟨19, _⟩ => ⟨S8x3072, .f32⟩
  | .hbm, ⟨20, _⟩ => ⟨S1x1024x3072, .f32⟩
  | .hbm, ⟨21, _⟩ => ⟨S1024x3072, .f32⟩
  | .hbm, ⟨22, _⟩ => ⟨S8x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S8x3072, .f32⟩
  | .hbm, ⟨27, _⟩ => ⟨S8x3072, .f32⟩
  | .hbm, ⟨28, _⟩ => ⟨S1x8x3072, .f32⟩
  | .hbm, ⟨29, _⟩ => ⟨S1x8x3072, .f32⟩
  | .hbm, ⟨30, _⟩ => ⟨S2x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Hold.lean ====
/-
  The frame run of the recurrence kernel's body, at any reading of the floats: the body runs to its end whatever its
  buffers hold, gives every input buffer back as it was, and the output and the scratch at some contents. The counted
  loop's invariant says only that the buffers are held; each of the two branches of a trip is gone through once.
-/
module

public import proofs.«01_k».proof.Proof.Gen.KernelIdeal.Loops
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- What the loop holds at every trip: the input buffers as they are, the others at some contents. -/
def held (c : Dev nD) (arg3 : Memref sig .tc .vmem S4096x256 .f32) (arg4 : Memref sig .tc .vmem S4096x256 .f32) (arg5 : Memref sig .tc .vmem S4096x256 .bf16) (arg6 : Memref sig .tc .vmem S4096x256 .f32) (arg7 : Memref sig .tc .vmem S2x256 .f32) (arg8 : Memref sig .tc .vmem S1x128 .f32) (arg9 : Memref sig .tc .vmem S384x128 .bf16) (arg10 : Memref sig .tc .vmem S128x128 .i32) (arg11 : Memref sig .tc .vmem S4096x256 .bf16) (arg12 : Memref sig .tc .vmem S2x128x128 .f32) (arg13 : Memref sig .tc .vmem S384x512 .f32) (arg14 : Memref sig .tc .vmem S2x128x256 .bf16) (arg15 : Memref sig .tc .vmem S2x128x256 .bf16) (arg16 : Memref sig .tc .vmem S2x128x512 .bf16) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16)))

set_option maxHeartbeats 4000000 in
/-- The counted loop's invariant: the buffers are held. One trip runs whichever branch the carried word chooses. -/
@[sl_loop] noncomputable def loopHeld (c : Dev nD) (i : grid0.Coords) (arg3 : Memref sig .tc .vmem S4096x256 .f32) (harg3 : arg3.IsWhole) (arg4 : Memref sig .tc .vmem S4096x256 .f32) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S2x256 .f32) (harg7 : arg7.IsWhole) (arg8 : Memref sig .tc .vmem S1x128 .f32) (harg8 : arg8.IsWhole) (arg9 : Memref sig .tc .vmem S384x128 .bf16) (harg9 : arg9.IsWhole) (arg10 : Memref sig .tc .vmem S128x128 .i32) (harg10 : arg10.IsWhole) (arg11 : Memref sig .tc .vmem S4096x256 .bf16) (harg11 : arg11.IsWhole) (arg12 : Memref sig .tc .vmem S2x128x128 .f32) (harg12 : arg12.IsWhole) (arg13 : Memref sig .tc .vmem S384x512 .f32) (harg13 : arg13.IsWhole) (arg14 : Memref sig .tc .vmem S2x128x256 .bf16) (harg14 : arg14.IsWhole) (arg15 : Memref sig .tc .vmem S2x128x256 .bf16) (harg15 : arg15.IsWhole) (arg16 : Memref sig .tc .vmem S2x128x512 .bf16) (harg16 : arg16.IsWhole) (v13 : FVec F S1x256 .f32) (v14 : FVec F S1x256 .f32) (v17 : FVec F S1x256 .f32) (v19 : FVec F S1x256 .f32) (v21 : FVec F S1x128 .f32) (v29 : FVec F S128x128 .f32) (v36 : FVec F S128x128 .f32) (v43 : FVec F S128x128 .f32) (v50 : FVec F S128x128 .f32) (v55 : IVec S128x256 1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : BitVec 32) :
    Cert.KernelIdeal.Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 init where
  inv := fun k acc => held c arg3 arg4 arg5 arg6 arg7 arg8 arg9 arg10 arg11 arg12 arg13 arg14 arg15 arg16 f3 f4 f5 f6 f7 f8 f9 f10
  step := fun k acc => by
    unfold held k0_t1_body
    dsimp only
    iintro ⟨H3, H4, H5, H6, H7, H8, H9, H10, ⟨%f11, H11⟩, ⟨%f12, H12⟩, ⟨%f13, H13⟩, ⟨%f14, H14⟩, ⟨%f15, H15⟩, ⟨%f16, H16⟩⟩
    rcases Classical.em (Scalar.cmpi .ne (Scalar.extui (Scalar.cmpi .eq acc 1#32) : BitVec 32) 0#32 = 1#1) with hc | hc
    · rw [if_pos hc]
      sl_exec_parts
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16
    · rw [if_neg hc]
      sl_exec_parts
      sl_step
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16

set_option maxHeartbeats 4000000 in
/-- The body's triple: from the inputs at their contents and the rest at anything, back to the same. -/
theorem body_held (c : Dev nD) (i : grid0.Coords) (arg3 : Memref sig .tc .vmem S4096x256 .f32) (harg3 : arg3.IsWhole) (arg4 : Memref sig .tc .vmem S4096x256 .f32) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S2x256 .f32) (harg7 : arg7.IsWhole) (arg8 : Memref sig .tc .vmem S1x128 .f32) (harg8 : arg8.IsWhole) (arg9 : Memref sig .tc .vmem S384x128 .bf16) (harg9 : arg9.IsWhole) (arg10 : Memref sig .tc .vmem S128x128 .i32) (harg10 : arg10.IsWhole) (arg11 : Memref sig .tc .vmem S4096x256 .bf16) (harg11 : arg11.IsWhole) (arg12 : Memref sig .tc .vmem S2x128x128 .f32) (harg12 : arg12.IsWhole) (arg13 : Memref sig .tc .vmem S384x512 .f32) (harg13 : arg13.IsWhole) (arg14 : Memref sig .tc .vmem S2x128x256 .bf16) (harg14 : arg14.IsWhole) (arg15 : Memref sig .tc .vmem S2x128x256 .bf16) (harg15 : arg15.IsWhole) (arg16 : Memref sig .tc .vmem S2x128x512 .bf16) (harg16 : arg16.IsWhole) (x3 : Vec F S4096x256 .f32) (x4 : Vec F S4096x256 .f32) (x5 : Vec F S4096x256 .bf16) (x6 : Vec F S4096x256 .f32) (x7 : Vec F S2x256 .f32) (x8 : Vec F S1x128 .f32) (x9 : Vec F S384x128 .bf16) (x10 : Vec F S128x128 .i32) :
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) Set.univ (cc0_hgrn2 i arg3 harg3 arg4 harg4 arg5 harg5 arg6 harg6 arg7 harg7 arg8 harg8 arg9 harg9 arg10 harg10 arg11 harg11 arg12 harg12 arg13 harg13 arg14 harg14 arg15 harg15 arg16 harg16) K := by
    intro K
    sl_unfold [cc0_hgrn2]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    rcases Classical.em ((Scalar.cmpi .ne (Scalar.extui (Scalar.cmpi .eq (BitVec.ofNat 32 (i 2).val) 0#32) : BitVec 32) 0#32) = 1#1) with hc | hc
    · sl_exec_parts (disch := sl_exact hc)
      sl_step
      iapply Hk
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      · iexists _, _; isplitr; swap; · iexact H16
        ipureintro; rfl
    · sl_exec_parts (disch := sl_exact hc)
      sl_step
      iapply Hk
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      · iexists _, _; isplitr; swap; · iexact H16
        ipureintro; rfl

end Cert.Proof.KernelIdeal

end
-- ==== Proof.Launch1.lean ====
/-
  The launch of the recurrence kernel: the body's triple at every grid point, the pipeline's proof data with the output
  forgotten, and the frame claim it gives.
-/
module

public import proofs.«01_k».proof.Proof.Hold

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window's contents are not named. -/
def loose : Fin 9 → Bool := fun w => w.val == 8

/-- The proof data: the arrays as the region finds them, each input's buffer at its block, the output's at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The proof data's arrays are those of the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))

/-- What it hands back. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (st0_8 t) fullShare d))

/-- The region's invariant, scratch by scratch, over memrefs. -/
theorem phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA
  rw [scopedRest0_eq]
  simp only [owns_whole]
  try rfl

set_option maxHeartbeats 1200000 in
/-- The body at any point of the grid. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, phi_eq]
  rw [show (dats m 0 c).leavesExact 0 t = owns (c : Thread nD τ) (st0_0 t) fullShare ((dats m 0 c).after 0 t) from by
      unfold Dat.leavesExact; rw [show cfg0.idle 0 (cfg0.grid.coords t) = false from rfl], after_0]
  rw [show (dats m 0 c).leavesExact 1 t = owns (c : Thread nD τ) (st0_1 t) fullShare ((dats m 0 c).after 1 t) from by
      unfold Dat.leavesExact; rw [show cfg0.idle 1 (cfg0.grid.coords t) = false from rfl], after_1]
  rw [show (dats m 0 c).leavesExact 2 t = owns (c : Thread nD τ) (st0_2 t) fullShare ((dats m 0 c).after 2 t) from by
      unfold Dat.leavesExact; rw [show cfg0.idle 2 (cfg0.grid.coords t) = false from rfl], after_2]
  rw [show (dats m 0 c).leavesExact 3 t = owns (c : Thread nD τ) (st0_3 t) fullShare ((dats m 0 c).after 3 t) from by
      unfold Dat.leavesExact; rw [show cfg0.idle 3 (cfg0.grid.coords t) = false from rfl], after_3]
  rw [show (dats m 0 c).leavesExact 4 t = owns (c : Thread nD τ) (st0_4 t) fullShare ((dats m 0 c).after 4 t) from by
      unfold Dat.leavesExact; rw [show cfg0.idle 4 (cfg0.grid.coords t) = false from rfl], after_4]
  rw [show (dats m 0 c).leavesExact 5 t = owns (c : Thread nD τ) (st0_5 t) fullShare ((dats m 0 c).after 5 t) from by
      unfold Dat.leavesExact; rw [show cfg0.idle 5 (cfg0.grid.coords t) = false from rfl], after_5]
  rw [show (dats m 0 c).leavesExact 6 t = owns (c : Thread nD τ) (st0_6 t) fullShare ((dats m 0 c).after 6 t) from by
      unfold Dat.leavesExact; rw [show cfg0.idle 6 (cfg0.grid.coords t) = false from rfl], after_6]
  rw [show (dats m 0 c).leavesExact 7 t = owns (c : Thread nD τ) (st0_7 t) fullShare ((dats m 0 c).after 7 t) from by
      unfold Dat.leavesExact; rw [show cfg0.idle 7 (cfg0.grid.coords t) = false from rfl], after_7]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_held c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  iintro ⟨H0, H1, H2, H3, H4, H5, H6, H7, H8, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ loose := fun t => by
  rw [bigSep_W0, bigSep_W0, row_eq]
  exact triple_restated (body_sound m c t) rfl .rfl fun _ => .rfl

set_option backward.isDefEq.respectTransparency.types false in
/-- The launch: the run ends with the input arrays unchanged and every counter at zero. -/
theorem run_quiescent : θ_run defs (onTc (τ := τ) (main (F := F))) (s₀ m ρ) (fun r => (Pipeline.RDat.FramePost (cfgs 0) (fun c => (dats m 0 c).toRForget loose) (V m)) r ∧ r.2.sem = fun _ => 0) :=
  Pipeline.θ_run_frame_forget_shared (Q' := _) cfgs (dats m) (0 : Fin 1) launch₀0 defs₀ Variants.none loose m ρ main
    (hbody := fun c => (obligation m c).loose) (hq := fun _ _ _ => rfl)
    (howed := fun _ _ => rfl) (V := V m) (hmain := hmain m Variants.none) (hA := A_eq m) (hΦ := fun _ _ => rfl)

/-- The frame claim's post, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have inp (c : Dev nD) (w : Fin 9) (hw : loose w = false) (hi : (cfg0.win w).isOut = false) {a}
      (h : ((dats m 0 c).toRForget loose).ArrAt w cfg0.N a) : a = V m c (Pipeline.arrRef spec0 w) :=
    (((dats m 0 c).toRForget_arrAt_iff hw _ _).mp h).trans (((dats m 0 c).arrAt_in w hi _).trans (A_eq m c w))
  exact (θ_run defs _ _).mono (fun _ h => ⟨fun c =>
    ⟨(inp c 3 rfl rfl ((h.1 c).1 3)).trans (V_main_arg0 m c),
      (inp c 2 rfl rfl ((h.1 c).1 2)).trans (V_main_arg1 m c),
      (inp c 4 rfl rfl ((h.1 c).1 4)).trans (V_main_arg2 m c),
      ((h.1 c).2 main_arg3 (Pipeline.mem_restRefs_of main_arg3 (by decide) (by decide))).trans (V_main_arg3 m c)⟩,
    h.2⟩) (run_quiescent m ρ)

end Cert.Proof.KernelIdeal

end
-- ==== Proof.InBody.lean ====
/-
  The input projection's body, case by case: the first column block normalises and modulates the rows into the scratch
  buffer; the first two column blocks are stored at full width, the last two narrowed.
-/
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2
public import Idealize.ShloMosaic.Lib.Pipeline.ValueKit
public import proofs.«01_k».proof.Proof.Gen.Reference2Ideal.Run

@[expose] public section

set_option maxRecDepth 16384

noncomputable section

namespace Cert.Proof.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shift's columns of the modulation row. -/
abbrev rShift : Rect S1x1x3072 := Rect.unit (s := S1x1x3072) ![0, 0, 0] S1x1x1024.size inb_S1x1x3072_S1x1x1024_0_0_0
/-- The scale's columns of the modulation row. -/
abbrev rScale : Rect S1x1x3072 := Rect.unit (s := S1x1x3072) ![0, 0, 1024] S1x1x1024.size inb_S1x1x3072_S1x1x1024_0_0_1024

/-- The normalised and modulated rows of one row block. -/
def rowsOf (x : Vec F S1024x1024 .f32) (md : Vec F S1x1x3072 .f32) (g : Vec F S1x1024 .f32) : Vec F S1024x1024 .bf16 :=
  k0_pay1 x g (View.ld md rShift) (View.ld md rScale)

/-- The condition under which the rows are normalised. -/
abbrev first (i : grid0.Coords) : BitVec 1 := Scalar.cmpi .ne (Scalar.extui (Scalar.cmpi .eq (BitVec.ofNat 32 (i 1).val) 0#32) : BitVec 32) 0#32

set_option maxHeartbeats 1000000 in
/-- The first column block. -/
theorem body_first (c : Dev nD) (i : grid0.Coords) (hc1 : first i = 1#1) (hc2 : k0_cond2 i = 1#1) (hc3 : ¬ k0_cond3 i = 1#1)
    (arg2 : Memref sig .tc .vmem S1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1024x2048 .f32) (harg6 : arg6.IsWhole) (arg7 : Memref sig .tc .vmem S1024x2048 .bf16) (harg7 : arg7.IsWhole) (arg8 : Memref sig .tc .vmem S1024x1024 .bf16) (harg8 : arg8.IsWhole)
    (x : Vec F S1024x1024 .f32) (md : Vec F S1x1x3072 .f32) (g : Vec F S1x1024 .f32) (w : Vec F S1024x2048 .bf16) (K : PUnit → sProp 𝕄) :
    iprop(owns (c : Thread nD τ) arg2 fullShare x ∗ owns (c : Thread nD τ) arg3 fullShare md ∗ owns (c : Thread nD τ) arg4 fullShare g ∗ owns (c : Thread nD τ) arg5 fullShare w ∗ (∃ d, owns (c : Thread nD τ) arg6 fullShare d) ∗ (∃ d, owns (c : Thread nD τ) arg8 fullShare d)
        ∗ (iprop(owns (c : Thread nD τ) arg2 fullShare x ∗ owns (c : Thread nD τ) arg3 fullShare md ∗ owns (c : Thread nD τ) arg4 fullShare g ∗ owns (c : Thread nD τ) arg5 fullShare w ∗ owns (c : Thread nD τ) arg6 fullShare (k0_pay2 (rowsOf x md g) w) ∗ owns (c : Thread nD τ) arg8 fullShare (rowsOf x md g)) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%d6, %f6, -, H6⟩, Hk⟩
  subst hf0 hf1 hf2 hf3
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (View.cover_of_tiled _ S1024x2048.size (by rfl))]
    sl_unfold_words
    frame_out
    rfl
  iexists _; isplitr
  swap; · iexact H6
  ipureintro
  sl_unfold_words
  rw [View.read_writes_eq_canon _ _ _ (View.cover_of_tiled _ S1024x1024.size (by rfl))]
  frame_out
  rfl

set_option maxHeartbeats 1000000 in
/-- The second column block, at full width. -/
theorem body_second (c : Dev nD) (i : grid0.Coords) (hc1 : ¬ first i = 1#1) (hc2 : k0_cond2 i = 1#1) (hc3 : ¬ k0_cond3 i = 1#1)
    (arg2 : Memref sig .tc .vmem S1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1024x2048 .f32) (harg6 : arg6.IsWhole) (arg7 : Memref sig .tc .vmem S1024x2048 .bf16) (harg7 : arg7.IsWhole) (arg8 : Memref sig .tc .vmem S1024x1024 .bf16) (harg8 : arg8.IsWhole)
    (w : Vec F S1024x2048 .bf16) (h : Vec F S1024x1024 .bf16) (K : PUnit → sProp 𝕄) :
    iprop(owns (c : Thread nD τ) arg5 fullShare w ∗ (∃ d, owns (c : Thread nD τ) arg6 fullShare d) ∗ owns (c : Thread nD τ) arg8 fullShare h
        ∗ (iprop(owns (c : Thread nD τ) arg5 fullShare w ∗ owns (c : Thread nD τ) arg6 fullShare (k0_pay2 h w) ∗ owns (c : Thread nD τ) arg8 fullShare h) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f3, %hf3, H3⟩, ⟨%d4, %f4, -, H4⟩, ⟨%f6, %hf6, H6⟩, Hk⟩
  subst hf3 hf6
  sl_exec (disch := first | sl_exact hc1 | sl_exact hc2 | sl_exact hc3)
  sl_step
  iapply Hk
  isplitl [H3]
  · iexists f3; isplitr; · ipureintro; rfl
    iexact H3
  isplitl [H4]
  · iexists _; isplitr
    swap; · iexact H4
    ipureintro
    rw [View.read_writes_eq_canon _ _ _ (View.cover_of_tiled _ S1024x2048.size (by rfl))]
    sl_unfold_words
    frame_out
  iexists f6; isplitr; · ipureintro; rfl
  iexact H6

set_option maxHeartbeats 1000000 in
/-- The last two column blocks, narrowed. -/
theorem body_last (c : Dev nD) (i : grid0.Coords) (hc1 : ¬ first i = 1#1) (hc2 : ¬ k0_cond2 i = 1#1) (hc3 : k0_cond3 i = 1#1)
    (arg2 : Memref sig .tc .vmem S1024x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1024x2048 .f32) (harg6 : arg6.IsWhole) (arg7 : Memref sig .tc .vmem S1024x2048 .bf16) (harg7 : arg7.IsWhole) (arg8 : Memref sig .tc .vmem S1024x1024 .bf16) (harg8 : arg8.IsWhole)
    (w : Vec F S1024x2048 .bf16) (h : Vec F S1024x1024 .bf16) (K : PUnit → sProp 𝕄) :
    iprop(owns (c : Thread nD τ) arg5 fullShare w ∗ (∃ d, owns (c : Thread nD τ) arg7 fullShare d) ∗ owns (c : Thread nD τ) arg8 fullShare h
        ∗ (iprop(owns (c : Thread nD τ) arg5 fullShare w ∗ owns (c : Thread nD τ) arg7 fullShare (k0_pay3 h w) ∗ owns (c : Thread nD τ) arg8 fullShare h) -∗ K ⟨⟩))
      ⊢ wp frame (wpE (defs₀ (F := F)) Variants.none c none) Set.univ (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f3, %hf3, H3⟩, ⟨%d4, %f4, -, H4⟩, ⟨%f6, %hf6, H6⟩, Hk⟩
  subst hf3 hf6
  sl_exec (disch := first | sl_exact hc1 | sl_exact hc2 | sl_exact hc3)
  sl_step
  iapply Hk
  isplitl [H3]
  · iexists f3; isplitr; · ipureintro; rfl
    iexact H3
  isplitl [H4]
  · iexists _; isplitr
    swap; · iexact H4
    ipureintro
    rw [View.read_writes_eq_canon _ _ _ (View.cover_of_tiled _ S1024x2048.size (by rfl))]
    sl_unfold_words
    frame_out
  iexists f6; isplitr; · ipureintro; rfl
  iexact H6

end Cert.Proof.In
end
-- ==== Proof.InRun.lean ====
/-
  The input projection's launch: at every grid point the body's triple, with the normalised rows carried in the scratch
  buffer from a row block's first column block to its last; the run; the frame claim's post.
-/
module

public import proofs.«01_k».proof.Proof.InBody

@[expose] public section

set_option maxRecDepth 16384

noncomputable section

namespace Cert.Proof.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block of point `n`. -/
def base (n : ℕ) : Fin cfg0.N := ⟨min (n - n % 4) 127, Nat.lt_of_le_of_lt (Nat.min_le_right _ _) (by decide)⟩

/-- The point whose result the full-width window's buffer holds after point `t`: the second column block's once that is past. -/
def src (t : Fin cfg0.N) : Fin cfg0.N := ⟨t.val - (t.val % 4 - 1), Nat.lt_of_le_of_lt (Nat.sub_le _ _) t.isLt⟩

/-- The rows the scratch buffer holds in the row block of point `n`. -/
def rows (c : Dev nD) (n : ℕ) : Vec F S1024x1024 .bf16 :=
  rowsOf (iblk m c 0 (base n)) (iblk m c 1 (base n)) (iblk m c 2 (base n))

/-- The scratch buffer before point `n`: at anything before a row block, at the block's rows within it. -/
def scratch (c : Dev nD) (n : ℕ) : sProp 𝕄 :=
  if n % 4 = 0 then iprop(∃ d, owns (c : Thread nD τ) (Memref.whole cc0_scratch0) fullShare d)
  else owns (c : Thread nD τ) (Memref.whole cc0_scratch0) fullShare (rows m c n)

/-- The proof data: the inputs' buffers at their blocks, the outputs' at the products of the row block's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (rows m c t.val) (iblk m c 3 (src t))
    | ⟨5, _⟩ => k0_pay3 (rows m c t.val) (iblk m c 3 t)
  Φ t := iprop(scratch m c t.val ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay2 (rows m c t.val) (iblk m c 3 (src t)) := by dsimp only [dats]
theorem after_5 (c : Dev nD) (t : Fin cfg0.N) :
    (dats m 0 c).after 5 t = k0_pay3 (rows m c t.val) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Where the full-width window is written back: after a row block's first column block and after its last. -/
theorem flush_4 : ∀ t : Fin cfg0.N, (cfg0.win 4).flush t = decide (t.val % 4 = 0 ∨ t.val % 4 = 3) :=
  (by decide +kernel : ∀ t : Fin grid0.N, win0_4.flush t = decide (t.val % 4 = 0 ∨ t.val % 4 = 3))
/-- Where the narrowed window is written back: after the last two column blocks. -/
theorem flush_5 : ∀ t : Fin cfg0.N, (cfg0.win 5).flush t = decide (2 ≤ t.val % 4) :=
  (by decide +kernel : ∀ t : Fin grid0.N, win0_5.flush t = decide (2 ≤ t.val % 4))
/-- The body stores nothing into the full-width window at the last two column blocks, -/
theorem idle_4 : ∀ t : Fin cfg0.N, cfg0.idle 4 (cfg0.grid.coords t) = decide (2 ≤ t.val % 4) :=
  (by decide +kernel : ∀ t : Fin grid0.N, idle0 4 (grid0.coords t) = decide (2 ≤ t.val % 4))
/-- nor into the narrowed one at the first two. -/
theorem idle_5 : ∀ t : Fin cfg0.N, cfg0.idle 5 (cfg0.grid.coords t) = decide (t.val % 4 < 2) :=
  (by decide +kernel : ∀ t : Fin grid0.N, idle0 5 (grid0.coords t) = decide (t.val % 4 < 2))
/-- The body's three conditions at every point. -/
theorem conds : ∀ t : Fin cfg0.N, (first (grid0.coords t) = 1#1 ↔ t.val % 4 = 0) ∧ (k0_cond2 (grid0.coords t) = 1#1 ↔ t.val % 4 < 2)
    ∧ (k0_cond3 (grid0.coords t) = 1#1 ↔ 2 ≤ t.val % 4) :=
  (by decide +kernel : ∀ t : Fin grid0.N, _)

/-- At a row block's last point the full-width window's buffer still holds the second column block's product. -/
theorem before_4 (c : Dev nD) (t : Fin cfg0.N) (h : t.val % 4 = 3) (d) : (dats m 0 c).before 4 t d = (dats m 0 c).after 4 t := by
  have h1 : (cfg0.win 4).flush ⟨t.val - 1, Nat.lt_of_le_of_lt (Nat.sub_le _ _) t.isLt⟩ = false := by
    rw [flush_4]; simp only [decide_eq_false_iff_not]; omega
  have h2 : (cfg0.win 4).flush ⟨t.val - 1 - 1, Nat.lt_of_le_of_lt (Nat.sub_le _ _) (Nat.lt_of_le_of_lt (Nat.sub_le _ _) t.isLt)⟩ = false := by
    rw [flush_4]; simp only [decide_eq_false_iff_not]; omega
  have i1 : cfg0.idle 4 (cfg0.grid.coords ⟨t.val - 1, Nat.lt_of_le_of_lt (Nat.sub_le _ _) t.isLt⟩) = true := by
    rw [idle_4]; simp only [decide_eq_true_eq]; omega
  have i2 : cfg0.idle 4 (cfg0.grid.coords ⟨t.val - 1 - 1, Nat.lt_of_le_of_lt (Nat.sub_le _ _) (Nat.lt_of_le_of_lt (Nat.sub_le _ _) t.isLt)⟩) = false := by
    rw [idle_4]; simp only [decide_eq_false_iff_not]; omega
  rw [(dats m 0 c).before_of_pos 4 t (by omega) rfl d, h1, if_neg Bool.false_ne_true]
  unfold Dat.left
  rw [i1]
  dsimp only
  rw [(dats m 0 c).before_of_pos 4 ⟨t.val - 1, Nat.lt_of_le_of_lt (Nat.sub_le _ _) t.isLt⟩ (by dsimp only; omega) rfl d, h2,
    if_neg Bool.false_ne_true]
  unfold Dat.left
  rw [i2]
  dsimp only
  refine Eq.trans (b := (dats m 0 c).after 4 ⟨t.val - 1 - 1, Nat.lt_of_le_of_lt (Nat.sub_le _ _) (Nat.lt_of_le_of_lt (Nat.sub_le _ _) t.isLt)⟩) rfl ?_
  rw [after_4, after_4]
  have e : src ⟨t.val - 1 - 1, Nat.lt_of_le_of_lt (Nat.sub_le _ _) (Nat.lt_of_le_of_lt (Nat.sub_le _ _) t.isLt)⟩ = src t := by
    apply Fin.ext; unfold src; dsimp only; omega
  have e' : base (t.val - 1 - 1) = base t.val := by
    apply Fin.ext; unfold base; dsimp only; omega
  unfold rows
  rw [e, e']

/-- At a row block's first point the block's rows are those of that point's blocks. -/
theorem base_self (t : Fin cfg0.N) (h : t.val % 4 = 0) : base t.val = t := by
  apply Fin.ext; unfold base; dsimp only; have : t.val < 128 := t.isLt; omega

theorem src_self (t : Fin cfg0.N) (h : t.val % 4 < 2) : src t = t := by
  apply Fin.ext; unfold src; dsimp only; omega

/-- The rows do not change within a row block. -/
theorem rows_succ (c : Dev nD) (n : ℕ) (h : n % 4 ≠ 3) : rows m c (n + 1) = rows m c n := by
  have e : base (n + 1) = base n := by
    apply Fin.ext; unfold base; dsimp only; omega
  unfold rows
  rw [e]

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]

theorem leaves_4 (c : Dev nD) (t : Fin cfg0.N) (h : t.val % 4 ≠ 2) : (dats m 0 c).leavesExact 4 t = owns (c : Thread nD τ) (st0_4 t) fullShare ((dats m 0 c).after 4 t) := by
  unfold Dat.leavesExact
  rw [idle_4, flush_4]
  by_cases h3 : t.val % 4 = 3
  · rw [decide_eq_true (show 2 ≤ t.val % 4 by omega), decide_eq_true (show t.val % 4 = 0 ∨ t.val % 4 = 3 by omega)]
  · rw [decide_eq_false (show ¬ 2 ≤ t.val % 4 by omega)]
theorem leaves_4' (c : Dev nD) (t : Fin cfg0.N) (h : t.val % 4 = 2) : (dats m 0 c).leavesExact 4 t = iprop(∃ d, owns (c : Thread nD τ) (st0_4 t) fullShare ((dats m 0 c).before 4 t d)) := by
  unfold Dat.leavesExact
  rw [idle_4, flush_4, decide_eq_true (show 2 ≤ t.val % 4 by omega), decide_eq_false (show ¬ (t.val % 4 = 0 ∨ t.val % 4 = 3) by omega)]
theorem leaves_5 (c : Dev nD) (t : Fin cfg0.N) (h : 2 ≤ t.val % 4) : (dats m 0 c).leavesExact 5 t = owns (c : Thread nD τ) (st0_5 t) fullShare ((dats m 0 c).after 5 t) := by
  unfold Dat.leavesExact
  rw [idle_5, decide_eq_false (show ¬ t.val % 4 < 2 by omega)]
theorem leaves_5' (c : Dev nD) (t : Fin cfg0.N) (h : t.val % 4 < 2) : (dats m 0 c).leavesExact 5 t = iprop(∃ d, owns (c : Thread nD τ) (st0_5 t) fullShare ((dats m 0 c).before 5 t d)) := by
  unfold Dat.leavesExact
  rw [idle_5, flush_5, decide_eq_true h, decide_eq_false (show ¬ 2 ≤ t.val % 4 by omega)]

set_option maxHeartbeats 1200000 in
/-- The body at any point of the grid. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl, leaves_0, leaves_1, leaves_2, leaves_3]
  rw [show (dats m 0 c).Φ t.castSucc = iprop(scratch m c t.val ∗ (∃ r, prngReg c r)) from rfl,
    show (dats m 0 c).Φ t.succ = iprop(scratch m c (t.val + 1) ∗ (∃ r, prngReg c r)) from rfl]
  obtain h | h | h | h : t.val % 4 = 0 ∨ t.val % 4 = 1 ∨ t.val % 4 = 2 ∨ t.val % 4 = 3 := by omega
  · rw [show scratch m c t.val = iprop(∃ d, owns (c : Thread nD τ) (Memref.whole cc0_scratch0) fullShare d) from if_pos h,
      show scratch m c (t.val + 1) = owns (c : Thread nD τ) (Memref.whole cc0_scratch0) fullShare (rows m c t.val) from (if_neg (by omega)).trans (by rw [rows_succ m c t.val (by omega)]),
      leaves_4 m c t (by omega), leaves_5' m c t (by omega), after_4]
    rw [src_self t (by omega)]
    have er : rows m c t.val = rowsOf (iblk m c 0 t) (iblk m c 1 t) (iblk m c 2 t) := by
      unfold rows; rw [base_self t h]
    rw [er]
    iintro ⟨⟨S, Hg⟩, Ho, ⟨%d0, H0⟩, ⟨%d1, H1⟩, ⟨%d2, H2⟩, ⟨%d3, H3⟩, ⟨%d4, H4⟩, ⟨%d5, H5⟩⟩
    iapply (body_first c (grid0.coords t) ((conds t).1.mpr h) ((conds t).2.1.mpr (by omega)) (fun e => by have := (conds t).2.2.mp e; omega) _ _ _ _ _ _ _ _ _ _ _ _ _ _ (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [S]; · iexact S
    iintro ⟨H0, H1, H2, H3, H4, S⟩
    isplitl [S Hg]
    · isplitl [S]; · iexact S
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [show scratch m c t.val = owns (c : Thread nD τ) (Memref.whole cc0_scratch0) fullShare (rows m c t.val) from if_neg (by omega),
      show scratch m c (t.val + 1) = owns (c : Thread nD τ) (Memref.whole cc0_scratch0) fullShare (rows m c t.val) from (if_neg (by omega)).trans (by rw [rows_succ m c t.val (by omega)]),
      leaves_4 m c t (by omega), leaves_5' m c t (by omega), after_4]
    rw [src_self t (by omega)]
    iintro ⟨⟨S, Hg⟩, Ho, ⟨%d0, H0⟩, ⟨%d1, H1⟩, ⟨%d2, H2⟩, ⟨%d3, H3⟩, ⟨%d4, H4⟩, ⟨%d5, H5⟩⟩
    iapply (body_second c (grid0.coords t) (fun e => by have := (conds t).1.mp e; omega) ((conds t).2.1.mpr (by omega)) (fun e => by have := (conds t).2.2.mp e; omega) _ _ _ _ _ _ _ _ _ _ _ _ _ _ (iblk m c 3 t) (rows m c t.val) _)
    isplitl [H3]; · iexact H3
    isplitl [H4]; · iexists _; iexact H4
    isplitl [S]; · iexact S
    iintro ⟨H3, H4, S⟩
    isplitl [S Hg]
    · isplitl [S]; · iexact S
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [show scratch m c t.val = owns (c : Thread nD τ) (Memref.whole cc0_scratch0) fullShare (rows m c t.val) from if_neg (by omega),
      show scratch m c (t.val + 1) = owns (c : Thread nD τ) (Memref.whole cc0_scratch0) fullShare (rows m c t.val) from (if_neg (by omega)).trans (by rw [rows_succ m c t.val (by omega)]),
      leaves_4' m c t h, leaves_5 m c t (by omega), after_5]
    iintro ⟨⟨S, Hg⟩, Ho, ⟨%d0, H0⟩, ⟨%d1, H1⟩, ⟨%d2, H2⟩, ⟨%d3, H3⟩, ⟨%d4, H4⟩, ⟨%d5, H5⟩⟩
    iapply (body_last c (grid0.coords t) (fun e => by have := (conds t).1.mp e; omega) (fun e => by have := (conds t).2.1.mp e; omega) ((conds t).2.2.mpr (by omega)) _ _ _ _ _ _ _ _ _ _ _ _ _ _ (iblk m c 3 t) (rows m c t.val) _)
    isplitl [H3]; · iexact H3
    isplitl [H5]; · iexists _; iexact H5
    isplitl [S]; · iexact S
    iintro ⟨H3, H5, S⟩
    isplitl [S Hg]
    · isplitl [S]; · iexact S
      iexact Hg
    isplitl [Ho]; · iexact Ho
    isplitl [H0]; · iexact H0
    isplitl [H1]; · iexact H1
    isplitl [H2]; · iexact H2
    isplitl [H3]; · iexact H3
    isplitl [H4]; · iexists _; iexact H4
    iexact H5
  · rw [show scratch m c t.val = owns (c : Thread nD τ) (Memref.whole cc0_scratch0) fullShare (rows m c t.val) from if_neg (by omega),
      show scratch m c (t.val + 1) = iprop(∃ d, owns (c : Thread nD τ) (Memref.whole cc0_scratch0) fullShare d) from if_pos (by omega),
      leaves_4 m c t (by omega), leaves_5 m c t (by omega), after_4, after_5]
    simp only [before_4 m c t h, after_4]
    iintro ⟨⟨S, Hg⟩, Ho, ⟨%d0, H0⟩, ⟨%d1, H1⟩, ⟨%d2, H2⟩, ⟨%d3, H3⟩, ⟨%d4, H4⟩, ⟨%d5, H5⟩⟩
    iapply (body_last c (grid0.coords t) (fun e => by have := (conds t).1.mp e; omega) (fun e => by have := (conds t).2.1.mp e; omega) ((conds t).2.2.mpr (by omega)) _ _ _ _ _ _ _ _ _ _ _ _ _ _ (iblk m c 3 t) (rows m c t.val) _)
    isplitl [H3]; · iexact H3
    isplitl [H5]; · iexists _; iexact H5
    isplitl [S]; · iexact S
    iintro ⟨H3, H5, S⟩
    isplitl [S Hg]
    · isplitl [S]; · iexists _; iexact S
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-- The scratch buffer and the generator register, as the launch hands them over. -/
theorem phi_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]
  try rfl

theorem ends_eq (c : Dev nD) (n : ℕ) (h : n % 4 = 0) :
    iprop(scratch m c n ∗ (∃ r, prngReg c r)) = (Pipeline.ΦA spec0 c : sProp 𝕄) := by
  rw [phi_eq, show scratch m c n = iprop(∃ d, owns (c : Thread nD τ) (Memref.whole cc0_scratch0) fullShare d) from if_pos h]

set_option backward.isDefEq.respectTransparency.types false in
set_option maxHeartbeats 800000 in
/-- The launch: the run ends with the arrays at what the proof data computes and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => (ends_eq m c 0 rfl).symm ▸ .rfl) (hout := fun c => (ends_eq m c 128 rfl) ▸ .rfl)

/-- The frame claim's post, at any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proof.In
end
-- ==== Proof.Frames.lean ====
/-
  The frames of the programs and what the idealization preserves.
-/
module

public import proofs.«01_k».proof.Defs
public import proofs.«01_k».proof.Proof.Launch1
public import proofs.«01_k».proof.Proof.Launch1Bits
public import proofs.«01_k».proof.Proof.InRun
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Lib.Quiescent

@[expose] public section

set_option maxRecDepth 16384

noncomputable section

namespace Cert.Proof.Frames

open Idealize.ShloMosaic Idealize.ShloMosaic.TcCoe Idealize.SL.Sem

theorem kernel : Cert.quiescent_Kernel := fun m ρ _ => Cert.Proof.Kernel.frame m ρ

theorem kernelIdeal : Cert.quiescent_KernelIdeal := fun m ρ _ => Cert.Proof.KernelIdeal.frame m ρ

theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section
set_option backward.isDefEq.respectTransparency false
set_option backward.isDefEq.respectTransparency.types false

/-- The input projection's two programs have the same body table, -/
theorem rows_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) => rfl

/-- and the same definitions. -/
theorem defs_eq : Cert.Kernel2.defs (F := Bits) = Cert.Kernel2Ideal.defs (F := Bits) := by
  unfold Cert.Kernel2.defs Cert.Kernel2Ideal.defs
  rw [rows_eq]
  rfl

/-- So the run that serves the one serves the other. -/
theorem kernel2 : Cert.quiescent_Kernel2 := fun m ρ _ => by
  rw [defs_eq]
  exact Cert.Proof.In.frame (F := Bits) m ρ

end

theorem kernel2Ideal : Cert.quiescent_Kernel2Ideal := fun m ρ _ => Cert.Proof.In.frame (F := Ideal) m ρ

theorem reference2Ideal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem kernel3 : Cert.quiescent_Kernel3 := fun m ρ _ => Cert.Kernel3.Gen.frame m ρ

theorem kernel3Ideal : Cert.quiescent_Kernel3Ideal := fun m ρ _ => Cert.Kernel3Ideal.Gen.frame m ρ

theorem reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem kernel4 : Cert.quiescent_Kernel4 := fun m ρ _ => Cert.Kernel4.Gen.frame m ρ

theorem kernel4Ideal : Cert.quiescent_Kernel4Ideal := fun m ρ _ => Cert.Kernel4Ideal.Gen.frame m ρ

theorem reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem kernel5 : Cert.quiescent_Kernel5 := fun m ρ _ => Cert.Kernel5.Gen.frame m ρ

theorem kernel5Ideal : Cert.quiescent_Kernel5Ideal := fun m ρ _ => Cert.Kernel5Ideal.Gen.frame m ρ

theorem reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Both named constants have the values they stand for. -/
theorem preserves : Cert.preserves_Kernel_KernelIdeal :=
  ⟨IdealRules.named_const.statement Cert.KernelIdeal.κ "neg_log2e" .f32 0xBFB8AA3B#32 _ rfl,
    IdealRules.named_const.statement Cert.KernelIdeal.κ "log2e" .f32 0x3FB8AA3B#32 _ rfl⟩

end Cert.Proof.Frames
end
-- ==== Proof.OutArray.lean ====
/-
  The output projection's array after the run with the final norm, as a function of the arguments on the extended reals.
-/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Claim

@[expose] public section

set_option maxRecDepth 16384

noncomputable section

namespace Cert.Proof.Out

open Idealize.ShloMosaic Idealize.ShloMosaic.TcCoe Idealize.SL.Sem
open Cert.Kernel3Ideal Cert.Kernel3Ideal.Gen

variable (m : (ℓ : Loc nD τ sig) → Buf (Elt Ideal) ℓ)

/-- The layer's output at row `r` of batch `⌊r/4096⌋`, before the normalisation: the residual plus the gate times the
    row of both mixers' outputs times the output projection. -/
def resid (a b : Vec Ideal S32768x1024 .bf16) (w : Vec Ideal S2048x1024 .f32) (x : Vec Ideal S8x4096x1024 .f32)
    (md : Vec Ideal S8x3072 .f32) (r : Fin 32768) (j : Fin 1024) : EReal :=
  x (ix3 ⟨r / 4096, by omega⟩ ⟨r % 4096, by omega⟩ j) + md (ix2 ⟨r / 4096, by omega⟩ ⟨2048 + j, by omega⟩)
    * (∑ k : Fin 1024, a (ix2 r k) * w (ix2 ⟨k, by omega⟩ j) + ∑ k : Fin 1024, b (ix2 r k) * w (ix2 ⟨1024 + k, by omega⟩ j))

/-- The whole result: each row of `resid` divided by its root mean square, times the final scale. -/
def outOf (a b : Vec Ideal S32768x1024 .bf16) (w : Vec Ideal S2048x1024 .f32) (x : Vec Ideal S8x4096x1024 .f32)
    (md : Vec Ideal S8x3072 .f32) (f : Vec Ideal S1024 .f32) : Vec Ideal S32768x1024 .f32 := fun i =>
  resid a b w x md (i 0) (i 1)
    * Ideal.rsqrt (Ideal.div (∑ j : Fin 1024, resid a b w x md (i 0) j * resid a b w x md (i 0) j)
        (Ideal.ofBits .f32 0x44800000#32) + Ideal.ofBits .f32 0x358637BD#32)
    * f (ix1 (i 1))

/-- Each window's block index at every grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val / 8, 0, 0] ∧ win0_5.index t = ![0, 0]
    ∧ win0_6.index t = ![t.val, 0] ∧ t.val < 64 :=
  (by decide +kernel : ∀ t : Fin grid0.N, _)

/-- The kernel's block result at row `p`, column `q`. -/
theorem pay_apply (a b : Vec Ideal S512x1024 .bf16) (w₁ w₂ : Vec Ideal S1024x1024 .bf16) (g : Vec Ideal S1x1x1024 .f32)
    (x : Vec Ideal S512x1024 .f32) (f : Vec Ideal S1x1024 .f32) (z : Fin 1024 → EReal) (p : Fin 512) (q : Fin 1024)
    (hz : ∀ j, x (ix2 p j) + g (ix3 0 0 j) * (∑ k : Fin 1024, a (ix2 p k) * w₁ (ix2 k j) + ∑ k : Fin 1024, b (ix2 p k) * w₂ (ix2 k j)) = z j) :
    k0_pay1 a w₁ b w₂ g x f (ix2 p q)
    = z q * Ideal.rsqrt (Ideal.div (∑ j : Fin 1024, z j * z j)
        (Ideal.ofBits .f32 0x44800000#32) + Ideal.ofBits .f32 0x358637BD#32) * f (ix2 0 q) := by
  pointwise [k0_pay1]
  simp only [hz]

/-- Row `512 t + p` of the arrays. -/
abbrev rowAt (t : Fin cfg0.N) (p : Fin 512) : Fin 32768 := ⟨t.val * 512 + p, by have := (idx t).2.2.2.2.2.2.2; omega⟩

theorem read_a (c : Dev nD) (t : Fin cfg0.N) (p : Fin 512) (k : Fin 1024) :
    iblk m c 0 t (ix2 p k) = m ((c : Thread nD τ).loc main_arg0) (ix2 (rowAt t p) k) := by
  blk_ext! [iblk, V, idx t]

theorem read_b (c : Dev nD) (t : Fin cfg0.N) (p : Fin 512) (k : Fin 1024) :
    iblk m c 1 t (ix2 p k) = m ((c : Thread nD τ).loc main_arg1) (ix2 (rowAt t p) k) := by
  blk_ext! [iblk, V, idx t]

theorem read_w₁ (c : Dev nD) (t : Fin cfg0.N) (k : Fin 1024) (j : Fin 1024) :
    View.ld (iblk m c 2 t) r0_1 (ix2 k j) = m ((c : Thread nD τ).loc main_arg2) (ix2 ⟨k, by omega⟩ j) := by
  pointwise
  blk_ext! [iblk, V, idx t]

theorem read_w₂ (c : Dev nD) (t : Fin cfg0.N) (k : Fin 1024) (j : Fin 1024) :
    View.ld (iblk m c 2 t) r0_2 (ix2 k j) = m ((c : Thread nD τ).loc main_arg2) (ix2 ⟨1024 + k, by omega⟩ j) := by
  pointwise
  blk_ext! [iblk, V, idx t]

theorem read_x (c : Dev nD) (t : Fin cfg0.N) (p : Fin 512) (j : Fin 1024) :
    iblk m c 3 t (ix2 p j) = m ((c : Thread nD τ).loc main_arg3)
      (ix3 ⟨(rowAt t p).val / 4096, by omega⟩ ⟨(rowAt t p).val % 4096, by omega⟩ j) := by
  blk_ext! [iblk, V, idx t]

theorem read_g (c : Dev nD) (t : Fin cfg0.N) (p : Fin 512) (j : Fin 1024) :
    View.ld (iblk m c 4 t) r0_3 (ix3 0 0 j) = m ((c : Thread nD τ).loc main_arg4)
      (ix2 ⟨(rowAt t p).val / 4096, by omega⟩ ⟨2048 + j, by omega⟩) := by
  pointwise
  blk_ext! [iblk, V, idx t]

theorem read_f (c : Dev nD) (t : Fin cfg0.N) (j : Fin 1024) :
    iblk m c 5 t (ix2 0 j) = m ((c : Thread nD τ).loc main_arg5) (ix1 j) := by
  blk_ext! [iblk, V, idx t]

theorem emb_eq (t : Fin cfg0.N) (p : Fin 512) (q : Fin 1024) : ((cfg0.win 6).blk t).view.emb (ix2 p q) = ix2 (rowAt t p) q := by
  blk_ext [idx t]

theorem point (c : Dev nD) (t : Fin cfg0.N) (y : S512x1024.Idx) :
    k0_pay1 (iblk m c 0 t) (View.ld (iblk m c 2 t) r0_1) (iblk m c 1 t) (View.ld (iblk m c 2 t) r0_2)
      (View.ld (iblk m c 4 t) r0_3) (iblk m c 3 t) (iblk m c 5 t) y
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  obtain ⟨p, q, rfl⟩ : ∃ (p : Fin 512) (q : Fin 1024), y = ix2 p q := ⟨y 0, y 1, eq_ix2 y⟩
  refine (pay_apply _ _ _ _ _ _ _ (resid (m ((c : Thread nD τ).loc main_arg0)) (m ((c : Thread nD τ).loc main_arg1)) (m ((c : Thread nD τ).loc main_arg2))
        (m ((c : Thread nD τ).loc main_arg3)) (m ((c : Thread nD τ).loc main_arg4)) (rowAt t p)) p q fun j => ?_).trans ?_
  · rw [read_x, read_g m c t p]
    unfold resid
    congr 2
    congr 1
    · exact Finset.sum_congr rfl fun k _ => congrArg₂ _ (read_a m c t p k) (read_w₁ m c t k j)
    · exact Finset.sum_congr rfl fun k _ => congrArg₂ _ (read_b m c t p k) (read_w₂ m c t k j)
  · rw [read_f, emb_eq]
    rfl

theorem array_eq (c : Dev nD) : (dats m 0 c).arrAt 6 cfg0.N
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  frame_out
  exact point m c t y

end Cert.Proof.Out
end
-- ==== Proof.OutRef.lean ====
/-
  The reference of the output projection with the final norm has the same result term at every row and column.
-/
module

public import proofs.«01_k».proof.Proof.OutArray

@[expose] public section

set_option maxRecDepth 16384

noncomputable section

namespace Cert.Proof.Out

open Idealize.ShloMosaic Idealize.ShloMosaic.TcCoe Idealize.SL.Sem
open Cert.Reference3Ideal Cert.Reference3Ideal.Gen

/-- The reference's result term is `outOf` of the same arrays: its one product over the 2048 joined columns is the sum
    of the products over the two mixers' columns. -/
theorem ref_eq (a b : FVec Ideal S32768x1024 .bf16) (w : FVec Ideal S2048x1024 .f32) (x : FVec Ideal S8x4096x1024 .f32)
    (md : FVec Ideal S8x3072 .f32) (f : FVec Ideal S1024 .f32) :
    (shapeCast S32768x1024 (mulf (F := Ideal) (mulf (addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] md slices_S8x3072_S8x1024_0_2048))) (Host.dotGeneral dot_S8x4096x2048_S2048x1024_S8x4096x1024_2_0_01_1_n_n none (concatenate S8x4096x2048 2 [⟨S8x4096x1024, (shapeCast S8x4096x1024 (extf (F := Ideal) .f32 (a : FVec Ideal S32768x1024 .bf16) bitsLt_bf16_f32) shapeCasts_S32768x1024_S8x4096x1024)⟩, ⟨S8x4096x1024, (shapeCast S8x4096x1024 (extf (F := Ideal) .f32 (b : FVec Ideal S32768x1024 .bf16) bitsLt_bf16_f32) shapeCasts_S32768x1024_S8x4096x1024)⟩] concatenates_S8x4096x1024_S8x4096x1024_S8x4096x2048_d2) w))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] md slices_S8x3072_S8x1024_0_2048))) (Host.dotGeneral dot_S8x4096x2048_S2048x1024_S8x4096x1024_2_0_01_1_n_n none (concatenate S8x4096x2048 2 [⟨S8x4096x1024, (shapeCast S8x4096x1024 (extf (F := Ideal) .f32 (a : FVec Ideal S32768x1024 .bf16) bitsLt_bf16_f32) shapeCasts_S32768x1024_S8x4096x1024)⟩, ⟨S8x4096x1024, (shapeCast S8x4096x1024 (extf (F := Ideal) .f32 (b : FVec Ideal S32768x1024 .bf16) bitsLt_bf16_f32) shapeCasts_S32768x1024_S8x4096x1024)⟩] concatenates_S8x4096x1024_S8x4096x1024_S8x4096x2048_d2) w))) (addf x (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] md slices_S8x3072_S8x1024_0_2048))) (Host.dotGeneral dot_S8x4096x2048_S2048x1024_S8x4096x1024_2_0_01_1_n_n none (concatenate S8x4096x2048 2 [⟨S8x4096x1024, (shapeCast S8x4096x1024 (extf (F := Ideal) .f32 (a : FVec Ideal S32768x1024 .bf16) bitsLt_bf16_f32) shapeCasts_S32768x1024_S8x4096x1024)⟩, ⟨S8x4096x1024, (shapeCast S8x4096x1024 (extf (F := Ideal) .f32 (b : FVec Ideal S32768x1024 .bf16) bitsLt_bf16_f32) shapeCasts_S32768x1024_S8x4096x1024)⟩] concatenates_S8x4096x1024_S8x4096x1024_S8x4096x2048_d2) w)))) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 f))) shapeCasts_S8x4096x1024_S32768x1024 : FVec Ideal S32768x1024 .f32) = outOf a b w x md f := by
  funext y
  obtain ⟨p, q, rfl⟩ : ∃ (p : Fin 32768) (q : Fin 1024), y = ix2 p q := ⟨y 0, y 1, eq_ix2 y⟩
  pointwise
  rfl

end Cert.Proof.Out
end
-- ==== Proof.OutClaim.lean ====
/-
  The output projection with the final normalisation computes the function of its reference on the extended reals: the
  kernel's result array (OutArray) and the reference's term (OutRef) are the same function of the arguments.
-/
module

public import proofs.«01_k».proof.Proof.OutArray
public import proofs.«01_k».proof.Proof.OutRef

@[expose] public section

set_option maxRecDepth 16384

noncomputable section

namespace Cert.Proof.Out

open Idealize.ShloMosaic Idealize.ShloMosaic.TcCoe Idealize.SL.Sem

theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5⟩ := hagree c
  rw [h0, h1, h2, h3, h4, h5]
  exact (ref_eq _ _ _ _ _ _).trans (array_eq m c).symm

end Cert.Proof.Out
end
-- ==== Proof.InArray.lean ====
/-
  The input projection's two arrays after the run, as functions of the arguments on the extended reals: every row
  normalised, modulated and multiplied with the sections of the weights.
-/
module

public import proofs.«01_k».proof.Proof.InRun
public import Idealize.ShloMosaic.Lib.Pointwise
public import Idealize.ShloMosaic.Lib.Pipeline.ValueKit
public import Idealize.ShloMosaic.Lib.Claim

@[expose] public section

set_option maxRecDepth 16384

noncomputable section

namespace Cert.Proof.In

open Idealize.ShloMosaic Idealize.ShloMosaic.TcCoe Idealize.SL.Sem
open Cert.Kernel2Ideal Cert.Kernel2Ideal.Gen

variable (m : (ℓ : Loc nD τ sig) → Buf (Elt Ideal) ℓ)

/-- The layer's input at row `r` of all tokens, column `k`. -/
def xrow (x : Vec Ideal S8x4096x1024 .f32) (r : Fin 32768) (k : Fin 1024) : EReal :=
  x (ix3 ⟨r / 4096, by omega⟩ ⟨r % 4096, by omega⟩ k)

/-- The normalised and modulated row `r` at column `k`. -/
def hrow (x : Vec Ideal S8x4096x1024 .f32) (md : Vec Ideal S8x3072 .f32) (g : Vec Ideal S1024 .f32) (r : Fin 32768) (k : Fin 1024) : EReal :=
  xrow x r k * Ideal.rsqrt (Ideal.div (∑ j : Fin 1024, xrow x r j * xrow x r j)
      (Ideal.ofBits .f32 0x44800000#32) + Ideal.ofBits .f32 0x358637BD#32) * g (ix1 k)
    * (1 + md (ix2 ⟨r / 4096, by omega⟩ ⟨1024 + k, by omega⟩))
    + md (ix2 ⟨r / 4096, by omega⟩ ⟨k, by omega⟩)

/-- Each window's block index at every grid point. -/
theorem idx : ∀ t : Fin cfg0.N, win0_0.index t = ![t.val / 4, 0] ∧ win0_1.index t = ![t.val / 16, 0, 0] ∧ win0_2.index t = ![0, 0]
    ∧ win0_3.index t = ![0, t.val % 4] ∧ win0_4.index t = ![t.val / 4, min (t.val % 4) 1] ∧ win0_5.index t = ![t.val / 4, t.val % 4 - 2] ∧ t.val < 128 :=
  (by decide +kernel : ∀ t : Fin grid0.N, _)

/-- The weights with their sections permuted and the queries' section scaled. -/
def perm (w : FVec Ideal S1024x8192 .f32) : FVec Ideal S1024x8192 .bf16 :=
  truncf .bf16 (concatenate S1024x8192 1 [⟨S1024x1024, ((extractStridedSlice S1024x1024 ![0, 0] w slices_S1024x8192_S1024x1024_0_0) : FVec Ideal S1024x1024 .f32)⟩, ⟨S1024x1024, ((extractStridedSlice S1024x1024 ![0, 1024] w slices_S1024x8192_S1024x1024_0_1024) : FVec Ideal S1024x1024 .f32)⟩, ⟨S1024x1024, ((extractStridedSlice S1024x1024 ![0, 3072] w slices_S1024x8192_S1024x1024_0_3072) : FVec Ideal S1024x1024 .f32)⟩, ⟨S1024x1024, ((extractStridedSlice S1024x1024 ![0, 7168] w slices_S1024x8192_S1024x1024_0_7168) : FVec Ideal S1024x1024 .f32)⟩, ⟨S1024x1024, ((extractStridedSlice S1024x1024 ![0, 2048] w slices_S1024x8192_S1024x1024_0_2048) : FVec Ideal S1024x1024 .f32)⟩, ⟨S1024x1024, ((mulf (extractStridedSlice S1024x1024 ![0, 4096] w slices_S1024x8192_S1024x1024_0_4096) (broadcastInDim S1024x1024 ![] bcast_S_S1024x1024 (constant S_ .f32 0x3E38AA3B#32))) : FVec Ideal S1024x1024 .f32)⟩, ⟨S1024x1024, ((extractStridedSlice S1024x1024 ![0, 5120] w slices_S1024x8192_S1024x1024_0_5120) : FVec Ideal S1024x1024 .f32)⟩, ⟨S1024x1024, ((extractStridedSlice S1024x1024 ![0, 6144] w slices_S1024x8192_S1024x1024_0_6144) : FVec Ideal S1024x1024 .f32)⟩] concatenates_S1024x1024_S1024x1024_S1024x1024_S1024x1024_S1024x1024_S1024x1024_S1024x1024_S1024x1024_S1024x8192_d1 : FVec Ideal S1024x8192 .f32) bitsLt_bf16_f32

theorem V12 (c : Dev nD) : V m c main_v12 = perm (m ((c : Thread nD τ).loc main_arg3)) := by
  unfold V perm
  after_results_simp <;> (try dsimp only [Matrix.cons_val]) <;> (try after_results_simp) <;> rfl

/-- Columns `1024 s` to `1024 s + 1023` of the product with the weights: section `s` at row `r`, column `q`. -/
def sect (x : Vec Ideal S8x4096x1024 .f32) (md : Vec Ideal S8x3072 .f32) (g : Vec Ideal S1024 .f32) (w : Vec Ideal S1024x8192 .f32)
    (r : Fin 32768) (j : Fin 8192) : EReal := ∑ k : Fin 1024, hrow x md g r k * w (ix2 k j)

/-- The column of the weights that column `j` of the permuted weights is. -/
def srcCol (j : Fin 8192) : Fin 8192 :=
  ⟨if j.val < 2048 then j else if j.val < 3072 then j + 1024 else if j.val < 4096 then j + 4096 else if j.val < 5120 then j - 2048 else j - 1024,
    by split_ifs <;> omega⟩

/-- The factor of column `j` of the permuted weights. -/
def factor (j : Fin 8192) : EReal := if 5120 ≤ j.val ∧ j.val < 6144 then Ideal.ofBits .f32 0x3E38AA3B#32 else 1

theorem perm_apply (w : FVec Ideal S1024x8192 .f32) (k : Fin 1024) (j : Fin 8192) : perm w (ix2 k j) = w (ix2 k (srcCol j)) * factor j := by
  pointwise [perm]
  unfold factor
  have e : ∀ a b : Fin 8192, a.val = b.val → w (ix2 k a) = w (ix2 k b) := fun a b h => by rw [Fin.ext h]
  unfold srcCol
  split_ifs
  all_goals first
    | omega
    | (rw [mul_one]; refine e _ _ ?_; first | omega | (dsimp only; omega) | dsimp only)
    | (rw [if_neg (show ¬ (5120 ≤ j.val ∧ j.val < 6144) by omega), mul_one]; refine e _ _ ?_; first | omega | (dsimp only; split_ifs <;> omega) | dsimp only)
    | (rw [if_neg (show ¬ (5120 ≤ j.val ∧ j.val < 6144) by omega), mul_one]; done)
    | (rw [if_pos (show 5120 ≤ j.val ∧ j.val < 6144 by omega)]; refine congrArg (fun z : EReal => z * Ideal.ofBits .f32 0x3E38AA3B#32) (e _ _ ?_); dsimp only; split_ifs <;> omega)

theorem scale_eq : Ideal.ofBits .f32 0x3E38AA3B#32 = (((12102203 : ℝ) / 67108864 : ℝ) : EReal) := by
  simp [Ideal.ofBits, Ideal.ieee, -EReal.coe_mul]; norm_num

theorem factor_nonneg (j : Fin 8192) : 0 ≤ factor j := by
  unfold factor; split_ifs
  · rw [scale_eq]; exact EReal.coe_nonneg.mpr (by norm_num)
  · exact zero_le_one

theorem factor_ne_top (j : Fin 8192) : factor j ≠ ⊤ := by
  unfold factor; split_ifs
  · rw [scale_eq]; exact EReal.coe_ne_top _
  · exact EReal.coe_ne_top 1

/-- A sum of products scales by a factor that is neither negative nor infinite. -/
theorem sum_scale {n : ℕ} (a b : Fin n → EReal) (s : EReal) (h0 : 0 ≤ s) (h1 : s ≠ ⊤) :
    ∑ k, a k * (b k * s) = (∑ k, a k * b k) * s := by
  have key : ∀ S : Finset (Fin n), ∑ k ∈ S, a k * (b k * s) = (∑ k ∈ S, a k * b k) * s := fun S => by
    classical
    induction S using Finset.induction_on with
    | empty => simp
    | insert i S hi ih =>
      rw [Finset.sum_insert hi, Finset.sum_insert hi, EReal.right_distrib_of_nonneg_of_ne_top h0 h1, ih, mul_assoc]
  exact key Finset.univ

/-- Column `j` of the product with the permuted weights. -/
def prod (x : Vec Ideal S8x4096x1024 .f32) (md : Vec Ideal S8x3072 .f32) (g : Vec Ideal S1024 .f32) (w : Vec Ideal S1024x8192 .f32)
    (r : Fin 32768) (j : Fin 8192) : EReal := sect x md g w r (srcCol j) * factor j

/-- The full-width result. -/
def wide (x : Vec Ideal S8x4096x1024 .f32) (md : Vec Ideal S8x3072 .f32) (g : Vec Ideal S1024 .f32) (w : Vec Ideal S1024x8192 .f32) :
    Vec Ideal S32768x4096 .f32 := fun i => prod x md g w (i 0) ⟨(i 1).val, by have : (i 1).val < 4096 := (i 1).isLt; omega⟩

/-- The narrowed result. -/
def narrow (x : Vec Ideal S8x4096x1024 .f32) (md : Vec Ideal S8x3072 .f32) (g : Vec Ideal S1024 .f32) (w : Vec Ideal S1024x8192 .f32) :
    Vec Ideal S32768x4096 .bf16 := fun i => prod x md g w (i 0) ⟨4096 + (i 1).val, by have : (i 1).val < 4096 := (i 1).isLt; omega⟩

theorem read_w (c : Dev nD) (t : Fin cfg0.N) (k : Fin 1024) (q : Fin 2048) :
    iblk m c 3 t (ix2 k q) = perm (m ((c : Thread nD τ).loc main_arg3)) (ix2 k ⟨t.val % 4 * 2048 + q, by omega⟩) := by
  rw [← V12]
  blk_ext! [iblk, idx t]

/-- The first launch's row index of point `t`'s row `p`. -/
abbrev rowAt (t : Fin cfg0.N) (p : Fin 1024) : Fin 32768 := ⟨t.val / 4 * 1024 + p, by have : t.val < 128 := t.isLt; omega⟩

theorem read_x (c : Dev nD) (t : Fin cfg0.N) (p k : Fin 1024) :
    iblk m c 0 t (ix2 p k) = xrow (m ((c : Thread nD τ).loc main_arg0)) (rowAt t p) k := by
  unfold xrow
  blk_ext! [iblk, V, idx t]

theorem read_sh (c : Dev nD) (t : Fin cfg0.N) (p k : Fin 1024) :
    View.ld (iblk m c 1 t) rShift (ix3 0 0 k) = m ((c : Thread nD τ).loc main_arg1) (ix2 ⟨(rowAt t p).val / 4096, by omega⟩ ⟨k, by omega⟩) := by
  pointwise
  blk_ext! [iblk, V, idx t]

theorem read_sc (c : Dev nD) (t : Fin cfg0.N) (p k : Fin 1024) :
    View.ld (iblk m c 1 t) rScale (ix3 0 0 k) = m ((c : Thread nD τ).loc main_arg1) (ix2 ⟨(rowAt t p).val / 4096, by omega⟩ ⟨1024 + k, by omega⟩) := by
  pointwise
  blk_ext! [iblk, V, idx t]

theorem read_g (c : Dev nD) (t : Fin cfg0.N) (k : Fin 1024) :
    iblk m c 2 t (ix2 0 k) = m ((c : Thread nD τ).loc main_arg2) (ix1 k) := by
  blk_ext! [iblk, V, idx t]

theorem emb_4 (t : Fin cfg0.N) (p : Fin 1024) (q : Fin 2048) :
    ((cfg0.win 4).blk t).view.emb (ix2 p q) = ix2 (rowAt t p) ⟨min (t.val % 4) 1 * 2048 + q, by omega⟩ := by
  blk_ext [idx t]

theorem emb_5 (t : Fin cfg0.N) (p : Fin 1024) (q : Fin 2048) :
    ((cfg0.win 5).blk t).view.emb (ix2 p q) = ix2 (rowAt t p) ⟨(t.val % 4 - 2) * 2048 + q, by omega⟩ := by
  blk_ext [idx t]

/-- The normalised rows of a block, over any reading of its row. -/
theorem pay1_apply (x : Vec Ideal S1024x1024 .f32) (g : Vec Ideal S1x1024 .f32) (sh sc : Vec Ideal S1x1x1024 .f32)
    (z : Fin 1024 → EReal) (p k : Fin 1024) (hz : ∀ j, x (ix2 p j) = z j) :
    k0_pay1 x g sh sc (ix2 p k) = z k * Ideal.rsqrt (Ideal.div (∑ j : Fin 1024, z j * z j)
      (Ideal.ofBits .f32 0x44800000#32) + Ideal.ofBits .f32 0x358637BD#32) * g (ix2 0 k) * (1 + sc (ix3 0 0 k)) + sh (ix3 0 0 k) := by
  pointwise [k0_pay1]
  simp only [hz]

theorem rows_apply (c : Dev nD) (t : Fin cfg0.N) (p k : Fin 1024) :
    rows m c t.val (ix2 p k) = hrow (m ((c : Thread nD τ).loc main_arg0)) (m ((c : Thread nD τ).loc main_arg1)) (m ((c : Thread nD τ).loc main_arg2)) (rowAt t p) k := by
  have e : rowAt (base t.val) p = rowAt t p := by
    apply Fin.ext; unfold base; dsimp only; have : t.val < 128 := t.isLt; omega
  unfold rows rowsOf
  rw [pay1_apply _ _ _ _ _ p k (fun j => read_x m c (base t.val) p j), read_g, read_sc m c _ p, read_sh m c _ p]
  exact congrArg (fun r => hrow (m ((c : Thread nD τ).loc main_arg0)) (m ((c : Thread nD τ).loc main_arg1)) (m ((c : Thread nD τ).loc main_arg2)) r k) e

/-- A block's product at row `p`, column `q`. -/
theorem point (c : Dev nD) (t u : Fin cfg0.N) (p : Fin 1024) (q : Fin 2048) :
    k0_pay2 (rows m c t.val) (iblk m c 3 u) (ix2 p q)
    = prod (m ((c : Thread nD τ).loc main_arg0)) (m ((c : Thread nD τ).loc main_arg1)) (m ((c : Thread nD τ).loc main_arg2))
        (m ((c : Thread nD τ).loc main_arg3)) (rowAt t p) ⟨u.val % 4 * 2048 + q, by omega⟩ := by
  pointwise [k0_pay2]
  simp only [rows_apply m c t, read_w m c u, perm_apply]
  exact sum_scale _ _ _ (factor_nonneg _) (factor_ne_top _)

/-- The full-width array after the run. -/
theorem wide_eq (c : Dev nD) : (dats m 0 c).arrAt 4 cfg0.N = wide (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨p, q, rfl⟩ : ∃ (p : Fin 1024) (q : Fin 2048), y = ix2 p q := ⟨y 0, y 1, eq_ix2 y⟩
  blk_simp
  rw [after_4]
  refine (point m c t (src t) p q).trans ?_
  rw [emb_4]
  unfold wide
  have e : (src t).val % 4 = min (t.val % 4) 1 := by
    rw [flush_4, decide_eq_true_eq] at hf; unfold src; dsimp only; omega
  simp only [e]
  rfl

/-- The narrowed array after the run. -/
theorem narrow_eq (c : Dev nD) : (dats m 0 c).arrAt 5 cfg0.N = narrow (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨p, q, rfl⟩ : ∃ (p : Fin 1024) (q : Fin 2048), y = ix2 p q := ⟨y 0, y 1, eq_ix2 y⟩
  blk_simp
  rw [after_5]
  refine (point m c t t p q).trans ?_
  rw [emb_5]
  unfold narrow
  rw [flush_5, decide_eq_true_eq] at hf
  congr 1
  apply Fin.ext
  show t.val % 4 * 2048 + q.val = 4096 + ((t.val % 4 - 2) * 2048 + q.val)
  omega

/-- The run with both result arrays named. -/
theorem run_blocks (ρ : Dev nD → PrngReg) : θ_run defs (onTc (τ := τ) (main (F := Ideal))) ⟨m, fun _ => 0, ρ⟩ fun r => ∀ c : Dev nD,
      r.2.mem ((c.tc : Thread nD τ).loc main_v15_0) = (dats m 0 c).arrAt 4 cfg0.N
      ∧ r.2.mem ((c.tc : Thread nD τ).loc main_v15_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 4, (h.1.1 c).1 5, h.2 c⟩)
    (θ_run_and (run_quiescent m ρ)
      (frame_of m ρ (dats m) (A_eq m) ((θ_run defs _ _).mono (fun _ h => h.1) (run_quiescent m ρ))))

end Cert.Proof.In
end
-- ==== Proof.InRef.lean ====
/-
  The input projection's reference on the extended reals: its two result terms are the functions that the kernel's
  arrays are.
-/
module

public import proofs.«01_k».proof.Proof.InArray

@[expose] public section

set_option maxRecDepth 16384

noncomputable section

namespace Cert.Proof.In

open Idealize.ShloMosaic Idealize.ShloMosaic.TcCoe Idealize.SL.Sem
open Cert.Reference2Ideal Cert.Reference2Ideal.Gen

/-- The reference's normalised and modulated input. -/
def modulated (x : FVec Ideal S8x4096x1024 .f32) (md : FVec Ideal S8x3072 .f32) (g : FVec Ideal S1024 .f32) : FVec Ideal S8x4096x1024 .f32 :=
  (addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] md slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] md slices_S8x3072_S8x1024_0_0))))

/-- The reference's product with all the weights. -/
def product (x : FVec Ideal S8x4096x1024 .f32) (md : FVec Ideal S8x3072 .f32) (g : FVec Ideal S1024 .f32) (w : FVec Ideal S1024x8192 .f32) : FVec Ideal S8x4096x8192 .f32 :=
  Host.dotGeneral dot_S8x4096x1024_S1024x8192_S8x4096x8192_2_0_01_1_n_n none (modulated x md g) w

theorem modulated_apply (x : FVec Ideal S8x4096x1024 .f32) (md : FVec Ideal S8x3072 .f32) (g : FVec Ideal S1024 .f32) (r : Fin 32768) (k : Fin 1024) :
    modulated x md g (ix3 ⟨r / 4096, by omega⟩ ⟨r % 4096, by omega⟩ k) = hrow x md g r k := by
  pointwise [modulated]
  rfl

theorem product_apply (x : FVec Ideal S8x4096x1024 .f32) (md : FVec Ideal S8x3072 .f32) (g : FVec Ideal S1024 .f32) (w : FVec Ideal S1024x8192 .f32) (r : Fin 32768) (j : Fin 8192) :
    product x md g w (ix3 ⟨r / 4096, by omega⟩ ⟨r % 4096, by omega⟩ j) = sect x md g w r j := by
  pointwise [product]
  simp only [modulated_apply]
  rfl

/-- The reference's full-width result is `wide` of the same arrays. -/
theorem ref_wide (x : FVec Ideal S8x4096x1024 .f32) (md : FVec Ideal S8x3072 .f32) (g : FVec Ideal S1024 .f32) (w : FVec Ideal S1024x8192 .f32) :
    (shapeCast S32768x4096 ((concatenate S8x4096x4096 2 [⟨S8x4096x1024, ((extractStridedSlice S8x4096x1024 ![0, 0, 0] (product x md g w) slices_S8x4096x8192_S8x4096x1024_0_0_0) : FVec Ideal S8x4096x1024 .f32)⟩, ⟨S8x4096x1024, ((extractStridedSlice S8x4096x1024 ![0, 0, 1024] (product x md g w) slices_S8x4096x8192_S8x4096x1024_0_0_1024) : FVec Ideal S8x4096x1024 .f32)⟩, ⟨S8x4096x1024, ((extractStridedSlice S8x4096x1024 ![0, 0, 3072] (product x md g w) slices_S8x4096x8192_S8x4096x1024_0_0_3072) : FVec Ideal S8x4096x1024 .f32)⟩, ⟨S8x4096x1024, ((extractStridedSlice S8x4096x1024 ![0, 0, 7168] (product x md g w) slices_S8x4096x8192_S8x4096x1024_0_0_7168) : FVec Ideal S8x4096x1024 .f32)⟩] concatenates_S8x4096x1024_S8x4096x1024_S8x4096x1024_S8x4096x1024_S8x4096x4096_d2 : FVec Ideal S8x4096x4096 .f32)) shapeCasts_S8x4096x4096_S32768x4096 : FVec Ideal S32768x4096 .f32) = wide x md g w := by
  funext y
  obtain ⟨p, q, rfl⟩ : ∃ (p : Fin 32768) (q : Fin 4096), y = ix2 p q := ⟨y 0, y 1, eq_ix2 y⟩
  pointwise
  simp only [product_apply]
  unfold wide prod
  have e : ∀ a b : Fin 8192, a.val = b.val → sect x md g w p a = sect x md g w p b := fun a b h => by rw [Fin.ext h]
  show _ = sect x md g w p (srcCol ⟨q.val, by omega⟩) * factor ⟨q.val, by omega⟩
  rw [show factor ⟨q.val, by omega⟩ = 1 from if_neg (by dsimp only; omega), mul_one]
  split_ifs
  all_goals
    refine e _ _ ?_
    unfold srcCol
    dsimp only
    split_ifs <;> omega

/-- The reference's narrowed result is `narrow` of the same arrays. -/
theorem ref_narrow (x : FVec Ideal S8x4096x1024 .f32) (md : FVec Ideal S8x3072 .f32) (g : FVec Ideal S1024 .f32) (w : FVec Ideal S1024x8192 .f32) :
    (truncf .bf16 (shapeCast S32768x4096 ((concatenate S8x4096x4096 2 [⟨S8x4096x1024, ((extractStridedSlice S8x4096x1024 ![0, 0, 2048] (product x md g w) slices_S8x4096x8192_S8x4096x1024_0_0_2048) : FVec Ideal S8x4096x1024 .f32)⟩, ⟨S8x4096x1024, ((mulf (extractStridedSlice S8x4096x1024 ![0, 0, 4096] (product x md g w) slices_S8x4096x8192_S8x4096x1024_0_0_4096) (broadcastInDim S8x4096x1024 ![] bcast_S_S8x4096x1024 (constant S_ .f32 0x3E38AA3B#32))) : FVec Ideal S8x4096x1024 .f32)⟩, ⟨S8x4096x1024, ((extractStridedSlice S8x4096x1024 ![0, 0, 5120] (product x md g w) slices_S8x4096x8192_S8x4096x1024_0_0_5120) : FVec Ideal S8x4096x1024 .f32)⟩, ⟨S8x4096x1024, ((extractStridedSlice S8x4096x1024 ![0, 0, 6144] (product x md g w) slices_S8x4096x8192_S8x4096x1024_0_0_6144) : FVec Ideal S8x4096x1024 .f32)⟩] concatenates_S8x4096x1024_S8x4096x1024_S8x4096x1024_S8x4096x1024_S8x4096x4096_d2 : FVec Ideal S8x4096x4096 .f32)) shapeCasts_S8x4096x4096_S32768x4096) bitsLt_bf16_f32 : FVec Ideal S32768x4096 .bf16) = narrow x md g w := by
  funext y
  obtain ⟨p, q, rfl⟩ : ∃ (p : Fin 32768) (q : Fin 4096), y = ix2 p q := ⟨y 0, y 1, eq_ix2 y⟩
  pointwise
  simp only [product_apply]
  unfold narrow prod
  have e : ∀ a b : Fin 8192, a.val = b.val → sect x md g w p a = sect x md g w p b := fun a b h => by rw [Fin.ext h]
  show _ = sect x md g w p (srcCol ⟨4096 + q.val, by omega⟩) * factor ⟨4096 + q.val, by omega⟩
  by_cases h1 : q.val < 1024
  · rw [dif_pos h1, show factor ⟨4096 + q.val, by omega⟩ = 1 from if_neg (by dsimp only; omega), mul_one]
    refine e _ _ ?_
    unfold srcCol
    dsimp only
    split_ifs <;> omega
  rw [dif_neg h1]
  by_cases h2 : q.val - 1024 < 1024
  · rw [dif_pos h2, show factor ⟨4096 + q.val, by omega⟩ = Ideal.ofBits .f32 0x3E38AA3B#32 from if_pos (by dsimp only; omega)]
    refine congrArg (fun z : EReal => z * Ideal.ofBits .f32 0x3E38AA3B#32) (e _ _ ?_)
    unfold srcCol
    dsimp only
    split_ifs <;> omega
  rw [dif_neg h2, show factor ⟨4096 + q.val, by omega⟩ = 1 from if_neg (by dsimp only; omega), mul_one]
  by_cases h3 : q.val - 1024 - 1024 < 1024
  · rw [dif_pos h3]
    refine e _ _ ?_
    unfold srcCol
    dsimp only
    split_ifs <;> omega
  · rw [dif_neg h3]
    refine e _ _ ?_
    unfold srcCol
    dsimp only
    split_ifs <;> omega

end Cert.Proof.In
end
-- ==== Proof.InClaim.lean ====
/-
  The input projection computes the functions of its reference on the extended reals: the kernel's two result arrays
  (InArray) and the reference's two terms (InRef) are the same functions of the arguments.
-/
module

public import proofs.«01_k».proof.Defs
public import proofs.«01_k».proof.Proof.InArray
public import proofs.«01_k».proof.Proof.InRef

@[expose] public section

set_option maxRecDepth 16384

noncomputable section

namespace Cert.Proof.In

open Idealize.ShloMosaic Idealize.ShloMosaic.TcCoe Idealize.SL.Sem

theorem algebraic : Cert.algebraic_Kernel2Ideal_Reference2Ideal := by
  intro m ρ m' ρ' _ hagree
  refine ⟨_, _, run_blocks m ρ, ?_⟩
  refine (θ_run Cert.Reference2Ideal.defs _ _).mono
    (fun _ h c => ⟨(h c).1.trans ?_, (h c).2.1.trans ?_, (h c).2.2⟩) (Cert.Reference2Ideal.Value.run (F := Ideal) m' ρ')
  · obtain ⟨h0, h1, h2, h3⟩ := hagree c
    unfold Cert.Reference2Ideal.Value.res_main_v37
    rw [h0, h1, h2, h3]
    exact (ref_wide _ _ _ _).trans (wide_eq m c).symm
  · obtain ⟨h0, h1, h2, h3⟩ := hagree c
    unfold Cert.Reference2Ideal.Value.res_main_v39
    rw [h0, h1, h2, h3]
    exact (ref_narrow _ _ _ _).trans (narrow_eq m c).symm

end Cert.Proof.In
end
-- ==== Proof.RecOps.lean ====
module
public import proofs.«01_k».proof.Proof.Gen.KernelIdeal.Loops
public import Idealize.ShloMosaic.Lib.Pointwise
public import Idealize.ShloMosaic.Lib.Pipeline.ValueKit
@[expose] public section
/-! The recurrence's products within a chunk of 128 rows, over the reals. Both ways the kernel has of taking
them come to `score`: a pair of rows `s ≤ t` weighs `∑ d, q t d * k s d * 2 ^ (b t d - b s d)`. -/
set_option maxRecDepth 16384
noncomputable section
namespace Cert.Proof.Rec
open Cert.KernelIdeal Cert.KernelIdeal.Gen
open Idealize.ShloMosaic Idealize.ShloMosaic.TcCoe Idealize.SL.Sem

/-- The zero matrix that a product starts from. -/
abbrev zeros : FVec Ideal S128x128 .f32 := constant S128x128 .f32 0x00000000#32

/-- One chunk's products within the chunk, when the decays are small enough to be split within blocks of 16 rows. -/
def direct (v36 v43 v50 : FVec Ideal S128x128 .f32) (lv : Vec Ideal S128x128 .i32) (q : FVec Ideal S128x128 .bf16)
    (k3 : FVec Ideal S1x128x128 .bf16) (iv : FVec Ideal S128x128 .bf16) (b : FVec Ideal S128x128 .f32) : FVec Ideal S128x128 .f32 :=
  k0_pay48 (F := Ideal) lv q (k0_pay8 (F := Ideal) k3) iv (k0_pay40 (F := Ideal) lv (k0_pay32 (F := Ideal) v36 lv q (k0_pay8 (F := Ideal) k3) b (k0_pay13 (F := Ideal) q b) (k0_pay14 (F := Ideal) k3 b) (k0_pay25 (F := Ideal) lv))
    (k0_pay39 (F := Ideal) v43 q (k0_pay8 (F := Ideal) k3) b)) (k0_pay44 (F := Ideal) v50 b)

/-- The same, with one product for every bit at which the rows of a pair part. -/
def levels (v29 v36 v43 v50 : FVec Ideal S128x128 .f32) (lv : Vec Ideal S128x128 .i32) (q : FVec Ideal S128x128 .bf16)
    (k3 : FVec Ideal S1x128x128 .bf16) (iv : FVec Ideal S128x128 .bf16) (b d2 d4 : FVec Ideal S128x128 .f32)
    (e3 : FVec Ideal S1x128x128 .bf16) : FVec Ideal S128x128 .f32 :=
  k0_pay178 (F := Ideal) lv iv (k0_pay168 (F := Ideal) (k0_pay157 (F := Ideal) v36 lv q (k0_pay8 (F := Ideal) k3) b (k0_pay148 (F := Ideal) v29 lv q (k0_pay8 (F := Ideal) k3) b
    (k0_pay140 (F := Ideal) lv q (k0_pay8 (F := Ideal) k3) (k0_pay133 (F := Ideal) lv q (k0_pay8 (F := Ideal) k3) (k0_pay117 (F := Ideal) lv q (k0_pay8 (F := Ideal) k3))
      (k0_pay125 (F := Ideal) q e3) (k0_pay126 (F := Ideal) (k0_pay8 (F := Ideal) k3) e3) zeros d2) d4)))
    (k0_pay166 (F := Ideal) v43 q (k0_pay8 (F := Ideal) k3) b) (k0_pay167 (F := Ideal) lv)) (k0_pay176 (F := Ideal) v50 q b) (k0_pay177 (F := Ideal) v50 (k0_pay8 (F := Ideal) k3) b) zeros

/-- The number `-1` or `1` as bit `h` of the row is clear or set. -/
def sgn (h t : ℕ) : ℝ := if t / h % 2 = 1 then 1 else -1

/-- A pair's weight within the chunk. -/
def score (Q K B : ℕ → ℕ → ℝ) (t s : ℕ) : ℝ :=
  if s ≤ t then ∑ d : Fin 128, Q t d * K s d * (2:ℝ) ^ (B t d - B s d) else 0

/-- Where two rows of a pair part: not at all, or at the bit `n`, set in the later row and clear in the earlier. -/
def Level (t s : ℕ) (l : BitVec 32) : Prop :=
  (t < s ∧ l = 4294967295#32) ∨ (t = s ∧ l = 0#32) ∨
  ∃ n < 7, l = BitVec.ofNat 32 (n + 1) ∧ t / 2 ^ (n + 1) = s / 2 ^ (n + 1) ∧ t / 2 ^ n % 2 = 1 ∧ s / 2 ^ n % 2 = 0

/-- The exponent a row of a block of `2 * h` rows is decayed by: from the block's middle row for a late row,
to it for an early one. -/
def pre (B : ℕ → ℕ → ℝ) (h t d : ℕ) : ℝ := (B t d - B (t / (2 * h) * (2 * h) + h - 1) d) * sgn h t

theorem pre_add {B : ℕ → ℕ → ℝ} {h t s d : ℕ} (h1 : t / (2 * h) = s / (2 * h)) (h2 : t / h % 2 = 1) (h3 : s / h % 2 = 0) :
    pre B h t d + pre B h s d = B t d - B s d := by
  simp only [pre, sgn, h2, h3, h1]
  norm_num

theorem sum_coe {n : ℕ} {f : Fin n → EReal} {g : Fin n → ℝ} (h : ∀ i, f i = ((g i : ℝ) : EReal)) :
    ∑ i, f i = ((∑ i, g i : ℝ) : EReal) := by
  rw [Finset.sum_congr rfl fun i _ => h i]
  exact (map_sum (⟨⟨Real.toEReal, rfl⟩, fun a b => EReal.coe_add a b⟩ : ℝ →+ EReal) g Finset.univ).symm

theorem exp2_real (x : ℝ) : (FloatOps.exp2 (F := Ideal) (φ := .f32) ((x : ℝ) : EReal) : EReal) = (((2:ℝ) ^ x : ℝ) : EReal) :=
  Ideal.exp2_coe x

theorem sel_t {α : Type} {c : BitVec 1} {x y : α} (h : c = 1#1) : Scalar.select c x y = x := by subst h; rfl

theorem sel_f {α : Type} {c : BitVec 1} {x y : α} (h : c = 0#1) : Scalar.select c x y = y := by subst h; rfl

variable {v29 v36 v43 v50 : FVec Ideal S128x128 .f32} {lv : Vec Ideal S128x128 .i32} {q : FVec Ideal S128x128 .bf16}
    {k3 e3 : FVec Ideal S1x128x128 .bf16} {iv : FVec Ideal S128x128 .bf16} {b d2 d4 : FVec Ideal S128x128 .f32}
    {Q K B I : ℕ → ℕ → ℝ}

/-- A product of two decayed factors: the exponents add. -/
theorem pair_sum (t s : Fin 128) (et es : Fin 128 → EReal) (Et Es : Fin 128 → ℝ)
    (hq : ∀ t d : Fin 128, q (ix2 t d) = ((Q t d : ℝ) : EReal))
    (hk : ∀ t d : Fin 128, k3 (ix3 0 t d) = ((K t d : ℝ) : EReal))
    (ht : ∀ d, et d = (((2:ℝ) ^ Et d : ℝ) : EReal)) (hs : ∀ d, es d = (((2:ℝ) ^ Es d : ℝ) : EReal))
    (h : ∀ d : Fin 128, Et d + Es d = B t d - B s d) :
    ∑ x, q (ix2 t x) * et x * (k3 (ix3 0 s x) * es x)
      = ((∑ d : Fin 128, Q t d * K s d * (2:ℝ) ^ (B t d - B s d) : ℝ) : EReal) := by
  refine sum_coe fun d => ?_
  rw [hq, hk, ht, hs, ← h d, Real.rpow_add (by norm_num), ← EReal.coe_mul, ← EReal.coe_mul, ← EReal.coe_mul]
  congr 1; ring

/-- Both factors decayed to a row between the two. -/
theorem mid_sum {v : FVec Ideal S128x128 .f32} (t s : Fin 128) (m : Fin 128) (mt ms : Fin 128 → EReal)
    (hq : ∀ t d : Fin 128, q (ix2 t d) = ((Q t d : ℝ) : EReal))
    (hk : ∀ t d : Fin 128, k3 (ix3 0 t d) = ((K t d : ℝ) : EReal))
    (hb : ∀ t d : Fin 128, b (ix2 t d) = ((B t d : ℝ) : EReal))
    (hmt : ∀ d, mt d = b (ix2 m d)) (hms : ∀ d, ms d = b (ix2 m d))
    (hvt : ∀ d, v (ix2 t d) = ((1 : ℝ) : EReal)) (hvs : ∀ d, v (ix2 s d) = ((-1 : ℝ) : EReal)) :
    ∑ x, q (ix2 t x) * FloatOps.exp2 (F := Ideal) (φ := .f32) ((b (ix2 t x) - mt x) * v (ix2 t x))
        * (k3 (ix3 0 s x) * FloatOps.exp2 (F := Ideal) (φ := .f32) ((b (ix2 s x) - ms x) * v (ix2 s x)))
      = ((∑ d : Fin 128, Q t d * K s d * (2:ℝ) ^ (B t d - B s d) : ℝ) : EReal) := by
  refine pair_sum t s _ _ (fun d => (B t d - B m d) * 1) (fun d => (B s d - B m d) * (-1)) hq hk (fun d => ?_) (fun d => ?_)
    fun d => by ring
  · rw [hmt, hb, hb, hvt, ← EReal.coe_sub, ← EReal.coe_mul]; exact exp2_real _
  · rw [hms, hb, hb, hvs, ← EReal.coe_sub, ← EReal.coe_mul]; exact exp2_real _

/-- A row with itself. -/
theorem self_score (t : ℕ) : score Q K B t t = ∑ d : Fin 128, Q t d * K t d := by
  simp [score]

/-- Two rows of one block of 16, each decayed to the block's start. -/
theorem near_sum (t s : Fin 128) (h : (t : ℕ) / 16 = s / 16)
    (hq : ∀ t d : Fin 128, q (ix2 t d) = ((Q t d : ℝ) : EReal))
    (hk : ∀ t d : Fin 128, k3 (ix3 0 t d) = ((K t d : ℝ) : EReal))
    (hb : ∀ t d : Fin 128, b (ix2 t d) = ((B t d : ℝ) : EReal)) :
    ∑ x, q (ix2 t x) * FloatOps.exp2 (F := Ideal) (φ := .f32) (b (ix2 t x) - if h : (t : ℕ) / 16 < 1 then 0 else b (ix2 ⟨((t : ℕ) / 16 - 1) * 16 + 15, by omega⟩ x))
        * (k3 (ix3 0 s x) * FloatOps.exp2 (F := Ideal) (φ := .f32) (0 - (b (ix2 s x) - if h : (s : ℕ) / 16 < 1 then 0 else b (ix2 ⟨((s : ℕ) / 16 - 1) * 16 + 15, by omega⟩ x))))
      = ((∑ d : Fin 128, Q t d * K s d * (2:ℝ) ^ (B t d - B s d) : ℝ) : EReal) := by
  let M : ℕ → ℝ := fun d => if (t : ℕ) / 16 < 1 then 0 else B (((t : ℕ) / 16 - 1) * 16 + 15) d
  have hM : ∀ (r : Fin 128) (d : Fin 128), (r : ℕ) / 16 = t / 16 →
      (if h : (r : ℕ) / 16 < 1 then (0 : EReal) else b (ix2 ⟨((r : ℕ) / 16 - 1) * 16 + 15, by omega⟩ d)) = ((M d : ℝ) : EReal) := by
    intro r d hr
    by_cases h0 : (r : ℕ) / 16 < 1
    · rw [dif_pos h0]; simp only [M]; rw [if_pos (by omega)]; rfl
    · rw [dif_neg h0, hb]; simp only [M]; rw [if_neg (by omega), hr]
  refine pair_sum t s _ _ (fun d => B t d - M d) (fun d => 0 - (B s d - M d)) hq hk (fun d => ?_) (fun d => ?_)
    fun d => by ring
  · rw [hM t d rfl, hb, ← EReal.coe_sub]; exact exp2_real _
  · rw [hM s d h.symm, hb, ← EReal.coe_sub, ← EReal.coe_zero, ← EReal.coe_sub]; exact exp2_real _

set_option maxHeartbeats 2000000 in
theorem direct_val (h36 : ∀ t d : Fin 128, v36 (ix2 t d) = ((sgn 16 t : ℝ) : EReal))
    (h43 : ∀ t d : Fin 128, v43 (ix2 t d) = ((sgn 32 t : ℝ) : EReal))
    (h50 : ∀ t d : Fin 128, v50 (ix2 t d) = ((sgn 64 t : ℝ) : EReal))
    (hl : ∀ t s : Fin 128, Level t s (lv (ix2 t s)))
    (hq : ∀ t d : Fin 128, q (ix2 t d) = ((Q t d : ℝ) : EReal))
    (hk : ∀ t d : Fin 128, k3 (ix3 0 t d) = ((K t d : ℝ) : EReal))
    (hi : ∀ t d : Fin 128, iv (ix2 t d) = ((I t d : ℝ) : EReal))
    (hb : ∀ t d : Fin 128, b (ix2 t d) = ((B t d : ℝ) : EReal)) (t v : Fin 128) :
    direct v36 v43 v50 lv q k3 iv b (ix2 t v) = ((∑ s : Fin 128, score Q K B t s * I s v : ℝ) : EReal) := by
  pointwise [direct, k0_pay48, k0_pay8, k0_pay40, k0_pay32, k0_pay13, k0_pay14, k0_pay25, k0_pay39, k0_pay44, k0_pay12]
  refine sum_coe fun s => ?_
  rw [EReal.coe_mul, hi]
  refine congrArg (· * ((I s v : ℝ) : EReal)) ?_
  have hl' := hl t s
  generalize lv (ix2 t s) = l at hl' ⊢
  rcases hl' with ⟨h, e⟩ | ⟨h, e⟩ | ⟨n, hn, e, h1, h2, h3⟩
  · rw [score, if_neg (by omega), e]
    rfl
  · rw [score, if_pos (by omega), e]
    refine (sel_f (by decide)).trans ((sel_f (by decide)).trans ((sel_f (by decide)).trans ((sel_t (by decide)).trans ?_)))
    exact near_sum t s (by omega) hq hk hb
  · have hle : (s : ℕ) ≤ t := by interval_cases n <;> omega
    rw [score, if_pos hle, e]
    by_cases hn4 : n < 4
    · have hb16 : (t : ℕ) / 16 = s / 16 := by interval_cases n <;> omega
      refine Eq.trans ?_ (near_sum t s hb16 hq hk hb)
      interval_cases n <;> exact (sel_f (by decide)).trans ((sel_f (by decide)).trans ((sel_f (by decide)).trans (sel_t (by decide))))
    have hn' : n = 4 ∨ n = 5 ∨ n = 6 := by omega
    rcases hn' with rfl | rfl | rfl
    · refine (sel_f (by decide)).trans ((sel_f (by decide)).trans ((sel_t (by decide)).trans ?_))
      refine mid_sum t s ⟨t / 32 * 32 + 15, by omega⟩ _ _ hq hk hb (fun d => rfl) (fun d => ?_) (fun d => ?_) (fun d => ?_)
      · congr 3; omega
      · rw [h36, sgn, if_pos (by omega)]
      · rw [h36, sgn, if_neg (by omega)]
    · refine (sel_f (by decide)).trans ((sel_t (by decide)).trans ?_)
      refine mid_sum t s ⟨t / 64 * 64 + 31, by omega⟩ _ _ hq hk hb (fun d => rfl) (fun d => ?_) (fun d => ?_) (fun d => ?_)
      · congr 3; omega
      · rw [h43, sgn, if_pos (by omega)]
      · rw [h43, sgn, if_neg (by omega)]
    · refine (sel_t (by decide)).trans ?_
      refine mid_sum t s 63 _ _ hq hk hb (fun d => rfl) (fun d => rfl) (fun d => ?_) (fun d => ?_)
      · rw [h50, sgn, if_pos (by omega)]
      · rw [h50, sgn, if_neg (by omega)]

/-- Both factors decayed by exponents taken beforehand. -/
theorem pre_sum {d2 : FVec Ideal S128x128 .f32} (h : ℕ) (t s : Fin 128) (hq : ∀ t d : Fin 128, q (ix2 t d) = ((Q t d : ℝ) : EReal))
    (hk : ∀ t d : Fin 128, k3 (ix3 0 t d) = ((K t d : ℝ) : EReal))
    (hd : ∀ t d : Fin 128, d2 (ix2 t d) = ((pre B h t d : ℝ) : EReal))
    (h1 : (t : ℕ) / (2 * h) = s / (2 * h)) (h2 : (t : ℕ) / h % 2 = 1) (h3 : (s : ℕ) / h % 2 = 0) :
    ∑ x, q (ix2 t x) * FloatOps.exp2 (F := Ideal) (φ := .f32) (d2 (ix2 t x)) * (k3 (ix3 0 s x) * FloatOps.exp2 (F := Ideal) (φ := .f32) (d2 (ix2 s x)))
      = ((∑ d : Fin 128, Q t d * K s d * (2:ℝ) ^ (B t d - B s d) : ℝ) : EReal) := by
  refine pair_sum t s _ _ (fun d => pre B h t d) (fun d => pre B h s d) hq hk (fun d => ?_) (fun d => ?_) fun d => pre_add h1 h2 h3
  · rw [hd]; exact exp2_real _
  · rw [hd]; exact exp2_real _

set_option maxHeartbeats 4000000 in
theorem levels_val (h29 : ∀ t d : Fin 128, v29 (ix2 t d) = ((sgn 8 t : ℝ) : EReal))
    (h36 : ∀ t d : Fin 128, v36 (ix2 t d) = ((sgn 16 t : ℝ) : EReal))
    (h43 : ∀ t d : Fin 128, v43 (ix2 t d) = ((sgn 32 t : ℝ) : EReal))
    (h50 : ∀ t d : Fin 128, v50 (ix2 t d) = ((sgn 64 t : ℝ) : EReal))
    (hl : ∀ t s : Fin 128, Level t s (lv (ix2 t s)))
    (hq : ∀ t d : Fin 128, q (ix2 t d) = ((Q t d : ℝ) : EReal))
    (hk : ∀ t d : Fin 128, k3 (ix3 0 t d) = ((K t d : ℝ) : EReal))
    (hi : ∀ t d : Fin 128, iv (ix2 t d) = ((I t d : ℝ) : EReal))
    (hb : ∀ t d : Fin 128, b (ix2 t d) = ((B t d : ℝ) : EReal))
    (h2 : ∀ t d : Fin 128, d2 (ix2 t d) = ((pre B 2 t d : ℝ) : EReal))
    (h4 : ∀ t d : Fin 128, d4 (ix2 t d) = ((pre B 4 t d : ℝ) : EReal))
    (he : ∀ t d : Fin 128, e3 (ix3 0 t d) = (((2:ℝ) ^ pre B 1 t d : ℝ) : EReal)) (t v : Fin 128) :
    levels v29 v36 v43 v50 lv q k3 iv b d2 d4 e3 (ix2 t v) = ((∑ s : Fin 128, score Q K B t s * I s v : ℝ) : EReal) := by
  pointwise [levels, k0_pay178, k0_pay168, k0_pay157, k0_pay148, k0_pay140, k0_pay133, k0_pay117, k0_pay125, k0_pay126, k0_pay8, k0_pay166, k0_pay167, k0_pay176, k0_pay177, k0_pay121, k0_pay172]
  refine sum_coe fun s => ?_
  rw [EReal.coe_mul, hi]
  refine congrArg (· * ((I s v : ℝ) : EReal)) ?_
  have hl' := hl t s
  generalize lv (ix2 t s) = l at hl' ⊢
  rcases hl' with ⟨h, e⟩ | ⟨h, e⟩ | ⟨n, hn, e, h1, hp, hm⟩
  · rw [score, if_neg (by omega), e]
    rfl
  · rw [e]
    refine (sel_f (by decide)).trans ((sel_f (by decide)).trans ((sel_f (by decide)).trans ((sel_f (by decide)).trans ((sel_f (by decide)).trans ((sel_f (by decide)).trans ((sel_f (by decide)).trans ((sel_t (by decide)).trans ?_)))))))
    rw [show (s : ℕ) = t from h.symm, self_score]
    refine sum_coe fun d => ?_
    rw [hq, hk, EReal.coe_mul, h]
  · have hle : (s : ℕ) ≤ t := by interval_cases n <;> omega
    rw [score, if_pos hle, e]
    interval_cases n
    · refine (sel_f (by decide)).trans ((sel_f (by decide)).trans ((sel_f (by decide)).trans ((sel_f (by decide)).trans ((sel_f (by decide)).trans ((sel_f (by decide)).trans ((sel_t (by decide)).trans ?_))))))
      exact pair_sum t s _ _ (fun d => pre B 1 t d) (fun d => pre B 1 s d) hq hk (fun d => he t d) (fun d => he s d)
        fun d => pre_add h1 hp hm
    · refine (sel_f (by decide)).trans ((sel_f (by decide)).trans ((sel_f (by decide)).trans ((sel_f (by decide)).trans ((sel_f (by decide)).trans ((sel_t (by decide)).trans ?_)))))
      exact pre_sum 2 t s hq hk h2 h1 hp hm
    · refine (sel_f (by decide)).trans ((sel_f (by decide)).trans ((sel_f (by decide)).trans ((sel_f (by decide)).trans ((sel_t (by decide)).trans ?_))))
      exact pre_sum 4 t s hq hk h4 h1 hp hm
    · refine (sel_f (by decide)).trans ((sel_f (by decide)).trans ((sel_f (by decide)).trans ((sel_t (by decide)).trans ?_)))
      refine mid_sum t s ⟨t / 16 * 16 + 7, by omega⟩ _ _ hq hk hb (fun d => rfl) (fun d => ?_) (fun d => ?_) (fun d => ?_)
      · congr 3; omega
      · rw [h29, sgn, if_pos (by omega)]
      · rw [h29, sgn, if_neg (by omega)]
    · refine (sel_f (by decide)).trans ((sel_f (by decide)).trans ((sel_t (by decide)).trans ?_))
      refine mid_sum t s ⟨t / 32 * 32 + 15, by omega⟩ _ _ hq hk hb (fun d => rfl) (fun d => ?_) (fun d => ?_) (fun d => ?_)
      · congr 3; omega
      · rw [h36, sgn, if_pos (by omega)]
      · rw [h36, sgn, if_neg (by omega)]
    · refine (sel_f (by decide)).trans ((sel_t (by decide)).trans ?_)
      refine mid_sum t s ⟨t / 64 * 64 + 31, by omega⟩ _ _ hq hk hb (fun d => rfl) (fun d => ?_) (fun d => ?_) (fun d => ?_)
      · congr 3; omega
      · rw [h43, sgn, if_pos (by omega)]
      · rw [h43, sgn, if_neg (by omega)]
    · refine (sel_t (by decide)).trans ?_
      refine mid_sum t s 63 _ _ hq hk hb (fun d => rfl) (fun d => rfl) (fun d => ?_) (fun d => ?_)
      · rw [h50, sgn, if_pos (by omega)]
      · rw [h50, sgn, if_neg (by omega)]

end Cert.Proof.Rec
end
-- ==== Proof.RecMem.lean ====
module
public import proofs.«01_k».proof.Proof.RecOps
public import Idealize.ShloMosaic.Lib.WritesUnit
@[expose] public section
/-! Loads and stores of a box of a buffer, read at an index. -/
noncomputable section
namespace Cert.Proof.Rec
open Idealize.ShloMosaic Idealize.ShloMosaic.TcCoe Idealize.SL.Sem
variable {sg : RefSig} {κ : Kind} {sp : Space} {m n l a b p : ℕ} {e : EltTy}

/-- A load of a box of a matrix. -/
theorem load2 (v : View sg κ sp ⟨2, ![m, n]⟩ e) (f : v.ty.Contents (Elt Ideal)) {off : Fin 2 → ℕ} (o0 o1 : ℕ) (ho : off = ![o0, o1])
    (inb : ∀ x : Fin 2, off x + ![a, b] x ≤ (⟨2, ![m, n]⟩ : Shape).size x) (t : Fin a) (d : Fin b) {x : Elt Ideal e}
    (h : ∀ (r : Fin m) (c : Fin n), (r : ℕ) = o0 + t → (c : ℕ) = o1 + d → v.read (Elt Ideal) f (ix2 r c) = x) :
    v.readAt (Elt Ideal) (Rect.unit (s := ⟨2, ![m, n]⟩) off ![a, b] inb).toLoadRect f (ix2 t d) = x := by
  subst ho
  have h0 : o0 + a ≤ m := inb 0
  have h1 : o1 + b ≤ n := inb 1
  have ht := t.isLt
  have hd := d.isLt
  rw [← h ⟨o0 + t, by omega⟩ ⟨o1 + d, by omega⟩ rfl rfl]
  refine congrArg (v.read (Elt Ideal) f) (funext fun i => Fin.ext ?_)
  revert i
  refine Fin.forall_fin_two.mpr ⟨?_, ?_⟩
  · exact congrArg (o0 + ·) (Nat.one_mul _)
  · exact congrArg (o1 + ·) (Nat.one_mul _)

/-- A load of a box of an array of three axes. -/
theorem load3 (v : View sg κ sp ⟨3, ![l, m, n]⟩ e) (f : v.ty.Contents (Elt Ideal)) {off : Fin 3 → ℕ} (o0 o1 o2 : ℕ) (ho : off = ![o0, o1, o2])
    (inb : ∀ x : Fin 3, off x + ![p, a, b] x ≤ (⟨3, ![l, m, n]⟩ : Shape).size x) (u : Fin p) (t : Fin a) (d : Fin b) {x : Elt Ideal e}
    (h : ∀ (q : Fin l) (r : Fin m) (c : Fin n), (q : ℕ) = o0 + u → (r : ℕ) = o1 + t → (c : ℕ) = o2 + d → v.read (Elt Ideal) f (ix3 q r c) = x) :
    v.readAt (Elt Ideal) (Rect.unit (s := ⟨3, ![l, m, n]⟩) off ![p, a, b] inb).toLoadRect f (ix3 u t d) = x := by
  subst ho
  have h0 : o0 + p ≤ l := inb 0
  have h1 : o1 + a ≤ m := inb 1
  have h2 : o2 + b ≤ n := inb 2
  have hu := u.isLt
  have ht := t.isLt
  have hd := d.isLt
  rw [← h ⟨o0 + u, by omega⟩ ⟨o1 + t, by omega⟩ ⟨o2 + d, by omega⟩ rfl rfl rfl]
  refine congrArg (v.read (Elt Ideal) f) (funext fun i => Fin.ext ?_)
  revert i
  refine Fin.forall_fin_succ.mpr ⟨?_, Fin.forall_fin_two.mpr ⟨?_, ?_⟩⟩
  · exact congrArg (o0 + ·) (Nat.one_mul _)
  · exact congrArg (o1 + ·) (Nat.one_mul _)
  · exact congrArg (o2 + ·) (Nat.one_mul _)

/-- What the last store of a list put at an index of its box. -/
theorem put2_hit (v : View sg κ sp ⟨2, ![m, n]⟩ e) (f : v.ty.Contents (Elt Ideal)) {off : Fin 2 → ℕ} (o0 o1 : ℕ) (ho : off = ![o0, o1])
    (inb : ∀ x : Fin 2, off x + ![a, b] x ≤ (⟨2, ![m, n]⟩ : Shape).size x) (w : (⟨2, ![a, b]⟩ : Shape).Idx → Elt Ideal e)
    (L : List (View.Piece (Elt Ideal) ⟨2, ![m, n]⟩ e)) {r : Fin m} {c : Fin n} (t : Fin a) (d : Fin b) (hr : (r : ℕ) = o0 + t) (hc : (c : ℕ) = o1 + d) :
    v.read (Elt Ideal) (v.writes (Elt Ideal) f (⟨Rect.unit (s := ⟨2, ![m, n]⟩) off ![a, b] inb, w⟩ :: L)) (ix2 r c) = w (ix2 t d) :=
  View.read_writes_cons_unit_of_mem v f inb w L (ix2 r c) (ix2 t d) ho (Fin.forall_fin_two.mpr ⟨hr, hc⟩)

/-- An index off its box has what the stores before it put there. -/
theorem put2_miss (v : View sg κ sp ⟨2, ![m, n]⟩ e) (f : v.ty.Contents (Elt Ideal)) {off : Fin 2 → ℕ} (o0 o1 : ℕ) (ho : off = ![o0, o1])
    (inb : ∀ x : Fin 2, off x + ![a, b] x ≤ (⟨2, ![m, n]⟩ : Shape).size x) (w : (⟨2, ![a, b]⟩ : Shape).Idx → Elt Ideal e)
    (L : List (View.Piece (Elt Ideal) ⟨2, ![m, n]⟩ e)) {r : Fin m} {c : Fin n}
    (h : ((r : ℕ) < o0 ∨ o0 + a ≤ r) ∨ ((c : ℕ) < o1 ∨ o1 + b ≤ c)) :
    v.read (Elt Ideal) (v.writes (Elt Ideal) f (⟨Rect.unit (s := ⟨2, ![m, n]⟩) off ![a, b] inb, w⟩ :: L)) (ix2 r c)
      = v.read (Elt Ideal) (v.writes (Elt Ideal) f L) (ix2 r c) := by
  rcases h with h | h
  · exact View.read_writes_cons_unit_of_not_mem v f inb w L (ix2 r c) ho (0 : Fin 2) h
  · exact View.read_writes_cons_unit_of_not_mem v f inb w L (ix2 r c) ho (1 : Fin 2) h

theorem put3_hit (v : View sg κ sp ⟨3, ![l, m, n]⟩ e) (f : v.ty.Contents (Elt Ideal)) {off : Fin 3 → ℕ} (o0 o1 o2 : ℕ) (ho : off = ![o0, o1, o2])
    (inb : ∀ x : Fin 3, off x + ![p, a, b] x ≤ (⟨3, ![l, m, n]⟩ : Shape).size x) (w : (⟨3, ![p, a, b]⟩ : Shape).Idx → Elt Ideal e)
    (L : List (View.Piece (Elt Ideal) ⟨3, ![l, m, n]⟩ e)) {q : Fin l} {r : Fin m} {c : Fin n} (u : Fin p) (t : Fin a) (d : Fin b)
    (hq : (q : ℕ) = o0 + u) (hr : (r : ℕ) = o1 + t) (hc : (c : ℕ) = o2 + d) :
    v.read (Elt Ideal) (v.writes (Elt Ideal) f (⟨Rect.unit (s := ⟨3, ![l, m, n]⟩) off ![p, a, b] inb, w⟩ :: L)) (ix3 q r c) = w (ix3 u t d) :=
  View.read_writes_cons_unit_of_mem v f inb w L (ix3 q r c) (ix3 u t d) ho (Fin.forall_fin_succ.mpr ⟨hq, Fin.forall_fin_two.mpr ⟨hr, hc⟩⟩)

theorem put3_miss (v : View sg κ sp ⟨3, ![l, m, n]⟩ e) (f : v.ty.Contents (Elt Ideal)) {off : Fin 3 → ℕ} (o0 o1 o2 : ℕ) (ho : off = ![o0, o1, o2])
    (inb : ∀ x : Fin 3, off x + ![p, a, b] x ≤ (⟨3, ![l, m, n]⟩ : Shape).size x) (w : (⟨3, ![p, a, b]⟩ : Shape).Idx → Elt Ideal e)
    (L : List (View.Piece (Elt Ideal) ⟨3, ![l, m, n]⟩ e)) {q : Fin l} {r : Fin m} {c : Fin n} (h : (q : ℕ) < o0 ∨ o0 + p ≤ q) :
    v.read (Elt Ideal) (v.writes (Elt Ideal) f (⟨Rect.unit (s := ⟨3, ![l, m, n]⟩) off ![p, a, b] inb, w⟩ :: L)) (ix3 q r c)
      = v.read (Elt Ideal) (v.writes (Elt Ideal) f L) (ix3 q r c) :=
  View.read_writes_cons_unit_of_not_mem v f inb w L (ix3 q r c) ho (0 : Fin 3) h

/-- Two stores that write an array of two along its first axis, read on either side. -/
theorem pair_put0 (v : View sg κ sp ⟨3, ![2, m, n]⟩ e) (f : v.ty.Contents (Elt Ideal))
    (i0 : ∀ x : Fin 3, ![0, 0, 0] x + ![1, m, n] x ≤ (⟨3, ![2, m, n]⟩ : Shape).size x) (i1 : ∀ x : Fin 3, ![1, 0, 0] x + ![1, m, n] x ≤ (⟨3, ![2, m, n]⟩ : Shape).size x)
    (w0 w1 : (⟨3, ![1, m, n]⟩ : Shape).Idx → Elt Ideal e) (t : Fin m) (j : Fin n) :
    v.read (Elt Ideal) (v.writes (Elt Ideal) f [⟨Rect.unit (s := ⟨3, ![2, m, n]⟩) ![1, 0, 0] ![1, m, n] i1, w1⟩,
      ⟨Rect.unit (s := ⟨3, ![2, m, n]⟩) ![0, 0, 0] ![1, m, n] i0, w0⟩]) (ix3 0 t j) = w0 (ix3 0 t j) :=
  (put3_miss v f 1 0 0 rfl i1 w1 _ (Or.inl Nat.zero_lt_one)).trans
    (put3_hit v f 0 0 0 rfl i0 w0 [] 0 t j rfl (Nat.zero_add _).symm (Nat.zero_add _).symm)

@[inherit_doc pair_put0] theorem pair_put1 (v : View sg κ sp ⟨3, ![2, m, n]⟩ e) (f : v.ty.Contents (Elt Ideal))
    (i0 : ∀ x : Fin 3, ![0, 0, 0] x + ![1, m, n] x ≤ (⟨3, ![2, m, n]⟩ : Shape).size x) (i1 : ∀ x : Fin 3, ![1, 0, 0] x + ![1, m, n] x ≤ (⟨3, ![2, m, n]⟩ : Shape).size x)
    (w0 w1 : (⟨3, ![1, m, n]⟩ : Shape).Idx → Elt Ideal e) (t : Fin m) (j : Fin n) :
    v.read (Elt Ideal) (v.writes (Elt Ideal) f [⟨Rect.unit (s := ⟨3, ![2, m, n]⟩) ![1, 0, 0] ![1, m, n] i1, w1⟩,
      ⟨Rect.unit (s := ⟨3, ![2, m, n]⟩) ![0, 0, 0] ![1, m, n] i0, w0⟩]) (ix3 1 t j) = w1 (ix3 0 t j) :=
  put3_hit v f 1 0 0 rfl i1 w1 _ 0 t j rfl (Nat.zero_add _).symm (Nat.zero_add _).symm

end Cert.Proof.Rec
end
-- ==== Proof.RecTrip.lean ====
/-
  One trip of the recurrence kernel's loop, by either branch: the contents it leaves in every buffer.
-/
module

public import proofs.«01_k».proof.Proof.Gen.KernelIdeal.Loops
public import proofs.«01_k».proof.Proof.Gen.KernelIdeal.Frame
public import Idealize.ShloMosaic.Lib.Claim

@[expose] public section

set_option maxRecDepth 16384

noncomputable section

namespace Cert.Proof.Rec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The buffers a trip holds, each at its contents. -/
def bufs (c : Dev nD) (arg3 : Memref sig .tc .vmem S4096x256 .f32) (arg4 : Memref sig .tc .vmem S4096x256 .f32) (arg5 : Memref sig .tc .vmem S4096x256 .bf16) (arg6 : Memref sig .tc .vmem S4096x256 .f32) (arg7 : Memref sig .tc .vmem S2x256 .f32) (arg8 : Memref sig .tc .vmem S1x128 .f32) (arg9 : Memref sig .tc .vmem S384x128 .bf16) (arg10 : Memref sig .tc .vmem S128x128 .i32) (arg11 : Memref sig .tc .vmem S4096x256 .bf16) (arg12 : Memref sig .tc .vmem S2x128x128 .f32) (arg13 : Memref sig .tc .vmem S384x512 .f32) (arg14 : Memref sig .tc .vmem S2x128x256 .bf16) (arg15 : Memref sig .tc .vmem S2x128x256 .bf16) (arg16 : Memref sig .tc .vmem S2x128x512 .bf16) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 4000000 in
/-- The trip that takes the factored branch: the contents it leaves, and that it leaves them. -/
noncomputable def tripDirect (c : Dev nD) (i : grid0.Coords) (arg3 : Memref sig .tc .vmem S4096x256 .f32) (harg3 : arg3.IsWhole) (arg4 : Memref sig .tc .vmem S4096x256 .f32) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S2x256 .f32) (harg7 : arg7.IsWhole) (arg8 : Memref sig .tc .vmem S1x128 .f32) (harg8 : arg8.IsWhole) (arg9 : Memref sig .tc .vmem S384x128 .bf16) (harg9 : arg9.IsWhole) (arg10 : Memref sig .tc .vmem S128x128 .i32) (harg10 : arg10.IsWhole) (arg11 : Memref sig .tc .vmem S4096x256 .bf16) (harg11 : arg11.IsWhole) (arg12 : Memref sig .tc .vmem S2x128x128 .f32) (harg12 : arg12.IsWhole) (arg13 : Memref sig .tc .vmem S384x512 .f32) (harg13 : arg13.IsWhole) (arg14 : Memref sig .tc .vmem S2x128x256 .bf16) (harg14 : arg14.IsWhole) (arg15 : Memref sig .tc .vmem S2x128x256 .bf16) (harg15 : arg15.IsWhole) (arg16 : Memref sig .tc .vmem S2x128x512 .bf16) (harg16 : arg16.IsWhole) (v13 : FVec F S1x256 .f32) (v14 : FVec F S1x256 .f32) (v17 : FVec F S1x256 .f32) (v19 : FVec F S1x256 .f32) (v21 : FVec F S1x128 .f32) (v29 : FVec F S128x128 .f32) (v36 : FVec F S128x128 .f32) (v43 : FVec F S128x128 .f32) (v50 : FVec F S128x128 .f32) (v55 : IVec S128x256 1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (k : Fin k0_t1_loop.trips) (acc : BitVec 32) (hc : Scalar.cmpi .ne (Scalar.extui (Scalar.cmpi .eq acc 1#32) : BitVec 32) 0#32 = 1#1) :
    Σ' (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))), {g16 : Buf (Elt F) (arg16.view.loc (c : Thread nD τ)) // bufs c arg3 arg4 arg5 arg6 arg7 arg8 arg9 arg10 arg11 arg12 arg13 arg14 arg15 arg16 f3 f4 f5 f6 f7 f8 f9 f10 f11 f12 f13 f14 f15 f16 ⊢ wp frame (wpE (defs₀ (F := F)) Variants.none c none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 k acc) (fun _ => bufs c arg3 arg4 arg5 arg6 arg7 arg8 arg9 arg10 arg11 arg12 arg13 arg14 arg15 arg16 f3 f4 f5 f6 f7 f8 f9 f10 g11 g12 g13 g14 g15 g16)} := by
  refine ⟨?_, ?_, ?_, ?_, ?_, ?_, ?run⟩
  case run =>
    unfold bufs k0_t1_body
    dsimp only
    iintro ⟨H3, H4, H5, H6, H7, H8, H9, H10, H11, H12, H13, H14, H15, H16⟩
    rw [if_pos hc]
    sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

set_option maxHeartbeats 4000000 in
/-- The trip that takes the other branch. -/
noncomputable def tripLevels (c : Dev nD) (i : grid0.Coords) (arg3 : Memref sig .tc .vmem S4096x256 .f32) (harg3 : arg3.IsWhole) (arg4 : Memref sig .tc .vmem S4096x256 .f32) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S2x256 .f32) (harg7 : arg7.IsWhole) (arg8 : Memref sig .tc .vmem S1x128 .f32) (harg8 : arg8.IsWhole) (arg9 : Memref sig .tc .vmem S384x128 .bf16) (harg9 : arg9.IsWhole) (arg10 : Memref sig .tc .vmem S128x128 .i32) (harg10 : arg10.IsWhole) (arg11 : Memref sig .tc .vmem S4096x256 .bf16) (harg11 : arg11.IsWhole) (arg12 : Memref sig .tc .vmem S2x128x128 .f32) (harg12 : arg12.IsWhole) (arg13 : Memref sig .tc .vmem S384x512 .f32) (harg13 : arg13.IsWhole) (arg14 : Memref sig .tc .vmem S2x128x256 .bf16) (harg14 : arg14.IsWhole) (arg15 : Memref sig .tc .vmem S2x128x256 .bf16) (harg15 : arg15.IsWhole) (arg16 : Memref sig .tc .vmem S2x128x512 .bf16) (harg16 : arg16.IsWhole) (v13 : FVec F S1x256 .f32) (v14 : FVec F S1x256 .f32) (v17 : FVec F S1x256 .f32) (v19 : FVec F S1x256 .f32) (v21 : FVec F S1x128 .f32) (v29 : FVec F S128x128 .f32) (v36 : FVec F S128x128 .f32) (v43 : FVec F S128x128 .f32) (v50 : FVec F S128x128 .f32) (v55 : IVec S128x256 1) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (k : Fin k0_t1_loop.trips) (acc : BitVec 32) (hc : ¬(Scalar.cmpi .ne (Scalar.extui (Scalar.cmpi .eq acc 1#32) : BitVec 32) 0#32 = 1#1)) :
    Σ' (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))), {g16 : Buf (Elt F) (arg16.view.loc (c : Thread nD τ)) // bufs c arg3 arg4 arg5 arg6 arg7 arg8 arg9 arg10 arg11 arg12 arg13 arg14 arg15 arg16 f3 f4 f5 f6 f7 f8 f9 f10 f11 f12 f13 f14 f15 f16 ⊢ wp frame (wpE (defs₀ (F := F)) Variants.none c none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 k acc) (fun _ => bufs c arg3 arg4 arg5 arg6 arg7 arg8 arg9 arg10 arg11 arg12 arg13 arg14 arg15 arg16 f3 f4 f5 f6 f7 f8 f9 f10 g11 g12 g13 g14 g15 g16)} := by
  refine ⟨?_, ?_, ?_, ?_, ?_, ?_, ?run⟩
  case run =>
    unfold bufs k0_t1_body
    dsimp only
    iintro ⟨H3, H4, H5, H6, H7, H8, H9, H10, H11, H12, H13, H14, H15, H16⟩
    rw [if_neg hc]
    sl_exec_parts
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Proof.Rec

end
-- ==== Proof.RecMath.lean ====
module
public import proofs.«01_k».proof.Proof.RecOps
@[expose] public section
/-! The recurrence in closed form, and what one chunk of rows adds to it. -/
noncomputable section
namespace Cert.Proof.Rec
open Finset

/-- The exponents of the decays of the first `n` rows, summed. -/
def psum (lf : ℕ → ℕ → ℝ) (n d : ℕ) : ℝ := ∑ j ∈ range n, lf j d

/-- The exponents summed within a chunk, up to its row `t`. -/
def cum (lf : ℕ → ℕ → ℝ) (base t d : ℕ) : ℝ := ∑ j ∈ range (t + 1), lf (base + j) d

/-- The state the first `n` rows leave. -/
def state (k lf i : ℕ → ℕ → ℝ) (n v d : ℕ) : ℝ :=
  ∑ s ∈ range n, i s v * (k s d * (2:ℝ) ^ (psum lf n d - psum lf (s + 1) d))

/-- Row `r` of the recurrence's result. -/
def outp (q k lf i : ℕ → ℕ → ℝ) (r v : ℕ) : ℝ :=
  ∑ s ∈ range (r + 1), (∑ d : Fin 128, q r d * k s d * (2:ℝ) ^ (psum lf (r + 1) d - psum lf (s + 1) d)) * i s v

theorem psum_add (lf : ℕ → ℕ → ℝ) (base t d : ℕ) : psum lf (base + t + 1) d = psum lf base d + cum lf base t d := by
  unfold psum cum
  rw [add_assoc, sum_range_add]

theorem cum_sub (lf : ℕ → ℕ → ℝ) (base t s d : ℕ) :
    cum lf base t d - cum lf base s d = psum lf (base + t + 1) d - psum lf (base + s + 1) d := by
  rw [psum_add, psum_add]; ring

/-- A chunk's end state from the one it starts with. -/
theorem chunk_state (k lf i : ℕ → ℕ → ℝ) (base C v d : ℕ) (hC : 0 < C) :
    state k lf i base v d * (2:ℝ) ^ cum lf base (C - 1) d
      + ∑ s : Fin C, i (base + s) v * (k (base + s) d * (2:ℝ) ^ (cum lf base (C - 1) d - cum lf base s d))
      = state k lf i (base + C) v d := by
  have hC1 : base + (C - 1) + 1 = base + C := by omega
  unfold state
  rw [sum_range_add, sum_mul]
  congr 1
  · refine sum_congr rfl fun s _ => ?_
    have := psum_add lf base (C - 1) d
    rw [hC1] at this
    rw [this, mul_assoc, mul_assoc, ← Real.rpow_add (by norm_num)]
    congr 3; ring
  · rw [← Fin.sum_univ_eq_sum_range (fun s => i (base + s) v * (k (base + s) d * (2:ℝ) ^ (psum lf (base + C) d - psum lf (base + s + 1) d)))]
    refine sum_congr rfl fun s _ => ?_
    rw [cum_sub, hC1]

/-- A chunk's rows: the products within the chunk and those with the state it starts with. -/
theorem chunk_out (q k lf i : ℕ → ℕ → ℝ) (base C t v : ℕ) (ht : t < C) :
    ∑ s : Fin C, score (fun t d => q (base + t) d) (fun t d => k (base + t) d) (cum lf base) t s * i (base + s) v
      + ∑ d : Fin 128, q (base + t) d * (2:ℝ) ^ cum lf base t d * state k lf i base v d
      = outp q k lf i (base + t) v := by
  unfold outp
  rw [add_assoc base t 1, sum_range_add, add_comm]
  congr 1
  · unfold state
    simp only [mul_sum, sum_mul]
    rw [sum_comm]
    refine sum_congr rfl fun s _ => sum_congr rfl fun d _ => ?_
    have h := psum_add lf base t d
    have h2 : (2:ℝ) ^ (psum lf (base + (t + 1)) d - psum lf (s + 1) d) = (2:ℝ) ^ cum lf base t d * (2:ℝ) ^ (psum lf base d - psum lf (s + 1) d) := by
      rw [← Real.rpow_add (by norm_num), ← add_assoc, h]; congr 1; ring
    rw [h2]; ring
  · rw [Fin.sum_univ_eq_sum_range (fun s => score (fun t d => q (base + t) d) (fun t d => k (base + t) d) (cum lf base) t s * i (base + s) v) C]
    rw [← sum_subset (range_subset_range.mpr (show t + 1 ≤ C by omega)) (fun s _ hs => by
      rw [score, if_neg (by simpa using hs), zero_mul])]
    refine sum_congr rfl fun s hs => ?_
    rw [score, if_pos (by have := mem_range.mp hs; omega)]
    congr 1
    refine sum_congr rfl fun d _ => ?_
    rw [cum_sub]; rfl
end Cert.Proof.Rec
end
-- ==== Proof.RecVals.lean ====
module
public import proofs.«01_k».proof.Proof.RecMath
@[expose] public section
/-! The other operations of a trip at an index: the two states, the results, the gates of a chunk's rows. -/
set_option maxRecDepth 16384
noncomputable section
namespace Cert.Proof.Rec
open Cert.KernelIdeal Cert.KernelIdeal.Gen
open Idealize.ShloMosaic Idealize.ShloMosaic.TcCoe Idealize.SL.Sem

theorem half_eq : Ideal.ofBits .f32 0x3F000000#32 = ((1 / 2 : ℝ) : EReal) := by
  simp [Ideal.ofBits, Ideal.ieee, -EReal.coe_mul]; norm_num

theorem minus_one_eq : Ideal.ofBits .f32 0xBF800000#32 = ((-1 : ℝ) : EReal) := by
  simp [Ideal.ofBits, Ideal.ieee, -EReal.coe_mul, -EReal.coe_neg]; norm_num

theorem width_eq : Ideal.ofBits .f32 0x43000000#32 = ((128 : ℝ) : EReal) := by
  simp [Ideal.ofBits, Ideal.ieee, -EReal.coe_mul]; norm_num

/-- The small number under the root. -/
def eps : ℝ := 8796093 / 8796093022208

theorem eps_eq : Ideal.ofBits .f32 0x358637BD#32 = ((eps : ℝ) : EReal) := by
  simp [Ideal.ofBits, Ideal.ieee, -EReal.coe_mul, eps]; norm_num

theorem log2e_eq : Named.named (F := Ideal) κ "log2e" (φ := .f32) 0x3FB8AA3B#32 = (((Real.log 2)⁻¹ : ℝ) : EReal) := by
  simp [Named.named, κ]
theorem neg_log2e_eq : Named.named (F := Ideal) κ "neg_log2e" (φ := .f32) 0xBFB8AA3B#32 = ((-((Real.log 2)⁻¹) : ℝ) : EReal) := by
  simp [Named.named, κ]

/-- `x` times the logistic function at `x`. -/
def silu (x : ℝ) : ℝ := x * (1 + Real.exp (-x))⁻¹

theorem silu_half (x : ℝ) : 1 / 2 * x + 1 / 2 * x * Real.tanh (1 / 2 * x) = silu x := by
  have h := Real.exp_pos (1 / 2 * x)
  have h' : Real.exp (-(1 / 2 * x)) = (Real.exp (1 / 2 * x))⁻¹ := Real.exp_neg _
  have h2 : Real.exp (-x) = (Real.exp (1 / 2 * x))⁻¹ * (Real.exp (1 / 2 * x))⁻¹ := by
    rw [← h', ← Real.exp_add]; congr 1; ring
  rw [silu, Real.tanh_eq_sinh_div_cosh, Real.sinh_eq, Real.cosh_eq, h', h2]
  field_simp
  ring

/-- The kernel's form of it. -/
theorem silu_val (x : ℝ) : Ideal.ofBits .f32 0x3F000000#32 * (x : EReal) + Ideal.ofBits .f32 0x3F000000#32 * (x : EReal) * Ideal.tanh (Ideal.ofBits .f32 0x3F000000#32 * (x : EReal))
    = ((silu x : ℝ) : EReal) := by
  rw [half_eq, ← EReal.coe_mul, Ideal.tanh_coe, ← EReal.coe_mul, ← EReal.coe_add, silu_half]

variable {q : FVec Ideal S128x128 .bf16} {k3 : FVec Ideal S1x128x128 .bf16} {iv : FVec Ideal S128x128 .bf16}
  {b : Vec Ideal S128x128 .f32} {st : Vec Ideal S1x128x128 .f32} {Q K B I S : ℕ → ℕ → ℝ}

theorem q_val {x : Vec Ideal S128x128 .f32} {X : ℕ → ℕ → ℝ} (hx : ∀ t d : Fin 128, x (ix2 t d) = ((X t d : ℝ) : EReal))
    (t d : Fin 128) : k0_pay4 (F := Ideal) x (ix2 t d) = ((silu (X t d) : ℝ) : EReal) := by
  pointwise [k0_pay4]
  rw [hx]
  exact silu_val _

/-- The products with the state. -/
theorem inter_val (hq : ∀ t d : Fin 128, q (ix2 t d) = ((Q t d : ℝ) : EReal))
    (hb : ∀ t d : Fin 128, b (ix2 t d) = ((B t d : ℝ) : EReal))
    (hs : ∀ v d : Fin 128, st (ix3 0 v d) = ((S v d : ℝ) : EReal)) (t v : Fin 128) :
    k0_pay63 (F := Ideal) (k0_pay52 (F := Ideal) q b) st (ix2 t v)
      = ((∑ d : Fin 128, Q t d * (2:ℝ) ^ B t d * S v d : ℝ) : EReal) := by
  pointwise [k0_pay63, k0_pay52, k0_pay62]
  refine sum_coe fun d => ?_
  rw [hq, hb, hs, exp2_real, ← EReal.coe_mul, ← EReal.coe_mul]

/-- The state a chunk leaves. -/
theorem state_val (hk : ∀ t d : Fin 128, k3 (ix3 0 t d) = ((K t d : ℝ) : EReal))
    (hi : ∀ t d : Fin 128, iv (ix2 t d) = ((I t d : ℝ) : EReal))
    (hb : ∀ t d : Fin 128, b (ix2 t d) = ((B t d : ℝ) : EReal))
    (hs : ∀ v d : Fin 128, st (ix3 0 v d) = ((S v d : ℝ) : EReal)) (v d : Fin 128) :
    k0_pay64 (F := Ideal) (k0_pay8 (F := Ideal) k3) iv b (k0_pay56 (F := Ideal) b) st (ix2 v d)
      = ((S v d * (2:ℝ) ^ B 127 d + ∑ s : Fin 128, I s v * (K s d * (2:ℝ) ^ (B 127 d - B s d)) : ℝ) : EReal) := by
  pointwise [k0_pay64, k0_pay8, k0_pay56, k0_pay62]
  rw [EReal.coe_add, hs, hb, exp2_real, EReal.coe_mul]
  refine congrArg₂ (· + ·) rfl (sum_coe fun s => ?_)
  rw [hi, hk, hb, ← EReal.coe_sub, exp2_real, ← EReal.coe_mul, ← EReal.coe_mul]
  rfl

variable {k3' : FVec Ideal S1x128x128 .bf16} {iv' : FVec Ideal S128x128 .bf16}
  {b' : Vec Ideal S128x128 .f32} {K' B' I' : ℕ → ℕ → ℝ}

/-- The products of the second chunk with the state the first leaves. -/
theorem inter2_val (hq : ∀ t d : Fin 128, q (ix2 t d) = ((Q t d : ℝ) : EReal))
    (hb' : ∀ t d : Fin 128, b' (ix2 t d) = ((B' t d : ℝ) : EReal))
    (hs : ∀ v d : Fin 128, k0_pay64 (F := Ideal) (k0_pay8 (F := Ideal) k3) iv b (k0_pay56 (F := Ideal) b) st (ix2 v d) = ((S v d : ℝ) : EReal))
    (t v : Fin 128) :
    k0_pay65 (F := Ideal) (k0_pay8 (F := Ideal) k3) iv b (k0_pay52 (F := Ideal) q b') (k0_pay56 (F := Ideal) b) st (ix2 t v)
      = ((∑ d : Fin 128, Q t d * (2:ℝ) ^ B' t d * S v d : ℝ) : EReal) := by
  pointwise [k0_pay65, k0_pay52]
  refine sum_coe fun d => ?_
  rw [hq, hb', hs, exp2_real, ← EReal.coe_mul, ← EReal.coe_mul]

/-- The state the second chunk leaves. -/
theorem state2_val (hk' : ∀ t d : Fin 128, k3' (ix3 0 t d) = ((K' t d : ℝ) : EReal))
    (hi' : ∀ t d : Fin 128, iv' (ix2 t d) = ((I' t d : ℝ) : EReal))
    (hb' : ∀ t d : Fin 128, b' (ix2 t d) = ((B' t d : ℝ) : EReal))
    (hs : ∀ v d : Fin 128, k0_pay64 (F := Ideal) (k0_pay8 (F := Ideal) k3) iv b (k0_pay56 (F := Ideal) b) st (ix2 v d) = ((S v d : ℝ) : EReal))
    (v d : Fin 128) :
    k0_pay66 (F := Ideal) (k0_pay8 (F := Ideal) k3) (k0_pay8 (F := Ideal) k3') iv iv' b b' (k0_pay56 (F := Ideal) b) (k0_pay56 (F := Ideal) b') st (ix3 0 v d)
      = ((S v d * (2:ℝ) ^ B' 127 d + ∑ s : Fin 128, I' s v * (K' s d * (2:ℝ) ^ (B' 127 d - B' s d)) : ℝ) : EReal) := by
  have hs' := hs v d
  generalize hK : k0_pay8 (F := Ideal) k3 = K0 at hs' ⊢
  generalize hL : k0_pay56 (F := Ideal) b = L0 at hs' ⊢
  pointwise [k0_pay66, k0_pay8, k0_pay56]
  rw [EReal.coe_add, hs', hb', exp2_real, EReal.coe_mul]
  refine congrArg₂ (· + ·) rfl (sum_coe fun s => ?_)
  rw [hi', hk', hb', ← EReal.coe_sub, exp2_real, ← EReal.coe_mul, ← EReal.coe_mul]
  rfl

/-- A row of 128 numbers over the root of its mean square, times the gain and the gate. -/
def normed (O : ℕ → ℝ) (gn : EReal) (g : ℝ) (v : ℕ) : EReal :=
  ((O v * (√((∑ x : Fin 128, O x * O x) * (1 / 128) + eps))⁻¹ : ℝ) : EReal) * gn * ((silu g : ℝ) : EReal)

theorem out_val {v21 : FVec Ideal S1x128 .f32} {o1 o2 : FVec Ideal S128x128 .f32} {g : Vec Ideal S128x128 .f32}
    {O1 O2 G : ℕ → ℕ → ℝ} {N : ℕ → EReal} (hn : ∀ v : Fin 128, v21 (ix2 0 v) = N v)
    (h1 : ∀ t d : Fin 128, o1 (ix2 t d) = ((O1 t d : ℝ) : EReal))
    (h2 : ∀ t d : Fin 128, o2 (ix2 t d) = ((O2 t d : ℝ) : EReal))
    (hg : ∀ t d : Fin 128, g (ix2 t d) = ((G t d : ℝ) : EReal)) (t v : Fin 128) :
    k0_pay100 (F := Ideal) v21 o1 o2 g (ix2 t v) = normed (fun v => O1 t v + O2 t v) (N v) (G t v) v := by
  pointwise [k0_pay100]
  rw [hg, silu_val, h1, h2, hn, width_eq, eps_eq]
  rw [sum_coe (fun x => show _ = (((O1 t x + O2 t x) * (O1 t x + O2 t x) : ℝ) : EReal) by
    rw [h1, h2, ← EReal.coe_add, ← EReal.coe_mul])]
  have hpos : 0 < (∑ x : Fin 128, (O1 t x + O2 t x) * (O1 t x + O2 t x)) * (1 / 128) + eps := by
    have : 0 ≤ ∑ x : Fin 128, (O1 t x + O2 t x) * (O1 t x + O2 t x) := Finset.sum_nonneg fun x _ => mul_self_nonneg _
    have he : 0 < eps := by norm_num [eps]
    positivity
  rw [Ideal.div_coe (by norm_num), ← EReal.coe_mul, ← EReal.coe_add, ← EReal.coe_add, Ideal.rsqrt_coe, if_neg (not_lt.mpr hpos.le), if_neg hpos.ne',
    ← EReal.coe_mul]
  rfl

/-- The logistic function. -/
def logis (x : ℝ) : ℝ := (1 + Real.exp (-x))⁻¹

theorem two_rpow_div (y : ℝ) : (2:ℝ) ^ (y * (Real.log 2)⁻¹) = Real.exp y := by
  rw [Real.rpow_def_of_pos two_pos]
  congr 1
  have := Real.log_pos (one_lt_two)
  field_simp

theorem max_val (a b : ℝ) : max (a : EReal) (b : EReal) = ((max a b : ℝ) : EReal) :=
  (EReal.coe_strictMono.monotone.map_max).symm

theorem min_val (a b : ℝ) : min (a : EReal) (b : EReal) = ((min a b : ℝ) : EReal) :=
  (EReal.coe_strictMono.monotone.map_min).symm

theorem abs_val (x : ℝ) : FloatOps.absf (F := Ideal) (φ := .f32) (x : EReal) = ((|x| : ℝ) : EReal) := by
  change max (x : EReal) (-(x : EReal)) = _
  rw [← EReal.coe_neg, max_val]
  rfl

/-- `e^(-|x|)`, which is zero at both infinities. -/
def tail : EReal → ℝ
  | ⊥ => 0
  | ⊤ => 0
  | (x : ℝ) => Real.exp (-|x|)

theorem tail_pos (e : EReal) : 0 < 1 + tail e := by
  induction e
  · exact (by norm_num : (0:ℝ) < 1 + 0)
  · exact (by positivity : (0:ℝ) < 1 + Real.exp _)
  · exact (by norm_num : (0:ℝ) < 1 + 0)

/-- The same as the kernel has it. -/
theorem tail_val (e : EReal) : FloatOps.exp2 (F := Ideal) (φ := .f32) (FloatOps.absf (F := Ideal) (φ := .f32) e * Named.named (F := Ideal) κ "neg_log2e" (φ := .f32) 0xBFB8AA3B#32)
    = ((tail e : ℝ) : EReal) := by
  have hn : -((Real.log 2)⁻¹) < 0 := neg_neg_of_pos (inv_pos.mpr (Real.log_pos one_lt_two))
  have ht : FloatOps.exp2 (F := Ideal) (φ := .f32) ((⊤ : EReal) * (((-((Real.log 2)⁻¹) : ℝ)) : EReal)) = ((0 : ℝ) : EReal) := by
    rw [EReal.top_mul_coe_of_neg hn]
    rfl
  rw [neg_log2e_eq]
  induction e with
  | bot => rw [show FloatOps.absf (F := Ideal) (φ := .f32) (⊥ : EReal) = (⊤ : EReal) from max_eq_right bot_le]; exact ht
  | top => rw [show FloatOps.absf (F := Ideal) (φ := .f32) (⊤ : EReal) = (⊤ : EReal) from max_eq_left le_top]; exact ht
  | coe x =>
    rw [abs_val, ← EReal.coe_mul, exp2_real, mul_neg, ← neg_mul, two_rpow_div]
    rfl

/-- `log (1 + e^(-|x|))` with the smaller of `x` and 0 is the logarithm of the logistic function. -/
theorem log_logis (x : ℝ) : min x 0 - Real.log (1 + Real.exp (-|x|)) = Real.log (logis x) := by
  have h := Real.exp_pos (-x)
  have h0 := Real.exp_pos x
  rw [logis, Real.log_inv]
  rcases le_total 0 x with hx | hx
  · rw [min_eq_right hx, abs_of_nonneg hx]; ring
  · rw [min_eq_left hx, abs_of_nonpos hx, neg_neg]
    have : 1 + Real.exp (-x) = Real.exp (-x) * (1 + Real.exp x) := by
      rw [mul_add, mul_one, ← Real.exp_add, neg_add_cancel, Real.exp_zero, add_comm]
    rw [this, Real.log_mul h.ne' (by positivity), Real.log_exp]; ring

/-- The logarithm of a sum of two exponentials. -/
theorem log_add (a b : ℝ) : max a b + Real.log (1 + Real.exp (0 - |a - b|)) = Real.log (Real.exp a + Real.exp b) := by
  have ha := Real.exp_pos a
  have hb := Real.exp_pos b
  rcases le_total a b with h | h
  · have : Real.exp a + Real.exp b = Real.exp b * (1 + Real.exp (0 - |a - b|)) := by
      rw [abs_of_nonpos (sub_nonpos.mpr h), mul_add, ← Real.exp_add, mul_one, add_comm]; congr 2; ring
    rw [this, Real.log_mul hb.ne' (by positivity), Real.log_exp, max_eq_right h]
  · have : Real.exp a + Real.exp b = Real.exp a * (1 + Real.exp (0 - |a - b|)) := by
      rw [abs_of_nonneg (sub_nonneg.mpr h), mul_add, ← Real.exp_add, mul_one]; congr 2; ring
    rw [this, Real.log_mul ha.ne' (by positivity), Real.log_exp, max_eq_left h]

theorem logis_pos (x : ℝ) : 0 < logis x := inv_pos.mpr (by positivity)

theorem logis_large {x : ℝ} (h : 0 ≤ x) : 1 * (1 / (1 + Real.exp (-|x|))) = logis x := by
  rw [abs_of_nonneg h, logis, one_mul, one_div]

theorem logis_small {x : ℝ} (h : x ≤ 0) : Real.exp (-|x|) * (1 / (1 + Real.exp (-|x|))) = logis x := by
  rw [abs_of_nonpos h, logis, neg_neg, Real.exp_neg]
  have := Real.exp_pos x
  field_simp
  ring

theorem logis_neg (x : ℝ) : logis (-x) = 1 - logis x := by
  have h := Real.exp_pos x
  rw [logis, logis, neg_neg, Real.exp_neg]
  field_simp
  ring

/-- What a gate lets through: the logistic function with its limits at the infinities. -/
def thru : EReal → ℝ
  | ⊥ => 0
  | ⊤ => 1
  | (x : ℝ) => logis x

/-- A gate row: what the gate keeps, from the gate's lower bound and its argument. -/
def keep (lb : ℝ) (x : EReal) : ℝ := lb + (1 - lb) * thru x
/-- Its complement. -/
def fresh (lb : ℝ) (x : EReal) : ℝ := (1 - lb) * (1 - thru x)

theorem thru_nonneg (x : EReal) : 0 ≤ thru x := by
  induction x
  · exact le_refl (0:ℝ)
  · exact (logis_pos _).le
  · exact zero_le_one (α := ℝ)

theorem keep_pos {lb : ℝ} {x : EReal} (h : 0 < lb) (h' : lb < 1) : 0 < keep lb x := by
  have := thru_nonneg x
  have : 0 < 1 - lb := by linarith
  unfold keep; positivity

variable {v13 v14 v17 v19 : FVec Ideal S1x256 .f32} {x : Vec Ideal S128x256 .f32} {L : ℕ → ℝ} {X : ℕ → ℕ → EReal}

theorem den_val (hx : ∀ (t : Fin 128) (d : Fin 256), x (ix2 t d) = X t d) (t : Fin 128) (d : Fin 256) :
    k0_pay74 (F := Ideal) x (ix2 t d) = ((1 + tail (X t d) : ℝ) : EReal) := by
  pointwise [k0_pay74, k0_pay73]
  simp only [hx, tail_val]
  rw [EReal.coe_add, EReal.coe_one]

/-- The logarithm of what the gate lets through, as the kernel has it. -/
def through (e : EReal) : EReal := min e 0 - ((Real.log (1 + tail e) : ℝ) : EReal)

theorem through_bot : through ⊥ = ⊥ := by
  unfold through
  rw [min_eq_left bot_le, EReal.bot_sub]

theorem through_pos (e : EReal) (h : e ≠ ⊥) : ∃ s : ℝ, 0 < s ∧ s = thru e ∧ through e = ((Real.log s : ℝ) : EReal) := by
  induction e with
  | bot => exact absurd rfl h
  | top =>
    refine ⟨1, one_pos, rfl, ?_⟩
    show min (⊤ : EReal) 0 - ((Real.log (1 + 0) : ℝ) : EReal) = _
    rw [min_eq_right le_top, add_zero, Real.log_one, EReal.coe_zero, sub_zero]
  | coe x =>
    refine ⟨logis x, logis_pos x, rfl, ?_⟩
    unfold through
    rw [← EReal.coe_zero, min_val, ← EReal.coe_sub, show tail (x : EReal) = Real.exp (-|x|) from rfl, log_logis]

/-- The logarithm of what the gate keeps, as the kernel has it, from the logarithms of the bound and of its complement. -/
def kept (a b e : EReal) : EReal :=
  max a (b + e) + Ideal.log (1 + Ideal.exp (0 - FloatOps.absf (F := Ideal) (φ := .f32) (a - (b + e))))

theorem kept_val {l : ℝ} (h : 0 < l) (h' : l < 1) (e : EReal) :
    kept ((Real.log l : ℝ) : EReal) ((Real.log (1 - l) : ℝ) : EReal) (through e) = ((Real.log (keep l e) : ℝ) : EReal) := by
  by_cases he : e = ⊥
  · subst he
    unfold kept
    rw [through_bot, EReal.add_bot, max_bot_right, EReal.coe_sub_bot,
      show FloatOps.absf (F := Ideal) (φ := .f32) (⊤ : EReal) = (⊤ : EReal) from max_eq_left le_top,
      show (0 : EReal) - ⊤ = ⊥ from rfl, Ideal.exp_bot, add_zero, ← EReal.coe_one, Ideal.log_coe, if_neg (by norm_num), Real.log_one,
      EReal.coe_zero, add_zero]
    show _ = ((Real.log (l + (1 - l) * 0) : ℝ) : EReal)
    rw [mul_zero, add_zero]
  · obtain ⟨s, hs, e1, e2⟩ := through_pos e he
    unfold kept
    rw [e2, ← EReal.coe_add, max_val, ← EReal.coe_sub, abs_val, ← EReal.coe_zero, ← EReal.coe_sub,
      Ideal.exp_coe, ← EReal.coe_one, ← EReal.coe_add, Ideal.log_coe, if_neg (not_le.mpr (by positivity)), ← EReal.coe_add, log_add,
      Real.exp_add, Real.exp_log h, Real.exp_log (by linarith), Real.exp_log hs, e1]
    rfl

theorem lf_val (hL : ∀ d : Fin 256, 0 < L d ∧ L d < 1)
    (h14 : ∀ d : Fin 256, v14 (ix2 0 d) = ((Real.log (L d) : ℝ) : EReal))
    (h17 : ∀ d : Fin 256, v17 (ix2 0 d) = ((Real.log (1 - L d) : ℝ) : EReal))
    (hx : ∀ (t : Fin 128) (d : Fin 256), x (ix2 t d) = X t d) (t : Fin 128) (d : Fin 256) :
    k0_pay78 (F := Ideal) v14 v17 (k0_pay75 (F := Ideal) x) (ix2 t d) = ((Real.log (keep (L d) (X t d)) * (Real.log 2)⁻¹ : ℝ) : EReal) := by
  pointwise [k0_pay78, k0_pay75]
  simp only [hx, h14, h17, den_val hx, Ideal.log_coe, if_neg (not_le.mpr (tail_pos _)), log2e_eq]
  rw [EReal.coe_mul, ← kept_val (hL d).1 (hL d).2]
  rfl

/-- What the gate lets through, as the kernel has it. -/
theorem thru_val (e : EReal) : (if 0 ≤ e then (1 : EReal) else ((tail e : ℝ) : EReal)) * ((1 / (1 + tail e) : ℝ) : EReal) = ((thru e : ℝ) : EReal) := by
  induction e with
  | bot =>
    rw [if_neg (by simp)]
    show ((0 : ℝ) : EReal) * _ = ((0 : ℝ) : EReal)
    rw [EReal.coe_zero, zero_mul]
  | top =>
    rw [if_pos le_top, one_mul]
    show ((1 / (1 + 0) : ℝ) : EReal) = ((1 : ℝ) : EReal)
    norm_num
  | coe x =>
    have hp : ((0 : EReal) ≤ (x : EReal)) ↔ 0 ≤ x := EReal.coe_nonneg
    show (if 0 ≤ (x : EReal) then (1 : EReal) else ((Real.exp (-|x|) : ℝ) : EReal)) * ((1 / (1 + Real.exp (-|x|)) : ℝ) : EReal) = ((logis x : ℝ) : EReal)
    by_cases h : 0 ≤ x
    · rw [if_pos (hp.mpr h), one_mul, ← logis_large h, one_mul]
    · rw [if_neg (fun h' => h (hp.mp h')), ← EReal.coe_mul, logis_small (le_of_not_ge h)]

/-- Its complement, as the kernel has it. -/
theorem shut_val (e : EReal) : (if 0 ≤ e then ((tail e : ℝ) : EReal) else (1 : EReal)) * ((1 / (1 + tail e) : ℝ) : EReal) = ((1 - thru e : ℝ) : EReal) := by
  induction e with
  | bot =>
    rw [if_neg (by simp), one_mul]
    show ((1 / (1 + 0) : ℝ) : EReal) = ((1 - 0 : ℝ) : EReal)
    norm_num
  | top =>
    rw [if_pos le_top]
    show ((0 : ℝ) : EReal) * _ = ((1 - 1 : ℝ) : EReal)
    rw [EReal.coe_zero, zero_mul, sub_self, EReal.coe_zero]
  | coe x =>
    have hp : ((0 : EReal) ≤ (x : EReal)) ↔ 0 ≤ x := EReal.coe_nonneg
    show (if 0 ≤ (x : EReal) then ((Real.exp (-|x|) : ℝ) : EReal) else (1 : EReal)) * ((1 / (1 + Real.exp (-|x|)) : ℝ) : EReal) = ((1 - logis x : ℝ) : EReal)
    rw [← logis_neg]
    by_cases h : 0 ≤ x
    · rw [if_pos (hp.mpr h), ← EReal.coe_mul, ← abs_neg, logis_small (neg_nonpos.mpr h)]
    · rw [if_neg (fun h' => h (hp.mp h')), one_mul, ← abs_neg, ← logis_large (by linarith : 0 ≤ -x), one_mul]

theorem f_val (h13 : ∀ d : Fin 256, v13 (ix2 0 d) = ((L d : ℝ) : EReal))
    (h19 : ∀ d : Fin 256, v19 (ix2 0 d) = ((1 - L d : ℝ) : EReal))
    (hx : ∀ (t : Fin 128) (d : Fin 256), x (ix2 t d) = X t d) (t : Fin 128) (d : Fin 256) :
    k0_pay79 (F := Ideal) v13 v19 (k0_pay73 (F := Ideal) x) (k0_pay76 (F := Ideal) x) (k0_pay77 (F := Ideal) x) (ix2 t d) = ((keep (L d) (X t d) : ℝ) : EReal) := by
  pointwise [k0_pay79, k0_pay73, k0_pay76, k0_pay77]
  simp only [hx, h13, h19, den_val hx, tail_val, Ideal.div_coe (tail_pos _).ne', one_mul]
  rw [thru_val, keep, EReal.coe_add, EReal.coe_mul]

theorem k_val
    (h19 : ∀ d : Fin 256, v19 (ix2 0 d) = ((1 - L d : ℝ) : EReal))
    (hx : ∀ (t : Fin 128) (d : Fin 256), x (ix2 t d) = X t d) (t : Fin 128) (d : Fin 256) :
    k0_pay80 (F := Ideal) v19 x (k0_pay73 (F := Ideal) x) (k0_pay76 (F := Ideal) x) (ix2 t d) = ((fresh (L d) (X t d) : ℝ) : EReal) := by
  pointwise [k0_pay80, k0_pay73, k0_pay76]
  simp only [hx, h19, den_val hx, tail_val, Ideal.div_coe (tail_pos _).ne', one_mul]
  rw [shut_val, fresh, EReal.coe_mul]

end Cert.Proof.Rec
end
-- ==== Proof.RecTab.lean ====
module
public import proofs.«01_k».proof.Proof.RecOps
@[expose] public section
/-! The kernel's matrix that sums rows. -/
set_option maxRecDepth 16384
noncomputable section
namespace Cert.Proof.Rec
open Cert.KernelIdeal Cert.KernelIdeal.Gen
open Idealize.ShloMosaic Idealize.ShloMosaic.TcCoe Idealize.SL.Sem

/-- Whether the summing matrix has row `s` in its row `r`: the rows up to `r`, then for blocks of 4 and of 8 the
rows between `r` and the middle of its block. -/
def inSum (r s : ℕ) : Bool :=
  if r < 128 then Nat.ble s r
  else if r < 256 then (Nat.blt ((r - 128) / 4 * 4 + 1) s && Nat.ble s (r - 128)) || (Nat.blt (r - 128) s && Nat.ble s ((r - 128) / 4 * 4 + 1))
  else (Nat.blt ((r - 256) / 8 * 8 + 3) s && Nat.ble s (r - 256)) || (Nat.blt (r - 256) s && Nat.ble s ((r - 256) / 8 * 8 + 3))

/-- The matrix has the words of `1` and `0` in the rows from `n` on. -/
def Sums (n : ℕ) : Prop := ∀ (r : Fin 48) (s : Fin 128), (lit0t ((n + r) * 128 + s)).toNat = bif inSum (n + r) s then 0x3F80 else 0

instance (n : ℕ) : Decidable (Sums n) := by unfold Sums; infer_instance

theorem sums0 : Sums 0 := by decide +kernel
theorem sums1 : Sums 48 := by decide +kernel
theorem sums2 : Sums 96 := by decide +kernel
theorem sums3 : Sums 144 := by decide +kernel
theorem sums4 : Sums 192 := by decide +kernel
theorem sums5 : Sums 240 := by decide +kernel
theorem sums6 : Sums 288 := by decide +kernel
theorem sums7 : Sums 336 := by decide +kernel

theorem sum_tab (r : Fin 384) (s : Fin 128) : (lit0t (r * 128 + s)).toNat = bif inSum r s then 0x3F80 else 0 := by
  have key : ∀ n, Sums n → n ≤ r → (r : ℕ) < n + 48 → (lit0t (r * 128 + s)).toNat = bif inSum r s then 0x3F80 else 0 := by
    intro n hn h1 h2
    have := hn ⟨r - n, by omega⟩ s
    simpa only [show n + ((r : ℕ) - n) = r by omega] using this
  have hr := r.isLt
  by_cases h1 : (r : ℕ) < 48; · exact key 0 sums0 (by omega) (by omega)
  by_cases h2 : (r : ℕ) < 96; · exact key 48 sums1 (by omega) (by omega)
  by_cases h3 : (r : ℕ) < 144; · exact key 96 sums2 (by omega) (by omega)
  by_cases h4 : (r : ℕ) < 192; · exact key 144 sums3 (by omega) (by omega)
  by_cases h5 : (r : ℕ) < 240; · exact key 192 sums4 (by omega) (by omega)
  by_cases h6 : (r : ℕ) < 288; · exact key 240 sums5 (by omega) (by omega)
  by_cases h7 : (r : ℕ) < 336; · exact key 288 sums6 (by omega) (by omega)
  exact key 336 sums7 (by omega) (by omega)

end Cert.Proof.Rec
end
-- ==== Proof.RecRows.lean ====
module
public import proofs.«01_k».proof.Proof.RecVals
public import proofs.«01_k».proof.Proof.RecTab
@[expose] public section
/-! The values of the signs, of the gates' lower bound, and of the rows a trip gets ready for the next. -/
set_option maxRecDepth 16384
noncomputable section
namespace Cert.Proof.Rec
open Cert.KernelIdeal Cert.KernelIdeal.Gen
open Idealize.ShloMosaic Idealize.ShloMosaic.TcCoe Idealize.SL.Sem

/-- A choice by one bit of the row. -/
theorem sgn_of {h : ℕ} {t : Fin 128} {c : BitVec 1} (hc : c = if (t : ℕ) / h % 2 = 1 then 1#1 else 0#1) :
    Scalar.select c (1 : EReal) (Ideal.ofBits .f32 0xBF800000#32) = ((sgn h t : ℝ) : EReal) := by
  subst hc
  unfold sgn
  split_ifs
  · exact (sel_t rfl).trans EReal.coe_one.symm
  · exact (sel_f rfl).trans minus_one_eq

theorem sgn8_val (t d : Fin 128) : k0_pay241 (F := Ideal) (ix2 t d) = ((sgn 8 t : ℝ) : EReal) := by
  pointwise [k0_pay241]
  exact sgn_of ((by decide +kernel : ∀ t : Fin 128, IntOp.cmpi .ne (IntOp.andi (BitVec.ofNat 32 t) 8#32) 0#32 = if (t : ℕ) / 8 % 2 = 1 then 1#1 else 0#1) t)

theorem sgn16_val (t d : Fin 128) : k0_pay242 (F := Ideal) (ix2 t d) = ((sgn 16 t : ℝ) : EReal) := by
  pointwise [k0_pay242]
  exact sgn_of ((by decide +kernel : ∀ t : Fin 128, IntOp.cmpi .ne (IntOp.andi (BitVec.ofNat 32 t) 16#32) 0#32 = if (t : ℕ) / 16 % 2 = 1 then 1#1 else 0#1) t)

theorem sgn32_val (t d : Fin 128) : k0_pay243 (F := Ideal) (iota .tc S128x128 32 [0] iota_S128x128_d0_w32) 32#32 (ix2 t d) = ((sgn 32 t : ℝ) : EReal) := by
  pointwise [k0_pay243]
  exact sgn_of ((by decide +kernel : ∀ t : Fin 128, IntOp.cmpi .ne (IntOp.andi (BitVec.ofNat 32 t) 32#32) 0#32 = if (t : ℕ) / 32 % 2 = 1 then 1#1 else 0#1) t)

theorem sgn64_val (t d : Fin 128) : k0_pay244 (F := Ideal) (iota .tc S128x128 32 [0] iota_S128x128_d0_w32) (ix2 t d) = ((sgn 64 t : ℝ) : EReal) := by
  pointwise [k0_pay244]
  exact sgn_of ((by decide +kernel : ∀ t : Fin 128, IntOp.cmpi .ne (IntOp.andi (BitVec.ofNat 32 t) 64#32) 0#32 = if (t : ℕ) / 64 % 2 = 1 then 1#1 else 0#1) t)

theorem keep_rpow {lb : ℝ} {x : EReal} (h : 0 < lb) (h' : lb < 1) : (2:ℝ) ^ (Real.log (keep lb x) * (Real.log 2)⁻¹) = keep lb x := by
  rw [two_rpow_div, Real.exp_log (keep_pos h h')]

theorem pre_one_odd (lf : ℕ → ℕ → ℝ) (base t d : ℕ) (h : t % 2 = 1) : pre (cum lf base) 1 t d = lf (base + t) d := by
  obtain ⟨n, rfl⟩ : ∃ n, t = n + 1 := ⟨t - 1, by omega⟩
  have e : (n + 1) / (2 * 1) * (2 * 1) + 1 - 1 = n := by omega
  rw [pre, sgn, if_pos (by omega), e, mul_one, cum, cum, Finset.sum_range_succ _ (n + 1)]
  ring

theorem pre_one_even (lf : ℕ → ℕ → ℝ) (base t d : ℕ) (h : t % 2 = 0) : pre (cum lf base) 1 t d = 0 := by
  have e : t / (2 * 1) * (2 * 1) + 1 - 1 = t := by omega
  rw [pre, e, sub_self, zero_mul]

/-- The decays of single rows. -/
theorem dec_val {f : FVec Ideal S128x256 .f32} {lf : ℕ → ℕ → ℝ} {base : ℕ}
    (hf : ∀ (t : Fin 128) (d : Fin 256), f (ix2 t d) = (((2:ℝ) ^ lf (base + t) d : ℝ) : EReal)) (t : Fin 128) (d : Fin 256) :
    k0_pay89 (F := Ideal) k0_pay245 f (ix3 0 t d) = (((2:ℝ) ^ pre (cum lf base) 1 t d : ℝ) : EReal) := by
  pointwise [k0_pay89, k0_pay245]
  have key : ∀ t : Fin 128, IntOp.cmpi .eq (IntOp.andi (BitVec.ofNat 32 t) 1#32) 1#32 = if (t : ℕ) % 2 = 1 then 1#1 else 0#1 := by
    decide +kernel
  by_cases h : (t : ℕ) % 2 = 1
  · refine (sel_t ((key t).trans (if_pos h))).trans ?_
    rw [hf, pre_one_odd _ _ _ _ h]
  · refine (sel_f ((key t).trans (if_neg h))).trans ?_
    rw [pre_one_even _ _ _ _ (by omega), Real.rpow_zero]
    rfl

theorem kk_val {k : FVec Ideal S128x256 .f32} (t : Fin 128) (d : Fin 256) : k0_pay90 (F := Ideal) k (ix3 0 t d) = k (ix2 t d) := by
  pointwise [k0_pay90]

variable {x y : FVec Ideal S128x256 .f32} {lf : ℕ → ℕ → ℝ} {base : ℕ}

/-- The exponents of both chunks side by side. -/
theorem both_val (hx : ∀ (t : Fin 128) (d : Fin 256), x (ix2 t d) = ((lf (base + t) d : ℝ) : EReal))
    (hy : ∀ (t : Fin 128) (d : Fin 256), y (ix2 t d) = ((lf (base + 128 + t) d : ℝ) : EReal)) (t : Fin 128) (j : Fin 512) :
    k0_pay96 (F := Ideal) x y (ix3 0 t j) = ((lf (base + 128 * (j / 256) + t) (j % 256) : ℝ) : EReal) := by
  pointwise [k0_pay96, k0_pay94, k0_pay95]
  have hj := j.isLt
  by_cases h : (j : ℕ) < 256
  · rw [dif_pos h, hx]
    simp only [Nat.div_eq_of_lt h, Nat.mod_eq_of_lt h, mul_zero, add_zero]
  · rw [dif_neg h, hy]
    simp only [show (j : ℕ) / 256 = 1 by omega, show (j : ℕ) % 256 = j - 256 by omega, mul_one]

/-- What the rounding of them leaves over: nothing. -/
theorem rest_val (hx : ∀ (t : Fin 128) (d : Fin 256), x (ix2 t d) = ((lf (base + t) d : ℝ) : EReal))
    (hy : ∀ (t : Fin 128) (d : Fin 256), y (ix2 t d) = ((lf (base + 128 + t) d : ℝ) : EReal)) (t : Fin 128) (j : Fin 512) :
    k0_pay97 (F := Ideal) x y (ix3 0 t j) = ((0 : ℝ) : EReal) := by
  pointwise [k0_pay97, k0_pay94, k0_pay95]
  by_cases h : (j : ℕ) < 256
  · rw [dif_pos h, hx, ← EReal.coe_sub, sub_self]
  · rw [dif_neg h, hy, ← EReal.coe_sub, sub_self]

/-- A place of the table of ones and zeros. -/
def mark (r s : ℕ) : ℝ := bif inSum r s then 1 else 0

variable {h0 h1 : Vec Ideal S1x128x512 .bf16}

theorem cum_val {pm : Vec Ideal S128x128 .bf16} {E : ℕ → ℕ → ℝ} (hp : ∀ t s : Fin 128, pm (ix2 t s) = ((mark t s : ℝ) : EReal))
    (h0v : ∀ (t : Fin 128) (j : Fin 512), h0 (ix3 0 t j) = ((E t j : ℝ) : EReal))
    (h1v : ∀ (t : Fin 128) (j : Fin 512), h1 (ix3 0 t j) = ((0 : ℝ) : EReal)) (t : Fin 128) (j : Fin 512) :
    k0_pay98 (F := Ideal) pm h0 h1 (ix2 t j) = ((∑ s : Fin 128, mark t s * E s j : ℝ) : EReal) := by
  pointwise [k0_pay98]
  rw [sum_coe (fun s => show _ = ((mark t s * E s j : ℝ) : EReal) by rw [hp, h0v, ← EReal.coe_mul]),
    sum_coe (fun s => show _ = ((0 : ℝ) : EReal) by rw [hp, h1v, ← EReal.coe_mul, mul_zero]), Finset.sum_const_zero, ← EReal.coe_add, add_zero]

theorem low_val {pm : Vec Ideal S256x128 .bf16} {E : ℕ → ℕ → ℝ} (hp : ∀ (t : Fin 256) (s : Fin 128), pm (ix2 t s) = ((mark (128 + t) s : ℝ) : EReal))
    (h0v : ∀ (t : Fin 128) (j : Fin 512), h0 (ix3 0 t j) = ((E t j : ℝ) : EReal))
    (h1v : ∀ (t : Fin 128) (j : Fin 512), h1 (ix3 0 t j) = ((0 : ℝ) : EReal)) (t : Fin 256) (j : Fin 512) :
    k0_pay116 (F := Ideal) (k0_pay115 (F := Ideal) pm h0 h1) (ix2 t j) = ((∑ s : Fin 128, mark (128 + t) s * E s j : ℝ) : EReal) := by
  pointwise [k0_pay116, k0_pay115]
  rw [sum_coe (fun s => show _ = ((mark (128 + t) s * E s j : ℝ) : EReal) by rw [hp, h0v, ← EReal.coe_mul]),
    sum_coe (fun s => show _ = ((0 : ℝ) : EReal) by rw [hp, h1v, ← EReal.coe_mul, mul_zero]), Finset.sum_const_zero, ← EReal.coe_add, add_zero]

variable {z : Vec Ideal S2x256 .f32} {Z : ℕ → ℕ → ℝ}

/-- The gate's lower bound. -/
def low (Z : ℕ → ℕ → ℝ) (d : ℕ) : ℝ := logis (Z 1 d - Z 0 d)

theorem low_eq (a b m : ℝ) : Real.exp (b - m) * (1 / (Real.exp (a - m) + Real.exp (b - m))) = logis (b - a) := by
  have : Real.exp (a - m) = Real.exp (b - m) * Real.exp (-(b - a)) := by rw [← Real.exp_add]; congr 1; ring
  rw [this, logis]
  have := Real.exp_pos (b - m)
  have := Real.exp_pos (-(b - a))
  field_simp
  ring

theorem low_val0 (hz : ∀ (r : Fin 2) (d : Fin 256), z (ix2 r d) = ((Z r d : ℝ) : EReal)) (d : Fin 256) :
    k0_pay236 (F := Ideal) z (ix2 0 d) = ((low Z d : ℝ) : EReal) := by
  pointwise [k0_pay236]
  simp only [hz, Fin.sum_univ_two]
  obtain ⟨m, hm⟩ : ∃ m : ℝ, Finset.fold max (Ideal.ofBits .f32 4286578688#32) (fun x : Fin 2 => ((Z x d : ℝ) : EReal)) Finset.univ = (m : EReal) := by
    refine ⟨max (Z 0 d) (Z 1 d), ?_⟩
    rw [show Ideal.ofBits .f32 4286578688#32 = (⊥ : EReal) by simp [Ideal.ofBits, Ideal.ieee]]
    rw [show (Finset.univ : Finset (Fin 2)) = {0, 1} from rfl, Finset.fold_insert (by decide), Finset.fold_singleton, max_bot_right, max_val]
    rfl
  rw [hm, ← EReal.coe_sub, ← EReal.coe_sub, Ideal.exp_coe, Ideal.exp_coe, ← EReal.coe_add, Ideal.div_coe (by positivity), ← EReal.coe_mul]
  exact congrArg _ (low_eq _ _ _)

theorem low_pos (d : ℕ) : 0 < low Z d ∧ low Z d < 1 := by
  refine ⟨logis_pos _, ?_⟩
  have := logis_neg (Z 1 d - Z 0 d)
  have := logis_pos (-(Z 1 d - Z 0 d))
  unfold low; linarith

theorem low_val1 (hz : ∀ (r : Fin 2) (d : Fin 256), z (ix2 r d) = ((Z r d : ℝ) : EReal)) (d : Fin 256) :
    k0_pay237 (F := Ideal) z (ix2 0 d) = ((Real.log (low Z d) : ℝ) : EReal) := by
  pointwise [k0_pay237]
  rw [low_val0 hz, Ideal.log_coe, if_neg (not_le.mpr (low_pos _).1)]

theorem low_val3 (hz : ∀ (r : Fin 2) (d : Fin 256), z (ix2 r d) = ((Z r d : ℝ) : EReal)) (d : Fin 256) :
    k0_pay239 (F := Ideal) z (ix2 0 d) = ((1 - low Z d : ℝ) : EReal) := by
  pointwise [k0_pay239]
  rw [low_val0 hz, ← EReal.coe_one, ← EReal.coe_sub]

theorem low_val2 (hz : ∀ (r : Fin 2) (d : Fin 256), z (ix2 r d) = ((Z r d : ℝ) : EReal)) (d : Fin 256) :
    k0_pay238 (F := Ideal) z (ix2 0 d) = ((Real.log (1 - low Z d) : ℝ) : EReal) := by
  pointwise [k0_pay238]
  rw [low_val0 hz, ← EReal.coe_one, ← EReal.coe_sub, Ideal.log_coe, if_neg (not_le.mpr (by have := (low_pos (Z := Z) d).2; linarith))]

/-- Sums over the rows between two. -/
theorem mark_sum (E : ℕ → ℝ) (a t : ℕ) (ha : a < 128) (ht : t < 128) (h : a ≤ t) :
    ∑ s : Fin 128, (if a < s ∧ (s : ℕ) ≤ t then (1 : ℝ) else 0) * E s = (∑ s ∈ Finset.range (t + 1), E s) - ∑ s ∈ Finset.range (a + 1), E s := by
  rw [← Finset.sum_Ico_eq_sub _ (by omega : a + 1 ≤ t + 1), Fin.sum_univ_eq_sum_range (fun s => (if a < s ∧ s ≤ t then (1 : ℝ) else 0) * E s) 128]
  simp only [ite_mul, one_mul, zero_mul]
  rw [← Finset.sum_filter]
  refine Finset.sum_congr (Finset.ext fun s => ?_) fun _ _ => rfl
  simp only [Finset.mem_filter, Finset.mem_range, Finset.mem_Ico]
  omega

theorem mark_low (E : ℕ → ℝ) (t : ℕ) (ht : t < 128) : ∑ s : Fin 128, mark t s * E s = ∑ s ∈ Finset.range (t + 1), E s := by
  rw [Fin.sum_univ_eq_sum_range (fun s => mark t s * E s) 128]
  have hm : ∀ s, mark t s * E s = if s ≤ t then E s else 0 := fun s => by
    unfold mark inSum
    rw [if_pos ht]
    by_cases h : s ≤ t
    · rw [if_pos h, Nat.ble_eq.mpr h]; simp
    · rw [if_neg h, Bool.eq_false_iff.mpr (fun h' => h (Nat.ble_eq.mp h'))]; simp
  simp only [hm]
  rw [← Finset.sum_filter]
  refine Finset.sum_congr (Finset.ext fun s => ?_) fun _ _ => rfl
  simp only [Finset.mem_filter, Finset.mem_range]
  omega

/-- The rows between `t` and the middle row of its block, summed with the sign of its half. -/
theorem mark_pre (lf : ℕ → ℕ → ℝ) (base d h r t : ℕ) (ht : t < 128) (ha : t / (2 * h) * (2 * h) + h - 1 < 128) (hh : 0 < h)
    (hm : ∀ s, mark r s = if (t / (2 * h) * (2 * h) + h - 1 < s ∧ s ≤ t) ∨ (t < s ∧ s ≤ t / (2 * h) * (2 * h) + h - 1) then 1 else 0)
    (hs : t / h % 2 = 1 ↔ t / (2 * h) * (2 * h) + h - 1 < t) :
    ∑ s : Fin 128, mark r s * lf (base + s) d = pre (cum lf base) h t d := by
  unfold pre cum sgn
  generalize hA : t / (2 * h) * (2 * h) + h - 1 = a at *
  simp only [hm]
  by_cases h1 : a < t
  · rw [if_pos (hs.mpr h1), mul_one, ← mark_sum (fun s => lf (base + s) d) a t ha ht h1.le]
    refine Finset.sum_congr rfl fun s _ => ?_
    congr 2
    exact propext ⟨fun h => h.elim id fun h => by omega, .inl⟩
  · rw [if_neg (fun h => h1 (hs.mp h)), mul_neg, mul_one, neg_sub, ← mark_sum (fun s => lf (base + s) d) t a ht ha (by omega)]
    refine Finset.sum_congr rfl fun s _ => ?_
    congr 2
    exact propext ⟨fun h => h.elim (fun h => by omega) id, .inr⟩

theorem mark_two (lf : ℕ → ℕ → ℝ) (base d t : ℕ) (ht : t < 128) :
    ∑ s : Fin 128, mark (128 + t) s * lf (base + s) d = pre (cum lf base) 2 t d := by
  refine mark_pre lf base d 2 (128 + t) t ht (by omega) (by omega) (fun s => ?_) (by omega)
  unfold mark inSum
  rw [if_neg (by omega), if_pos (by omega), Bool.cond_eq_ite]
  refine if_congr ?_ rfl rfl
  simp only [Bool.or_eq_true, Bool.and_eq_true, Nat.ble_eq, Nat.blt_eq]
  omega

theorem mark_four (lf : ℕ → ℕ → ℝ) (base d t : ℕ) (ht : t < 128) :
    ∑ s : Fin 128, mark (256 + t) s * lf (base + s) d = pre (cum lf base) 4 t d := by
  refine mark_pre lf base d 4 (256 + t) t ht (by omega) (by omega) (fun s => ?_) (by omega)
  unfold mark inSum
  rw [if_neg (by omega), if_neg (by omega), Bool.cond_eq_ite]
  refine if_congr ?_ rfl rfl
  simp only [Bool.or_eq_true, Bool.and_eq_true, Nat.ble_eq, Nat.blt_eq]
  omega

end Cert.Proof.Rec
end
-- ==== Proof.RecPieces.lean ====
module
public import proofs.«01_k».proof.Proof.RecTrip
public import proofs.«01_k».proof.Proof.RecRows
@[expose] public section
/-! The contents a trip leaves, by either branch, in terms of the operations on a chunk's rows. -/
set_option maxRecDepth 16384
noncomputable section
namespace Cert.Proof.Rec
open Cert.KernelIdeal Cert.KernelIdeal.Gen
open Idealize.ShloMosaic Idealize.ShloMosaic.TcCoe Idealize.SL.Sem

/-- A chunk's rows of the result, by the factored branch. -/
def outA (v21 : FVec Ideal S1x128 .f32) (v36 v43 v50 : FVec Ideal S128x128 .f32) (lv : Vec Ideal S128x128 .i32) (q : Vec Ideal S128x128 .f32)
    (k3 : FVec Ideal S1x128x128 .bf16) (iv : FVec Ideal S128x128 .bf16) (b : FVec Ideal S128x128 .f32) (st : Vec Ideal S1x128x128 .f32)
    (g : Vec Ideal S128x128 .f32) : FVec Ideal S128x128 .bf16 :=
  k0_pay100 (F := Ideal) v21 (direct v36 v43 v50 lv (k0_pay4 (F := Ideal) q) k3 iv b) (k0_pay63 (F := Ideal) (k0_pay52 (F := Ideal) (k0_pay4 (F := Ideal) q) b) st) g

/-- The second chunk's rows of the result, by the factored branch. -/
def outB (v21 : FVec Ideal S1x128 .f32) (v36 v43 v50 : FVec Ideal S128x128 .f32) (lv : Vec Ideal S128x128 .i32) (q : Vec Ideal S128x128 .f32)
    (k3 : FVec Ideal S1x128x128 .bf16) (iv : FVec Ideal S128x128 .bf16) (b : FVec Ideal S128x128 .f32) (st : Vec Ideal S1x128x128 .f32)
    (g : Vec Ideal S128x128 .f32) (k0 : FVec Ideal S1x128x128 .bf16) (i0 : FVec Ideal S128x128 .bf16) (b0 : FVec Ideal S128x128 .f32) : FVec Ideal S128x128 .bf16 :=
  k0_pay100 (F := Ideal) v21 (direct v36 v43 v50 lv (k0_pay4 (F := Ideal) q) k3 iv b)
    (k0_pay65 (F := Ideal) (k0_pay8 (F := Ideal) k0) i0 b0 (k0_pay52 (F := Ideal) (k0_pay4 (F := Ideal) q) b) (k0_pay56 (F := Ideal) b0) st) g

/-- The state both chunks leave. -/
def stAB (k k' : FVec Ideal S1x128x128 .bf16) (i i' : FVec Ideal S128x128 .bf16) (b b' : FVec Ideal S128x128 .f32) (st : Vec Ideal S1x128x128 .f32) :
    Vec Ideal S1x128x128 .f32 :=
  k0_pay66 (F := Ideal) (k0_pay8 (F := Ideal) k) (k0_pay8 (F := Ideal) k') i i' b b' (k0_pay56 (F := Ideal) b) (k0_pay56 (F := Ideal) b') st

/-- 128 rows and columns of an operand's block. -/
abbrev ldBig {e : EltTy} {c : Dev nD} (a : Memref sig .tc .vmem S4096x256 e) (f : Buf (Elt Ideal) (a.view.loc (c : Thread nD τ))) (off : Fin 2 → ℕ)
    (h : ∀ x : Fin 2, off x + S128x128.size x ≤ S4096x256.size x) : Vec Ideal S128x128 e :=
  a.view.readAt (Elt Ideal) (Rect.unit (s := S4096x256) off S128x128.size h).toLoadRect f

/-- 128 rows and columns of the sums. -/
abbrev ldSum {c : Dev nD} (a : Memref sig .tc .vmem S384x512 .f32) (f : Buf (Elt Ideal) (a.view.loc (c : Thread nD τ))) (off : Fin 2 → ℕ)
    (h : ∀ x : Fin 2, off x + S128x128.size x ≤ S384x512.size x) : Vec Ideal S128x128 .f32 :=
  a.view.readAt (Elt Ideal) (Rect.unit (s := S384x512) off S128x128.size h).toLoadRect f

/-- One head's columns of a chunk's prepared rows. -/
abbrev ldRow {c : Dev nD} (a : Memref sig .tc .vmem S2x128x256 .bf16) (f : Buf (Elt Ideal) (a.view.loc (c : Thread nD τ))) (off : Fin 3 → ℕ)
    (h : ∀ x : Fin 3, off x + S1x128x128.size x ≤ S2x128x256.size x) : Vec Ideal S1x128x128 .bf16 :=
  a.view.readAt (Elt Ideal) (Rect.unit (s := S2x128x256) off S1x128x128.size h).toLoadRect f

/-- One head's state. -/
abbrev ldState {c : Dev nD} (a : Memref sig .tc .vmem S2x128x128 .f32) (f : Buf (Elt Ideal) (a.view.loc (c : Thread nD τ))) (off : Fin 3 → ℕ)
    (h : ∀ x : Fin 3, off x + S1x128x128.size x ≤ S2x128x128.size x) : Vec Ideal S1x128x128 .f32 :=
  a.view.readAt (Elt Ideal) (Rect.unit (s := S2x128x128) off S1x128x128.size h).toLoadRect f

/-- The table of levels. -/
abbrev ldLv {c : Dev nD} (a : Memref sig .tc .vmem S128x128 .i32) (f : Buf (Elt Ideal) (a.view.loc (c : Thread nD τ))) : Vec Ideal S128x128 .i32 :=
  a.view.readAt (Elt Ideal) (Rect.unit (s := S128x128) ![0, 0] S128x128.size (by decide)).toLoadRect f

/-- A chunk's rows of the result, by the other branch. -/
def outC (v21 : FVec Ideal S1x128 .f32) (v29 v36 v43 v50 : FVec Ideal S128x128 .f32) (lv : Vec Ideal S128x128 .i32) (q : Vec Ideal S128x128 .f32)
    (k3 : FVec Ideal S1x128x128 .bf16) (iv : FVec Ideal S128x128 .bf16) (b d2 d4 : FVec Ideal S128x128 .f32) (e3 : FVec Ideal S1x128x128 .bf16)
    (st : Vec Ideal S1x128x128 .f32) (g : Vec Ideal S128x128 .f32) : FVec Ideal S128x128 .bf16 :=
  k0_pay100 (F := Ideal) v21 (levels v29 v36 v43 v50 lv (k0_pay4 (F := Ideal) q) k3 iv b d2 d4 e3)
    (k0_pay63 (F := Ideal) (k0_pay52 (F := Ideal) (k0_pay4 (F := Ideal) q) b) st) g

/-- The second chunk's rows of the result, by the other branch. -/
def outD (v21 : FVec Ideal S1x128 .f32) (v29 v36 v43 v50 : FVec Ideal S128x128 .f32) (lv : Vec Ideal S128x128 .i32) (q : Vec Ideal S128x128 .f32)
    (k3 : FVec Ideal S1x128x128 .bf16) (iv : FVec Ideal S128x128 .bf16) (b d2 d4 : FVec Ideal S128x128 .f32) (e3 : FVec Ideal S1x128x128 .bf16)
    (st : Vec Ideal S1x128x128 .f32) (g : Vec Ideal S128x128 .f32)
    (k0 : FVec Ideal S1x128x128 .bf16) (i0 : FVec Ideal S128x128 .bf16) (b0 : FVec Ideal S128x128 .f32) : FVec Ideal S128x128 .bf16 :=
  k0_pay100 (F := Ideal) v21 (levels v29 v36 v43 v50 lv (k0_pay4 (F := Ideal) q) k3 iv b d2 d4 e3)
    (k0_pay65 (F := Ideal) (k0_pay8 (F := Ideal) k0) i0 b0 (k0_pay52 (F := Ideal) (k0_pay4 (F := Ideal) q) b) (k0_pay56 (F := Ideal) b0) st) g

/-- 128 rows of the gates' arguments. -/
abbrev ldGate {c : Dev nD} (a : Memref sig .tc .vmem S4096x256 .f32) (f : Buf (Elt Ideal) (a.view.loc (c : Thread nD τ))) (off : Fin 2 → ℕ)
    (h : ∀ x : Fin 2, off x + S128x256.size x ≤ S4096x256.size x) : Vec Ideal S128x256 .f32 :=
  a.view.readAt (Elt Ideal) (Rect.unit (s := S4096x256) off S128x256.size h).toLoadRect f

/-- The exponents of the decays, the decays and the keys of a chunk's rows. -/
abbrev rowsL (v14 v17 : FVec Ideal S1x256 .f32) (x : Vec Ideal S128x256 .f32) : FVec Ideal S128x256 .f32 :=
  k0_pay78 (F := Ideal) v14 v17 (k0_pay75 (F := Ideal) x)
@[inherit_doc rowsL] abbrev rowsF (v13 v19 : FVec Ideal S1x256 .f32) (x : Vec Ideal S128x256 .f32) : FVec Ideal S128x256 .f32 :=
  k0_pay79 (F := Ideal) v13 v19 (k0_pay73 (F := Ideal) x) (k0_pay76 (F := Ideal) x) (k0_pay77 (F := Ideal) x)
@[inherit_doc rowsL] abbrev rowsK (v19 : FVec Ideal S1x256 .f32) (x : Vec Ideal S128x256 .f32) : FVec Ideal S128x256 .f32 :=
  k0_pay80 (F := Ideal) v19 x (k0_pay73 (F := Ideal) x) (k0_pay76 (F := Ideal) x)

/-- What a trip writes of the prepared rows, chunk by chunk. -/
def put14 (v13 v19 : FVec Ideal S1x256 .f32) (v55 : IVec S128x256 1) (x y : Vec Ideal S128x256 .f32) : List (View.Piece (Elt Ideal) S2x128x256 .bf16) :=
  [⟨Rect.unit ![1, 0, 0] S1x128x256.size (by decide), k0_pay89 (F := Ideal) v55 (rowsF v13 v19 y)⟩,
    ⟨Rect.unit ![0, 0, 0] S1x128x256.size (by decide), k0_pay89 (F := Ideal) v55 (rowsF v13 v19 x)⟩]
@[inherit_doc put14] def put15 (v19 : FVec Ideal S1x256 .f32) (x y : Vec Ideal S128x256 .f32) : List (View.Piece (Elt Ideal) S2x128x256 .bf16) :=
  [⟨Rect.unit ![1, 0, 0] S1x128x256.size (by decide), k0_pay90 (F := Ideal) (rowsK v19 y)⟩,
    ⟨Rect.unit ![0, 0, 0] S1x128x256.size (by decide), k0_pay90 (F := Ideal) (rowsK v19 x)⟩]
@[inherit_doc put14] def put16 (v14 v17 : FVec Ideal S1x256 .f32) (x y : Vec Ideal S128x256 .f32) : List (View.Piece (Elt Ideal) S2x128x512 .bf16) :=
  [⟨Rect.unit ![1, 0, 0] S1x128x512.size (by decide), k0_pay97 (F := Ideal) (rowsL v14 v17 x) (rowsL v14 v17 y)⟩,
    ⟨Rect.unit ![0, 0, 0] S1x128x512.size (by decide), k0_pay96 (F := Ideal) (rowsL v14 v17 x) (rowsL v14 v17 y)⟩]

/-- The sums within the chunks, of the exponents just written. -/
abbrev sumsOf {c : Dev nD} (a9 : Memref sig .tc .vmem S384x128 .bf16) (f9 : Buf (Elt Ideal) (a9.view.loc (c : Thread nD τ)))
    (a16 : Memref sig .tc .vmem S2x128x512 .bf16) (L : List (View.Piece (Elt Ideal) S2x128x512 .bf16)) : Vec Ideal S128x512 .f32 :=
  k0_pay98 (F := Ideal) (a9.view.readAt (Elt Ideal) (Rect.unit (s := S384x128) ![0, 0] S128x128.size (by decide)).toLoadRect f9)
    (a16.view.readCov L (Rect.unit (s := S2x128x512) ![0, 0, 0] S1x128x512.size (by decide)).toLoadRect)
    (a16.view.readCov L (Rect.unit (s := S2x128x512) ![1, 0, 0] S1x128x512.size (by decide)).toLoadRect)

/-- The sums between the rows and the middles of their blocks. -/
def putLow {c : Dev nD} (a9 : Memref sig .tc .vmem S384x128 .bf16) (f9 : Buf (Elt Ideal) (a9.view.loc (c : Thread nD τ)))
    (a16 : Memref sig .tc .vmem S2x128x512 .bf16) (f16 : Buf (Elt Ideal) (a16.view.loc (c : Thread nD τ))) : List (View.Piece (Elt Ideal) S384x512 .f32) :=
  [⟨Rect.unit ![128, 0] S256x512.size (by decide), k0_pay116 (F := Ideal) (k0_pay115 (F := Ideal) (a9.view.readAt (Elt Ideal) (Rect.unit (s := S384x128) ![128, 0] S256x128.size (by decide)).toLoadRect f9)
    (a16.view.readAt (Elt Ideal) (Rect.unit (s := S2x128x512) ![0, 0, 0] S1x128x512.size (by decide)).toLoadRect f16)
    (a16.view.readAt (Elt Ideal) (Rect.unit (s := S2x128x512) ![1, 0, 0] S1x128x512.size (by decide)).toLoadRect f16))⟩]

/-- 128 rows and columns of them. -/
abbrev ldLow (a : Memref sig .tc .vmem S384x512 .f32) (L : List (View.Piece (Elt Ideal) S384x512 .f32)) (off : Fin 2 → ℕ)
    (h : ∀ x : Fin 2, off x + S128x128.size x ≤ S384x512.size x) : Vec Ideal S128x128 .f32 :=
  a.view.readCov L (Rect.unit (s := S384x512) off S128x128.size h).toLoadRect

section
variable (c : Dev nD) (arg3 : Memref sig .tc .vmem S4096x256 .f32) (arg4 : Memref sig .tc .vmem S4096x256 .f32) (arg5 : Memref sig .tc .vmem S4096x256 .bf16) (arg6 : Memref sig .tc .vmem S4096x256 .f32)  (arg9 : Memref sig .tc .vmem S384x128 .bf16)  (arg10 : Memref sig .tc .vmem S128x128 .i32)  (arg12 : Memref sig .tc .vmem S2x128x128 .f32) (arg13 : Memref sig .tc .vmem S384x512 .f32) (arg14 : Memref sig .tc .vmem S2x128x256 .bf16) (arg15 : Memref sig .tc .vmem S2x128x256 .bf16) (arg16 : Memref sig .tc .vmem S2x128x512 .bf16)
  (v13 v14 v17 v19 : FVec Ideal S1x256 .f32) (v21 : FVec Ideal S1x128 .f32) (v29 v36 v43 v50 : FVec Ideal S128x128 .f32) (v55 : IVec S128x256 1)
  (f4 : Buf (Elt Ideal) (arg4.view.loc (c : Thread nD τ))) (f9 : Buf (Elt Ideal) (arg9.view.loc (c : Thread nD τ))) (f14 : Buf (Elt Ideal) (arg14.view.loc (c : Thread nD τ))) (f16 : Buf (Elt Ideal) (arg16.view.loc (c : Thread nD τ)))
  (f3 : Buf (Elt Ideal) (arg3.view.loc (c : Thread nD τ))) (f5 : Buf (Elt Ideal) (arg5.view.loc (c : Thread nD τ))) (f6 : Buf (Elt Ideal) (arg6.view.loc (c : Thread nD τ)))
   (f10 : Buf (Elt Ideal) (arg10.view.loc (c : Thread nD τ)))
   (f12 : Buf (Elt Ideal) (arg12.view.loc (c : Thread nD τ)))
   (f13 : Buf (Elt Ideal) (arg13.view.loc (c : Thread nD τ)))
   (f15 : Buf (Elt Ideal) (arg15.view.loc (c : Thread nD τ)))
   (k : Fin k0_t1_loop.trips)

theorem direct_states : tripDirect.sl.H12_2 (F := Ideal) c arg5 arg12 arg13 arg15 f5 f12 f13 f15 k
    = [⟨Rect.unit ![1, 0, 0] S1x128x128.size (by decide), stAB (ldRow arg15 f15 ![0, 0, 128] (by decide)) (ldRow arg15 f15 ![1, 0, 128] (by decide))
      (ldBig arg5 f5 (k0_off2 k 0#32) (k0_off2_inb k 0)) (ldBig arg5 f5 (k0_off2 k 1#32) (k0_off2_inb k 1))
      (ldSum arg13 f13 ![0, 128] (by decide)) (ldSum arg13 f13 ![0, 384] (by decide)) (ldState arg12 f12 ![1, 0, 0] (by decide))⟩,
      ⟨Rect.unit ![0, 0, 0] S1x128x128.size (by decide), stAB (ldRow arg15 f15 ![0, 0, 0] (by decide)) (ldRow arg15 f15 ![1, 0, 0] (by decide))
      (ldBig arg5 f5 (k0_off1 k 0#32) (k0_off1_inb k 0)) (ldBig arg5 f5 (k0_off1 k 1#32) (k0_off1_inb k 1))
      (ldSum arg13 f13 ![0, 0] (by decide)) (ldSum arg13 f13 ![0, 256] (by decide)) (ldState arg12 f12 ![0, 0, 0] (by decide))⟩] := rfl

theorem direct_out00 : tripDirect.sl.H11_1 (F := Ideal) c arg3 arg5 arg6 arg10 arg12 arg13 arg15 v21 v36 v43 v50 f3 f5 f6 f10 f12 f13 f15 k
    = [⟨Rect.unit (k0_off1 k 0#32) S128x128.size (k0_off1_inb k 0), outA v21 v36 v43 v50 (ldLv arg10 f10)
      (ldBig arg3 f3 (k0_off1 k 0#32) (k0_off1_inb k 0)) (ldRow arg15 f15 ![0, 0, 0] (by decide)) (ldBig arg5 f5 (k0_off1 k 0#32) (k0_off1_inb k 0))
      (ldSum arg13 f13 ![0, 0] (by decide)) (ldState arg12 f12 ![0, 0, 0] (by decide)) (ldBig arg6 f6 (k0_off1 k 0#32) (k0_off1_inb k 0))⟩] := rfl

theorem direct_out01 : tripDirect.sl.v815 (F := Ideal) c arg3 arg5 arg6 arg10 arg12 arg13 arg15 v21 v36 v43 v50 f3 f5 f6 f10 f12 f13 f15 k
    = outA v21 v36 v43 v50 (ldLv arg10 f10)
      (ldBig arg3 f3 (k0_off2 k 0#32) (k0_off2_inb k 0)) (ldRow arg15 f15 ![0, 0, 128] (by decide)) (ldBig arg5 f5 (k0_off2 k 0#32) (k0_off2_inb k 0))
      (ldSum arg13 f13 ![0, 128] (by decide)) (ldState arg12 f12 ![1, 0, 0] (by decide)) (ldBig arg6 f6 (k0_off2 k 0#32) (k0_off2_inb k 0)) := rfl

theorem direct_out10 : tripDirect.sl.v839 (F := Ideal) c arg3 arg5 arg6 arg10 arg12 arg13 arg15 v21 v36 v43 v50 f3 f5 f6 f10 f12 f13 f15 k
    = outB v21 v36 v43 v50 (ldLv arg10 f10)
      (ldBig arg3 f3 (k0_off1 k 1#32) (k0_off1_inb k 1)) (ldRow arg15 f15 ![1, 0, 0] (by decide)) (ldBig arg5 f5 (k0_off1 k 1#32) (k0_off1_inb k 1))
      (ldSum arg13 f13 ![0, 256] (by decide)) (ldState arg12 f12 ![0, 0, 0] (by decide)) (ldBig arg6 f6 (k0_off1 k 1#32) (k0_off1_inb k 1))
      (ldRow arg15 f15 ![0, 0, 0] (by decide)) (ldBig arg5 f5 (k0_off1 k 0#32) (k0_off1_inb k 0)) (ldSum arg13 f13 ![0, 0] (by decide)) := rfl

theorem direct_out11 : k0_pay2 v21 (tripDirect.sl.v842 (F := Ideal) c arg3 arg5 arg10 arg12 arg13 arg15 v36 v43 v50 f3 f5 f10 f12 f13 f15 k) (tripDirect.sl.v847 c arg3 arg5 arg10 arg12 arg13 arg15 v36 v43 v50 f3 f5 f10 f12 f13 f15 k) tripDirect.sl.cst_255 (ldBig arg6 f6 (k0_off2 k 1#32) (k0_off2_inb k 1))
    = outB v21 v36 v43 v50 (ldLv arg10 f10)
      (ldBig arg3 f3 (k0_off2 k 1#32) (k0_off2_inb k 1)) (ldRow arg15 f15 ![1, 0, 128] (by decide)) (ldBig arg5 f5 (k0_off2 k 1#32) (k0_off2_inb k 1))
      (ldSum arg13 f13 ![0, 384] (by decide)) (ldState arg12 f12 ![1, 0, 0] (by decide)) (ldBig arg6 f6 (k0_off2 k 1#32) (k0_off2_inb k 1))
      (ldRow arg15 f15 ![0, 0, 128] (by decide)) (ldBig arg5 f5 (k0_off2 k 0#32) (k0_off2_inb k 0)) (ldSum arg13 f13 ![0, 128] (by decide)) := rfl

theorem direct_rows14 : tripDirect.sl.H14_2 (F := Ideal) c arg4 v13 v19 v55 f4 k = put14 v13 v19 v55 (ldGate arg4 f4 (k0_off3 k 0#32) (k0_off3_inb k 0)) (ldGate arg4 f4 (k0_off3 k 1#32) (k0_off3_inb k 1)) := rfl
theorem direct_rows15 : tripDirect.sl.H15_2 (F := Ideal) c arg4 v19 f4 k = put15 v19 (ldGate arg4 f4 (k0_off3 k 0#32) (k0_off3_inb k 0)) (ldGate arg4 f4 (k0_off3 k 1#32) (k0_off3_inb k 1)) := rfl
theorem direct_rows16 : tripDirect.sl.H16_2 (F := Ideal) c arg4 v14 v17 f4 k = put16 v14 v17 (ldGate arg4 f4 (k0_off3 k 0#32) (k0_off3_inb k 0)) (ldGate arg4 f4 (k0_off3 k 1#32) (k0_off3_inb k 1)) := rfl
theorem direct_sums : tripDirect.sl.H13_1 (F := Ideal) c arg4 arg9 arg16 v14 v17 f4 f9 k
    = [⟨Rect.unit ![0, 0] S128x512.size (by decide), sumsOf arg9 f9 arg16 (put16 v14 v17 (ldGate arg4 f4 (k0_off3 k 0#32) (k0_off3_inb k 0)) (ldGate arg4 f4 (k0_off3 k 1#32) (k0_off3_inb k 1)))⟩] := rfl

theorem levels_states : tripLevels.sl.H12_2 (F := Ideal) c arg5 arg12 arg13 arg15 f5 f12 f13 f15 k
    = [⟨Rect.unit ![1, 0, 0] S1x128x128.size (by decide), stAB (ldRow arg15 f15 ![0, 0, 128] (by decide)) (ldRow arg15 f15 ![1, 0, 128] (by decide))
      (ldBig arg5 f5 (k0_off5 k 0#32) (k0_off5_inb k 0)) (ldBig arg5 f5 (k0_off5 k 1#32) (k0_off5_inb k 1))
      (ldSum arg13 f13 ![0, 128] (by decide)) (ldSum arg13 f13 ![0, 384] (by decide)) (ldState arg12 f12 ![1, 0, 0] (by decide))⟩,
      ⟨Rect.unit ![0, 0, 0] S1x128x128.size (by decide), stAB (ldRow arg15 f15 ![0, 0, 0] (by decide)) (ldRow arg15 f15 ![1, 0, 0] (by decide))
      (ldBig arg5 f5 (k0_off4 k 0#32) (k0_off4_inb k 0)) (ldBig arg5 f5 (k0_off4 k 1#32) (k0_off4_inb k 1))
      (ldSum arg13 f13 ![0, 0] (by decide)) (ldSum arg13 f13 ![0, 256] (by decide)) (ldState arg12 f12 ![0, 0, 0] (by decide))⟩] := rfl

theorem levels_out00 : tripLevels.sl.H11_1 (F := Ideal) c arg3 arg5 arg6 arg9 arg10 arg12 arg13 arg14 arg15 arg16 v21 v29 v36 v43 v50 f3 f5 f6 f9 f10 f12 f13 f14 f15 f16 k
    = [⟨Rect.unit (k0_off4 k 0#32) S128x128.size (k0_off4_inb k 0), outC v21 v29 v36 v43 v50 (ldLv arg10 f10)
      (ldBig arg3 f3 (k0_off4 k 0#32) (k0_off4_inb k 0)) (ldRow arg15 f15 ![0, 0, 0] (by decide)) (ldBig arg5 f5 (k0_off4 k 0#32) (k0_off4_inb k 0))
      (ldSum arg13 f13 ![0, 0] (by decide)) (ldLow arg13 (putLow arg9 f9 arg16 f16) ![128, 0] (by decide)) (ldLow arg13 (putLow arg9 f9 arg16 f16) ![256, 0] (by decide)) (ldRow arg14 f14 ![0, 0, 0] (by decide)) (ldState arg12 f12 ![0, 0, 0] (by decide)) (ldBig arg6 f6 (k0_off4 k 0#32) (k0_off4_inb k 0))⟩] := rfl

theorem levels_out01 : tripLevels.sl.v925 (F := Ideal) c arg3 arg5 arg6 arg9 arg10 arg12 arg13 arg14 arg15 arg16 v21 v29 v36 v43 v50 f3 f5 f6 f9 f10 f12 f13 f14 f15 f16 k
    = outC v21 v29 v36 v43 v50 (ldLv arg10 f10)
      (ldBig arg3 f3 (k0_off5 k 0#32) (k0_off5_inb k 0)) (ldRow arg15 f15 ![0, 0, 128] (by decide)) (ldBig arg5 f5 (k0_off5 k 0#32) (k0_off5_inb k 0))
      (ldSum arg13 f13 ![0, 128] (by decide)) (ldLow arg13 (putLow arg9 f9 arg16 f16) ![128, 128] (by decide)) (ldLow arg13 (putLow arg9 f9 arg16 f16) ![256, 128] (by decide)) (ldRow arg14 f14 ![0, 0, 128] (by decide)) (ldState arg12 f12 ![1, 0, 0] (by decide)) (ldBig arg6 f6 (k0_off5 k 0#32) (k0_off5_inb k 0)) := rfl

theorem levels_out10 : tripLevels.sl.v949 (F := Ideal) c arg3 arg5 arg6 arg9 arg10 arg12 arg13 arg14 arg15 arg16 v21 v29 v36 v43 v50 f3 f5 f6 f9 f10 f12 f13 f14 f15 f16 k
    = outD v21 v29 v36 v43 v50 (ldLv arg10 f10)
      (ldBig arg3 f3 (k0_off4 k 1#32) (k0_off4_inb k 1)) (ldRow arg15 f15 ![1, 0, 0] (by decide)) (ldBig arg5 f5 (k0_off4 k 1#32) (k0_off4_inb k 1))
      (ldSum arg13 f13 ![0, 256] (by decide)) (ldLow arg13 (putLow arg9 f9 arg16 f16) ![128, 256] (by decide)) (ldLow arg13 (putLow arg9 f9 arg16 f16) ![256, 256] (by decide)) (ldRow arg14 f14 ![1, 0, 0] (by decide)) (ldState arg12 f12 ![0, 0, 0] (by decide)) (ldBig arg6 f6 (k0_off4 k 1#32) (k0_off4_inb k 1))
      (ldRow arg15 f15 ![0, 0, 0] (by decide)) (ldBig arg5 f5 (k0_off4 k 0#32) (k0_off4_inb k 0)) (ldSum arg13 f13 ![0, 0] (by decide)) := rfl

theorem levels_out11 : k0_pay3 v21 (tripLevels.sl.v952 (F := Ideal) c arg3 arg5 arg9 arg10 arg12 arg13 arg14 arg15 arg16 v29 v36 v43 v50 f3 f5 f9 f10 f12 f13 f14 f15 f16 k)
      (tripLevels.sl.v960 c arg3 arg5 arg9 arg10 arg12 arg13 arg14 arg15 arg16 v29 v36 v43 v50 f3 f5 f9 f10 f12 f13 f14 f15 f16 k) (ldBig arg6 f6 (k0_off5 k 1#32) (k0_off5_inb k 1))
    = outD v21 v29 v36 v43 v50 (ldLv arg10 f10)
      (ldBig arg3 f3 (k0_off5 k 1#32) (k0_off5_inb k 1)) (ldRow arg15 f15 ![1, 0, 128] (by decide)) (ldBig arg5 f5 (k0_off5 k 1#32) (k0_off5_inb k 1))
      (ldSum arg13 f13 ![0, 384] (by decide)) (ldLow arg13 (putLow arg9 f9 arg16 f16) ![128, 384] (by decide)) (ldLow arg13 (putLow arg9 f9 arg16 f16) ![256, 384] (by decide)) (ldRow arg14 f14 ![1, 0, 128] (by decide)) (ldState arg12 f12 ![1, 0, 0] (by decide)) (ldBig arg6 f6 (k0_off5 k 1#32) (k0_off5_inb k 1))
      (ldRow arg15 f15 ![0, 0, 128] (by decide)) (ldBig arg5 f5 (k0_off5 k 0#32) (k0_off5_inb k 0)) (ldSum arg13 f13 ![0, 128] (by decide)) := rfl

theorem levels_rows14 : tripLevels.sl.H14_2 (F := Ideal) c arg4 v13 v19 v55 f4 k = put14 v13 v19 v55 (ldGate arg4 f4 (k0_off6 k 0#32) (k0_off6_inb k 0)) (ldGate arg4 f4 (k0_off6 k 1#32) (k0_off6_inb k 1)) := rfl
theorem levels_rows15 : tripLevels.sl.H15_2 (F := Ideal) c arg4 v19 f4 k = put15 v19 (ldGate arg4 f4 (k0_off6 k 0#32) (k0_off6_inb k 0)) (ldGate arg4 f4 (k0_off6 k 1#32) (k0_off6_inb k 1)) := rfl
theorem levels_rows16 : tripLevels.sl.H16_2 (F := Ideal) c arg4 v14 v17 f4 k = put16 v14 v17 (ldGate arg4 f4 (k0_off6 k 0#32) (k0_off6_inb k 0)) (ldGate arg4 f4 (k0_off6 k 1#32) (k0_off6_inb k 1)) := rfl
theorem levels_sums : tripLevels.sl.H13_2 (F := Ideal) c arg4 arg9 arg16 v14 v17 f4 f9 f16 k
    = ⟨Rect.unit ![0, 0] S128x512.size (by decide), sumsOf arg9 f9 arg16 (put16 v14 v17 (ldGate arg4 f4 (k0_off6 k 0#32) (k0_off6_inb k 0)) (ldGate arg4 f4 (k0_off6 k 1#32) (k0_off6_inb k 1)))⟩ :: putLow arg9 f9 arg16 f16 := rfl
end

end Cert.Proof.Rec
end
-- ==== Proof.RecChunk.lean ====
module
public import proofs.«01_k».proof.Proof.RecPieces
@[expose] public section
/-! The values of a chunk's rows of the result and of the state it leaves, from the values of what it reads. -/
noncomputable section
namespace Cert.Proof.Rec
open Cert.KernelIdeal Cert.KernelIdeal.Gen
open Idealize.ShloMosaic Idealize.ShloMosaic.TcCoe Idealize.SL.Sem

/-- The operands of one block of the recurrence, real but for the gate arguments, which may be infinite: queries, gate arguments, values, output gates, the bounds' logits and the gain. -/
structure Vals where
  Q : ℕ → ℕ → ℝ
  X : ℕ → ℕ → EReal
  I : ℕ → ℕ → ℝ
  G : ℕ → ℕ → ℝ
  Z : ℕ → ℕ → ℝ
  N : ℕ → EReal

/-- The activated query. -/
def Vals.q (D : Vals) (r c : ℕ) : ℝ := silu (D.Q r c)
/-- The key: what the gate lets in. -/
def Vals.k (D : Vals) (r c : ℕ) : ℝ := fresh (low D.Z c) (D.X r c)
/-- The exponent of what the gate keeps. -/
def Vals.lf (D : Vals) (r c : ℕ) : ℝ := Real.log (keep (low D.Z c) (D.X r c)) * (Real.log 2)⁻¹
/-- One head's columns. -/
def sh (h : ℕ) (P : ℕ → ℕ → ℝ) (r c : ℕ) : ℝ := P r (128 * h + c)
/-- The state before row `n`. -/
def Vals.st (D : Vals) (h n v d : ℕ) : ℝ := state (sh h D.k) (sh h D.lf) (sh h D.I) n v d
/-- The block's result. -/
def Vals.res (D : Vals) (r c : ℕ) : EReal :=
  normed (outp (sh (c / 128) D.q) (sh (c / 128) D.k) (sh (c / 128) D.lf) (sh (c / 128) D.I) r) (D.N (c % 128)) (D.G r c) (c % 128)

variable {D : Vals} {h base : ℕ} {v21 : FVec Ideal S1x128 .f32} {v29 v36 v43 v50 : FVec Ideal S128x128 .f32} {lv : Vec Ideal S128x128 .i32}
  {q : Vec Ideal S128x128 .f32} {k3 k3' : FVec Ideal S1x128x128 .bf16} {iv iv' : FVec Ideal S128x128 .bf16} {b b' d2 d4 : FVec Ideal S128x128 .f32}
  {e3 : FVec Ideal S1x128x128 .bf16} {st : Vec Ideal S1x128x128 .f32} {g : Vec Ideal S128x128 .f32}

theorem res_at (t v : Fin 128) : D.res (base + t) (128 * h + v)
    = normed (outp (sh h D.q) (sh h D.k) (sh h D.lf) (sh h D.I) (base + t)) (D.N v) (D.G (base + t) (128 * h + v)) v := by
  have hv := v.isLt
  have h1 : (128 * h + (v : ℕ)) / 128 = h := by omega
  have h2 : (128 * h + (v : ℕ)) % 128 = v := by omega
  rw [Vals.res, h1, h2]

/-- What a chunk reads has the values of its rows. -/
structure Chunk (D : Vals) (h base : ℕ) (k3 : FVec Ideal S1x128x128 .bf16) (iv : FVec Ideal S128x128 .bf16) (b : FVec Ideal S128x128 .f32) : Prop where
  hk : ∀ t d : Fin 128, k3 (ix3 0 t d) = ((D.k (base + t) (128 * h + d) : ℝ) : EReal)
  hi : ∀ t d : Fin 128, iv (ix2 t d) = ((D.I (base + t) (128 * h + d) : ℝ) : EReal)
  hb : ∀ t d : Fin 128, b (ix2 t d) = ((cum D.lf base t (128 * h + d) : ℝ) : EReal)

theorem first_state (C : Chunk D h base k3 iv b) (hs : ∀ v d : Fin 128, st (ix3 0 v d) = ((D.st h base v d : ℝ) : EReal)) (v d : Fin 128) :
    k0_pay64 (F := Ideal) (k0_pay8 (F := Ideal) k3) iv b (k0_pay56 (F := Ideal) b) st (ix2 v d) = ((D.st h (base + 128) v d : ℝ) : EReal) := by
  rw [state_val (K := fun t d => D.k (base + t) (128 * h + d)) (I := fun t d => D.I (base + t) (128 * h + d))
    (B := fun t d => cum D.lf base t (128 * h + d)) (S := D.st h base) C.hk C.hi C.hb hs]
  exact congrArg _ (chunk_state (sh h D.k) (sh h D.lf) (sh h D.I) base 128 v d (by omega))

theorem stAB_val (C : Chunk D h base k3 iv b) (C' : Chunk D h (base + 128) k3' iv' b')
    (hs : ∀ v d : Fin 128, st (ix3 0 v d) = ((D.st h base v d : ℝ) : EReal)) (v d : Fin 128) :
    stAB k3 k3' iv iv' b b' st (ix3 0 v d) = ((D.st h (base + 256) v d : ℝ) : EReal) := by
  rw [stAB, state2_val (K' := fun t d => D.k (base + 128 + t) (128 * h + d)) (I' := fun t d => D.I (base + 128 + t) (128 * h + d))
    (B' := fun t d => cum D.lf (base + 128) t (128 * h + d)) (S := D.st h (base + 128)) C'.hk C'.hi C'.hb (first_state C hs)]
  exact congrArg _ (chunk_state (sh h D.k) (sh h D.lf) (sh h D.I) (base + 128) 128 v d (by omega))

/-- What the result's rows read besides. -/
structure Around (D : Vals) (h base : ℕ) (v21 : FVec Ideal S1x128 .f32) (v29 v36 v43 v50 : FVec Ideal S128x128 .f32) (lv : Vec Ideal S128x128 .i32)
    (q : Vec Ideal S128x128 .f32) (g : Vec Ideal S128x128 .f32) : Prop where
  h21 : ∀ v : Fin 128, v21 (ix2 0 v) = D.N v
  h29 : ∀ t d : Fin 128, v29 (ix2 t d) = ((sgn 8 t : ℝ) : EReal)
  h36 : ∀ t d : Fin 128, v36 (ix2 t d) = ((sgn 16 t : ℝ) : EReal)
  h43 : ∀ t d : Fin 128, v43 (ix2 t d) = ((sgn 32 t : ℝ) : EReal)
  h50 : ∀ t d : Fin 128, v50 (ix2 t d) = ((sgn 64 t : ℝ) : EReal)
  hl : ∀ t s : Fin 128, Level t s (lv (ix2 t s))
  hq : ∀ t d : Fin 128, q (ix2 t d) = ((D.Q (base + t) (128 * h + d) : ℝ) : EReal)
  hg : ∀ t d : Fin 128, g (ix2 t d) = ((D.G (base + t) (128 * h + d) : ℝ) : EReal)

/-- The rows' result from the two sums. -/
theorem out_of {o1 o2 : FVec Ideal S128x128 .f32} (h21 : ∀ v : Fin 128, v21 (ix2 0 v) = D.N v)
    (hg : ∀ t d : Fin 128, g (ix2 t d) = ((D.G (base + t) (128 * h + d) : ℝ) : EReal))
    (h1 : ∀ t v : Fin 128, o1 (ix2 t v) = ((∑ s : Fin 128, score (fun t d => D.q (base + t) (128 * h + d)) (fun t d => D.k (base + t) (128 * h + d))
      (fun t d => cum D.lf base t (128 * h + d)) t s * D.I (base + s) (128 * h + v) : ℝ) : EReal))
    (h2 : ∀ t v : Fin 128, o2 (ix2 t v) = ((∑ d : Fin 128, D.q (base + t) (128 * h + d) * (2:ℝ) ^ cum D.lf base t (128 * h + d) * D.st h base v d : ℝ) : EReal))
    (t v : Fin 128) : k0_pay100 (F := Ideal) v21 o1 o2 g (ix2 t v) = D.res (base + t) (128 * h + v) := by
  rw [out_val (N := D.N) (G := fun t d => D.G (base + t) (128 * h + d))
    (O1 := fun t v => ∑ s : Fin 128, score (fun t d => D.q (base + t) (128 * h + d)) (fun t d => D.k (base + t) (128 * h + d))
      (fun t d => cum D.lf base t (128 * h + d)) t s * D.I (base + s) (128 * h + v))
    (O2 := fun t v => ∑ d : Fin 128, D.q (base + t) (128 * h + d) * (2:ℝ) ^ cum D.lf base t (128 * h + d) * D.st h base v d) h21 h1 h2 hg, res_at]
  congr 1
  exact funext fun v => chunk_out (sh h D.q) (sh h D.k) (sh h D.lf) (sh h D.I) base 128 t v t.isLt

theorem outA_val (C : Chunk D h base k3 iv b) (A : Around D h base v21 v29 v36 v43 v50 lv q g)
    (hs : ∀ v d : Fin 128, st (ix3 0 v d) = ((D.st h base v d : ℝ) : EReal)) (t v : Fin 128) :
    outA v21 v36 v43 v50 lv q k3 iv b st g (ix2 t v) = D.res (base + t) (128 * h + v) := by
  have hq := q_val (X := fun t d => D.Q (base + t) (128 * h + d)) A.hq
  exact out_of A.h21 A.hg (direct_val (Q := fun t d => D.q (base + t) (128 * h + d)) (K := fun t d => D.k (base + t) (128 * h + d))
    (B := fun t d => cum D.lf base t (128 * h + d)) (I := fun t d => D.I (base + t) (128 * h + d)) A.h36 A.h43 A.h50 A.hl hq C.hk C.hi C.hb)
    (inter_val (Q := fun t d => D.q (base + t) (128 * h + d)) (B := fun t d => cum D.lf base t (128 * h + d)) (S := D.st h base) hq C.hb hs) t v

/-- What the sums between rows and the rows' decays read besides. -/
structure Near (D : Vals) (h base : ℕ) (d2 d4 : FVec Ideal S128x128 .f32) (e3 : FVec Ideal S1x128x128 .bf16) : Prop where
  h2 : ∀ t d : Fin 128, d2 (ix2 t d) = ((pre (cum D.lf base) 2 t (128 * h + d) : ℝ) : EReal)
  h4 : ∀ t d : Fin 128, d4 (ix2 t d) = ((pre (cum D.lf base) 4 t (128 * h + d) : ℝ) : EReal)
  he : ∀ t d : Fin 128, e3 (ix3 0 t d) = (((2:ℝ) ^ pre (cum D.lf base) 1 t (128 * h + d) : ℝ) : EReal)

theorem outC_val (C : Chunk D h base k3 iv b) (A : Around D h base v21 v29 v36 v43 v50 lv q g) (E : Near D h base d2 d4 e3)
    (hs : ∀ v d : Fin 128, st (ix3 0 v d) = ((D.st h base v d : ℝ) : EReal)) (t v : Fin 128) :
    outC v21 v29 v36 v43 v50 lv q k3 iv b d2 d4 e3 st g (ix2 t v) = D.res (base + t) (128 * h + v) := by
  have hq := q_val (X := fun t d => D.Q (base + t) (128 * h + d)) A.hq
  exact out_of A.h21 A.hg (levels_val (Q := fun t d => D.q (base + t) (128 * h + d)) (K := fun t d => D.k (base + t) (128 * h + d))
    (B := fun t d => cum D.lf base t (128 * h + d)) (I := fun t d => D.I (base + t) (128 * h + d)) A.h29 A.h36 A.h43 A.h50 A.hl hq C.hk C.hi C.hb E.h2 E.h4 E.he)
    (inter_val (Q := fun t d => D.q (base + t) (128 * h + d)) (B := fun t d => cum D.lf base t (128 * h + d)) (S := D.st h base) hq C.hb hs) t v

theorem outB_val (C : Chunk D h base k3 iv b) (C' : Chunk D h (base + 128) k3' iv' b') (A : Around D h (base + 128) v21 v29 v36 v43 v50 lv q g)
    (hs : ∀ v d : Fin 128, st (ix3 0 v d) = ((D.st h base v d : ℝ) : EReal)) (t v : Fin 128) :
    outB v21 v36 v43 v50 lv q k3' iv' b' st g k3 iv b (ix2 t v) = D.res (base + 128 + t) (128 * h + v) := by
  have hq := q_val (X := fun t d => D.Q (base + 128 + t) (128 * h + d)) A.hq
  exact out_of A.h21 A.hg (direct_val (Q := fun t d => D.q (base + 128 + t) (128 * h + d)) (K := fun t d => D.k (base + 128 + t) (128 * h + d))
    (B := fun t d => cum D.lf (base + 128) t (128 * h + d)) (I := fun t d => D.I (base + 128 + t) (128 * h + d)) A.h36 A.h43 A.h50 A.hl hq C'.hk C'.hi C'.hb)
    (inter2_val (Q := fun t d => D.q (base + 128 + t) (128 * h + d)) (B' := fun t d => cum D.lf (base + 128) t (128 * h + d))
      (S := D.st h (base + 128)) hq C'.hb (first_state C hs)) t v

theorem outD_val (C : Chunk D h base k3 iv b) (C' : Chunk D h (base + 128) k3' iv' b') (A : Around D h (base + 128) v21 v29 v36 v43 v50 lv q g)
    (E : Near D h (base + 128) d2 d4 e3)
    (hs : ∀ v d : Fin 128, st (ix3 0 v d) = ((D.st h base v d : ℝ) : EReal)) (t v : Fin 128) :
    outD v21 v29 v36 v43 v50 lv q k3' iv' b' d2 d4 e3 st g k3 iv b (ix2 t v) = D.res (base + 128 + t) (128 * h + v) := by
  have hq := q_val (X := fun t d => D.Q (base + 128 + t) (128 * h + d)) A.hq
  exact out_of A.h21 A.hg (levels_val (Q := fun t d => D.q (base + 128 + t) (128 * h + d)) (K := fun t d => D.k (base + 128 + t) (128 * h + d))
    (B := fun t d => cum D.lf (base + 128) t (128 * h + d)) (I := fun t d => D.I (base + 128 + t) (128 * h + d)) A.h29 A.h36 A.h43 A.h50 A.hl hq
      C'.hk C'.hi C'.hb E.h2 E.h4 E.he)
    (inter2_val (Q := fun t d => D.q (base + 128 + t) (128 * h + d)) (B' := fun t d => cum D.lf (base + 128) t (128 * h + d))
      (S := D.st h (base + 128)) hq C'.hb (first_state C hs)) t v

end Cert.Proof.Rec
end
-- ==== Proof.RecStep.lean ====
module
public import proofs.«01_k».proof.Proof.RecMem
public import proofs.«01_k».proof.Proof.RecChunk
@[expose] public section
/-! What the buffers hold at the head of a trip, and that a trip of either branch keeps it. -/
set_option maxRecDepth 16384
noncomputable section
namespace Cert.Proof.Rec
open Cert.KernelIdeal Cert.KernelIdeal.Gen
open Idealize.ShloMosaic Idealize.ShloMosaic.TcCoe Idealize.SL.Sem

/-- What the operands' buffers hold, and the values computed before the loop. -/
structure Ins (D : Vals) {c : Dev nD} (arg3 : Memref sig .tc .vmem S4096x256 .f32) (arg4 : Memref sig .tc .vmem S4096x256 .f32) (arg5 : Memref sig .tc .vmem S4096x256 .bf16) (arg6 : Memref sig .tc .vmem S4096x256 .f32) (arg9 : Memref sig .tc .vmem S384x128 .bf16) (arg10 : Memref sig .tc .vmem S128x128 .i32)
    (v13 v14 v17 v19 : FVec Ideal S1x256 .f32) (v21 : FVec Ideal S1x128 .f32) (v29 v36 v43 v50 : FVec Ideal S128x128 .f32) (v55 : IVec S128x256 1)
    (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f9 : Buf (Elt Ideal) (arg9.view.loc (c : Thread nD τ))) (f10 : Buf (Elt Ideal) (arg10.view.loc (c : Thread nD τ))) : Prop where
  h3 : ∀ (r : Fin 4096) (j : Fin 256), arg3.view.read (Elt Ideal) f3 (ix2 r j) = ((D.Q r j : ℝ) : EReal)
  h4 : ∀ (r : Fin 4096) (j : Fin 256), arg4.view.read (Elt Ideal) f4 (ix2 r j) = D.X r j
  h5 : ∀ (r : Fin 4096) (j : Fin 256), arg5.view.read (Elt Ideal) f5 (ix2 r j) = ((D.I r j : ℝ) : EReal)
  h6 : ∀ (r : Fin 4096) (j : Fin 256), arg6.view.read (Elt Ideal) f6 (ix2 r j) = ((D.G r j : ℝ) : EReal)
  h9 : ∀ (r : Fin 384) (s : Fin 128), arg9.view.read (Elt Ideal) f9 (ix2 r s) = ((mark r s : ℝ) : EReal)
  h10 : ∀ t s : Fin 128, Level t s (arg10.view.read (Elt Ideal) f10 (ix2 t s))
  h13 : ∀ d : Fin 256, v13 (ix2 0 d) = ((low D.Z d : ℝ) : EReal)
  h14 : ∀ d : Fin 256, v14 (ix2 0 d) = ((Real.log (low D.Z d) : ℝ) : EReal)
  h17 : ∀ d : Fin 256, v17 (ix2 0 d) = ((Real.log (1 - low D.Z d) : ℝ) : EReal)
  h19 : ∀ d : Fin 256, v19 (ix2 0 d) = ((1 - low D.Z d : ℝ) : EReal)
  h21 : ∀ v : Fin 128, v21 (ix2 0 v) = D.N v
  h29 : ∀ t d : Fin 128, v29 (ix2 t d) = ((sgn 8 t : ℝ) : EReal)
  h36 : ∀ t d : Fin 128, v36 (ix2 t d) = ((sgn 16 t : ℝ) : EReal)
  h43 : ∀ t d : Fin 128, v43 (ix2 t d) = ((sgn 32 t : ℝ) : EReal)
  h50 : ∀ t d : Fin 128, v50 (ix2 t d) = ((sgn 64 t : ℝ) : EReal)
  h55 : v55 = k0_pay245

/-- The rows prepared for the trip that starts at row `n`. -/
structure Ready (D : Vals) (n : ℕ) {c : Dev nD} (arg13 : Memref sig .tc .vmem S384x512 .f32) (arg14 : Memref sig .tc .vmem S2x128x256 .bf16) (arg15 : Memref sig .tc .vmem S2x128x256 .bf16) (arg16 : Memref sig .tc .vmem S2x128x512 .bf16)
    (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) : Prop where
  h13 : ∀ (t : Fin 384) (j : Fin 512), (t : ℕ) < 128 → arg13.view.read (Elt Ideal) f13 (ix2 t j) = ((cum D.lf (n + 128 * (j / 256)) t (j % 256) : ℝ) : EReal)
  h14 : ∀ (u : Fin 2) (t : Fin 128) (j : Fin 256), arg14.view.read (Elt Ideal) f14 (ix3 u t j) = (((2:ℝ) ^ pre (cum D.lf (n + 128 * u)) 1 t j : ℝ) : EReal)
  h15 : ∀ (u : Fin 2) (t : Fin 128) (j : Fin 256), arg15.view.read (Elt Ideal) f15 (ix3 u t j) = ((D.k (n + 128 * u + t) j : ℝ) : EReal)
  h16 : ∀ (t : Fin 128) (j : Fin 512), arg16.view.read (Elt Ideal) f16 (ix3 0 t j) = ((D.lf (n + 128 * (j / 256) + t) (j % 256) : ℝ) : EReal)
  h16z : ∀ (t : Fin 128) (j : Fin 512), arg16.view.read (Elt Ideal) f16 (ix3 1 t j) = ((0 : ℝ) : EReal)

variable {D : Vals} {n u h : ℕ} {c : Dev nD} {arg3 : Memref sig .tc .vmem S4096x256 .f32} {arg4 : Memref sig .tc .vmem S4096x256 .f32} {arg5 : Memref sig .tc .vmem S4096x256 .bf16} {arg6 : Memref sig .tc .vmem S4096x256 .f32} {arg9 : Memref sig .tc .vmem S384x128 .bf16} {arg10 : Memref sig .tc .vmem S128x128 .i32} {arg11 : Memref sig .tc .vmem S4096x256 .bf16} {arg12 : Memref sig .tc .vmem S2x128x128 .f32} {arg13 : Memref sig .tc .vmem S384x512 .f32} {arg14 : Memref sig .tc .vmem S2x128x256 .bf16} {arg15 : Memref sig .tc .vmem S2x128x256 .bf16} {arg16 : Memref sig .tc .vmem S2x128x512 .bf16}
  {v13 v14 v17 v19 : FVec Ideal S1x256 .f32} {v21 : FVec Ideal S1x128 .f32} {v29 v36 v43 v50 : FVec Ideal S128x128 .f32} {v55 : IVec S128x256 1}
  {f3 : Buf (Elt Ideal) (arg3.view.loc (c : Thread nD τ))} {f4 : Buf (Elt Ideal) (arg4.view.loc (c : Thread nD τ))} {f5 : Buf (Elt Ideal) (arg5.view.loc (c : Thread nD τ))} {f6 : Buf (Elt Ideal) (arg6.view.loc (c : Thread nD τ))} {f9 : Buf (Elt Ideal) (arg9.view.loc (c : Thread nD τ))} {f10 : Buf (Elt Ideal) (arg10.view.loc (c : Thread nD τ))}
  {f11 : Buf (Elt Ideal) (arg11.view.loc (c : Thread nD τ))} {f12 : Buf (Elt Ideal) (arg12.view.loc (c : Thread nD τ))} {f13 : Buf (Elt Ideal) (arg13.view.loc (c : Thread nD τ))} {f14 : Buf (Elt Ideal) (arg14.view.loc (c : Thread nD τ))} {f15 : Buf (Elt Ideal) (arg15.view.loc (c : Thread nD τ))} {f16 : Buf (Elt Ideal) (arg16.view.loc (c : Thread nD τ))}

/-- A chunk's operands are the prepared rows. -/
theorem chunk_of (J : Ins D arg3 arg4 arg5 arg6 arg9 arg10 v13 v14 v17 v19 v21 v29 v36 v43 v50 v55 f3 f4 f5 f6 f9 f10)
    (P : Ready D n arg13 arg14 arg15 arg16 f13 f14 f15 f16) {m : ℕ} (em : m = n + 128 * u) (hh : h < 2) {o15 : Fin 3 → ℕ} {o5 o13 : Fin 2 → ℕ}
    (e15 : o15 = ![u, 0, 128 * h]) (e5 : o5 = ![m, 128 * h]) (e13 : o13 = ![0, 256 * u + 128 * h])
    (i15 : ∀ x : Fin 3, o15 x + S1x128x128.size x ≤ S2x128x256.size x) (i5 : ∀ x : Fin 2, o5 x + S128x128.size x ≤ S4096x256.size x)
    (i13 : ∀ x : Fin 2, o13 x + S128x128.size x ≤ S384x512.size x) :
    Chunk D h m (ldRow arg15 f15 o15 i15) (ldBig arg5 f5 o5 i5) (ldSum arg13 f13 o13 i13) where
  hk t d := load3 arg15.view f15 _ _ _ e15 i15 0 t d fun q r c hq hr hc => by
    rw [em, P.h15, hc, show (q : ℕ) = u from hq, show (r : ℕ) = t by omega]
  hi t d := load2 arg5.view f5 _ _ e5 i5 t d fun r c hr hc => by rw [J.h5, hr, hc]
  hb t d := load2 arg13.view f13 _ _ e13 i13 t d fun r c hr hc => by
    have := d.isLt
    rw [em, P.h13 r c (by omega), show (c : ℕ) / 256 = u by omega, show (c : ℕ) % 256 = 128 * h + d by omega, show (r : ℕ) = t by omega]

theorem around_of (J : Ins D arg3 arg4 arg5 arg6 arg9 arg10 v13 v14 v17 v19 v21 v29 v36 v43 v50 v55 f3 f4 f5 f6 f9 f10)
    {o5 : Fin 2 → ℕ} (e5 : o5 = ![n, 128 * h]) (i5 : ∀ x : Fin 2, o5 x + S128x128.size x ≤ S4096x256.size x) :
    Around D h n v21 v29 v36 v43 v50 (ldLv arg10 f10) (ldBig arg3 f3 o5 i5) (ldBig arg6 f6 o5 i5) where
  h21 := J.h21
  h29 := J.h29
  h36 := J.h36
  h43 := J.h43
  h50 := J.h50
  hl t s := by
    have : ldLv arg10 f10 (ix2 t s) = arg10.view.read (Elt Ideal) f10 (ix2 t s) :=
      load2 arg10.view f10 0 0 rfl (by decide) t s fun r c hr hc => by
        rw [show r = t from Fin.ext (by omega), show c = s from Fin.ext (by omega)]
    rw [this]
    exact J.h10 t s
  hq t d := load2 arg3.view f3 _ _ e5 i5 t d fun r c hr hc => by rw [J.h3, hr, hc]
  hg t d := load2 arg6.view f6 _ _ e5 i5 t d fun r c hr hc => by rw [J.h6, hr, hc]

/-- The sums between rows and middles of blocks, as they stand once written. -/
theorem low_at (J : Ins D arg3 arg4 arg5 arg6 arg9 arg10 v13 v14 v17 v19 v21 v29 v36 v43 v50 v55 f3 f4 f5 f6 f9 f10)
    (P : Ready D n arg13 arg14 arg15 arg16 f13 f14 f15 f16) (b13 : arg13.view.ty.Contents (Elt Ideal)) (r : Fin 384) (j : Fin 512) (hr : 128 ≤ (r : ℕ)) :
    arg13.view.read (Elt Ideal) (arg13.view.writes (Elt Ideal) b13 (putLow arg9 f9 arg16 f16)) (ix2 r j)
      = ((∑ s : Fin 128, mark r s * D.lf (n + 128 * (j / 256) + s) (j % 256) : ℝ) : EReal) := by
  have hr' := r.isLt
  refine (put2_hit arg13.view b13 128 0 rfl (by decide) _ [] (⟨r - 128, by omega⟩ : Fin 256) j (by show (r : ℕ) = 128 + (r - 128); omega) (Nat.zero_add _).symm).trans ?_
  refine (low_val (E := fun t j => D.lf (n + 128 * (j / 256) + t) (j % 256)) (fun t s => ?_) (fun t j => ?_) (fun t j => ?_) _ j).trans ?_
  · exact load2 arg9.view f9 128 0 rfl (by decide) t s fun r c hr hc => by rw [J.h9, hr, show (c : ℕ) = s by omega]
  · exact load3 arg16.view f16 0 0 0 rfl (by decide) 0 t j fun q r c hq hr hc => by
      rw [show q = 0 from Fin.ext hq, P.h16, show (r : ℕ) = t by omega, show (c : ℕ) = j by omega]
  · exact load3 arg16.view f16 1 0 0 rfl (by decide) 0 t j fun q r c hq hr hc => by
      rw [show q = 1 from Fin.ext hq, P.h16z]
  · rw [show 128 + ((⟨(r : ℕ) - 128, by omega⟩ : Fin 256) : ℕ) = r by show 128 + ((r : ℕ) - 128) = r; omega]

theorem near_of (J : Ins D arg3 arg4 arg5 arg6 arg9 arg10 v13 v14 v17 v19 v21 v29 v36 v43 v50 v55 f3 f4 f5 f6 f9 f10)
    (P : Ready D n arg13 arg14 arg15 arg16 f13 f14 f15 f16) {m : ℕ} (em : m = n + 128 * u) (hh : h < 2) {o14 : Fin 3 → ℕ} {o2 o4 : Fin 2 → ℕ}
    (e14 : o14 = ![u, 0, 128 * h]) (e2 : o2 = ![128, 256 * u + 128 * h]) (e4 : o4 = ![256, 256 * u + 128 * h])
    (i14 : ∀ x : Fin 3, o14 x + S1x128x128.size x ≤ S2x128x256.size x) (i2 : ∀ x : Fin 2, o2 x + S128x128.size x ≤ S384x512.size x)
    (i4 : ∀ x : Fin 2, o4 x + S128x128.size x ≤ S384x512.size x) :
    Near D h m (ldLow arg13 (putLow arg9 f9 arg16 f16) o2 i2) (ldLow arg13 (putLow arg9 f9 arg16 f16) o4 i4) (ldRow arg14 f14 o14 i14) where
  h2 t d := load2 arg13.view _ _ _ e2 i2 t d fun r c hr hc => by
    have := d.isLt
    rw [em, low_at J P _ r c (by omega), show (c : ℕ) / 256 = u by omega, show (c : ℕ) % 256 = 128 * h + d by omega, hr, mark_two _ _ _ _ t.isLt]
  h4 t d := load2 arg13.view _ _ _ e4 i4 t d fun r c hr hc => by
    have := d.isLt
    rw [em, low_at J P _ r c (by omega), show (c : ℕ) / 256 = u by omega, show (c : ℕ) % 256 = 128 * h + d by omega, hr, mark_four _ _ _ _ t.isLt]
  he t d := load3 arg14.view f14 _ _ _ e14 i14 0 t d fun q r c hq hr hc => by
    rw [em, P.h14, hc, show (q : ℕ) = u from hq, show (r : ℕ) = t by omega]

/-- The four boxes of the result a trip writes. -/
theorem out_put {R : ℕ → ℕ → EReal} {o00 o01 o10 o11 : Fin 2 → ℕ} (e00 : o00 = ![n, 0]) (e01 : o01 = ![n, 128]) (e10 : o10 = ![n + 128, 0]) (e11 : o11 = ![n + 128, 128])
    (i00 : ∀ x : Fin 2, o00 x + S128x128.size x ≤ S4096x256.size x) (i01 : ∀ x : Fin 2, o01 x + S128x128.size x ≤ S4096x256.size x)
    (i10 : ∀ x : Fin 2, o10 x + S128x128.size x ≤ S4096x256.size x) (i11 : ∀ x : Fin 2, o11 x + S128x128.size x ≤ S4096x256.size x)
    {w00 w01 w10 w11 : FVec Ideal S128x128 .bf16}
    (h00 : ∀ t v : Fin 128, w00 (ix2 t v) = R (n + t) (128 * 0 + v)) (h01 : ∀ t v : Fin 128, w01 (ix2 t v) = R (n + t) (128 * 1 + v))
    (h10 : ∀ t v : Fin 128, w10 (ix2 t v) = R (n + 128 + t) (128 * 0 + v)) (h11 : ∀ t v : Fin 128, w11 (ix2 t v) = R (n + 128 + t) (128 * 1 + v))
    (old : ∀ (r : Fin 4096) (j : Fin 256), (r : ℕ) < n → arg11.view.read (Elt Ideal) f11 (ix2 r j) = R r j)
    (r : Fin 4096) (j : Fin 256) (hr : (r : ℕ) < n + 256) :
    arg11.view.read (Elt Ideal) (arg11.view.writes (Elt Ideal) f11 [⟨Rect.unit (s := S4096x256) o11 S128x128.size i11, w11⟩, ⟨Rect.unit (s := S4096x256) o10 S128x128.size i10, w10⟩,
      ⟨Rect.unit (s := S4096x256) o01 S128x128.size i01, w01⟩, ⟨Rect.unit (s := S4096x256) o00 S128x128.size i00, w00⟩]) (ix2 r j) = R r j := by
  have hj := j.isLt
  by_cases c11 : n + 128 ≤ (r : ℕ) ∧ 128 ≤ (j : ℕ)
  · refine (put2_hit arg11.view f11 _ _ e11 i11 w11 _ (⟨r - (n + 128), by omega⟩ : Fin 128) (⟨j - 128, by omega⟩ : Fin 128) (by simp only []; omega) (by simp only []; omega)).trans ?_
    rw [h11]; congr 1 <;> simp only [] <;> omega
  refine (put2_miss arg11.view f11 _ _ e11 i11 w11 _ (by omega)).trans ?_
  by_cases c10 : n + 128 ≤ (r : ℕ)
  · refine (put2_hit arg11.view f11 _ _ e10 i10 w10 _ (⟨r - (n + 128), by omega⟩ : Fin 128) (⟨j, by omega⟩ : Fin 128) (by simp only []; omega) (by simp only []; omega)).trans ?_
    rw [h10]; congr 1 <;> simp only [] <;> omega
  refine (put2_miss arg11.view f11 _ _ e10 i10 w10 _ (by omega)).trans ?_
  by_cases c01 : n ≤ (r : ℕ) ∧ 128 ≤ (j : ℕ)
  · refine (put2_hit arg11.view f11 _ _ e01 i01 w01 _ (⟨r - n, by omega⟩ : Fin 128) (⟨j - 128, by omega⟩ : Fin 128) (by simp only []; omega) (by simp only []; omega)).trans ?_
    rw [h01]; congr 1 <;> simp only [] <;> omega
  refine (put2_miss arg11.view f11 _ _ e01 i01 w01 _ (by omega)).trans ?_
  by_cases c00 : n ≤ (r : ℕ)
  · refine (put2_hit arg11.view f11 _ _ e00 i00 w00 _ (⟨r - n, by omega⟩ : Fin 128) (⟨j, by omega⟩ : Fin 128) (by simp only []; omega) (by simp only []; omega)).trans ?_
    rw [h00]; congr 1 <;> simp only [] <;> omega
  refine (put2_miss arg11.view f11 _ _ e00 i00 w00 _ (by omega)).trans ?_
  exact old r j (by omega)

/-- The exponents of a chunk's decays, the decays and the keys. -/
theorem rows_val (J : Ins D arg3 arg4 arg5 arg6 arg9 arg10 v13 v14 v17 v19 v21 v29 v36 v43 v50 v55 f3 f4 f5 f6 f9 f10)
    {o : Fin 2 → ℕ} (e : o = ![n, 0]) (i : ∀ x : Fin 2, o x + S128x256.size x ≤ S4096x256.size x) (t : Fin 128) (d : Fin 256) :
    rowsL v14 v17 (ldGate arg4 f4 o i) (ix2 t d) = ((D.lf (n + t) d : ℝ) : EReal)
    ∧ rowsF v13 v19 (ldGate arg4 f4 o i) (ix2 t d) = (((2:ℝ) ^ D.lf (n + t) d : ℝ) : EReal)
    ∧ rowsK v19 (ldGate arg4 f4 o i) (ix2 t d) = ((D.k (n + t) d : ℝ) : EReal) := by
  have hx : ∀ (t : Fin 128) (d : Fin 256), ldGate arg4 f4 o i (ix2 t d) = D.X (n + t) d := fun t d =>
    load2 arg4.view f4 _ _ e i t d fun r c hr hc => by rw [J.h4, hr, show (c : ℕ) = d by omega]
  refine ⟨?_, ?_, ?_⟩
  · exact lf_val (L := low D.Z) (X := fun t d => D.X (n + t) d) (fun d => low_pos d) J.h14 J.h17 hx t d
  · refine (f_val (L := low D.Z) (X := fun t d => D.X (n + t) d) J.h13 J.h19 hx t d).trans ?_
    rw [Vals.lf, keep_rpow (low_pos _).1 (low_pos _).2]
  · exact k_val (L := low D.Z) (X := fun t d => D.X (n + t) d) J.h19 hx t d

/-- The rows the trip prepares for the next, and their sums. -/
theorem ready_put (J : Ins D arg3 arg4 arg5 arg6 arg9 arg10 v13 v14 v17 v19 v21 v29 v36 v43 v50 v55 f3 f4 f5 f6 f9 f10)
    {ox oy : Fin 2 → ℕ} (ex : ox = ![n, 0]) (ey : oy = ![n + 128, 0]) (ix : ∀ x : Fin 2, ox x + S128x256.size x ≤ S4096x256.size x)
    (iy : ∀ x : Fin 2, oy x + S128x256.size x ≤ S4096x256.size x) (L13 : List (View.Piece (Elt Ideal) S384x512 .f32)) :
    Ready (c := c) D n arg13 arg14 arg15 arg16
      (arg13.view.writes (Elt Ideal) f13 (⟨Rect.unit (s := S384x512) ![0, 0] S128x512.size (by decide), sumsOf arg9 f9 arg16 (put16 v14 v17 (ldGate arg4 f4 ox ix) (ldGate arg4 f4 oy iy))⟩ :: L13))
      (arg14.view.writes (Elt Ideal) f14 (put14 v13 v19 v55 (ldGate arg4 f4 ox ix) (ldGate arg4 f4 oy iy)))
      (arg15.view.writes (Elt Ideal) f15 (put15 v19 (ldGate arg4 f4 ox ix) (ldGate arg4 f4 oy iy)))
      (arg16.view.writes (Elt Ideal) f16 (put16 v14 v17 (ldGate arg4 f4 ox ix) (ldGate arg4 f4 oy iy))) := by
  have hx := rows_val J ex ix
  have hy := rows_val J ey iy
  have h0 : ∀ (b16 : arg16.view.ty.Contents (Elt Ideal)) (t : Fin 128) (j : Fin 512),
      arg16.view.read (Elt Ideal) (arg16.view.writes (Elt Ideal) b16 (put16 v14 v17 (ldGate arg4 f4 ox ix) (ldGate arg4 f4 oy iy))) (ix3 0 t j)
        = ((D.lf (n + 128 * (j / 256) + t) (j % 256) : ℝ) : EReal) := fun b16 t j =>
    (pair_put0 arg16.view b16 (by decide) (by decide) _ _ t j).trans (both_val (lf := D.lf) (base := n) (fun t d => (hx t d).1) (fun t d => (hy t d).1) t j)
  have h1 : ∀ (b16 : arg16.view.ty.Contents (Elt Ideal)) (t : Fin 128) (j : Fin 512),
      arg16.view.read (Elt Ideal) (arg16.view.writes (Elt Ideal) b16 (put16 v14 v17 (ldGate arg4 f4 ox ix) (ldGate arg4 f4 oy iy))) (ix3 1 t j)
        = ((0 : ℝ) : EReal) := fun b16 t j =>
    (pair_put1 arg16.view b16 (by decide) (by decide) _ _ t j).trans (rest_val (lf := D.lf) (base := n) (fun t d => (hx t d).1) (fun t d => (hy t d).1) t j)
  refine ⟨fun t j ht => ?_, fun u t j => ?_, fun u t j => ?_, h0 f16, h1 f16⟩
  · refine (put2_hit arg13.view f13 0 0 rfl (by decide) _ _ (⟨t, ht⟩ : Fin 128) j (Nat.zero_add _).symm (Nat.zero_add _).symm).trans ?_
    refine (cum_val (E := fun t j => D.lf (n + 128 * (j / 256) + t) (j % 256)) (fun t s => ?_) (fun t j => ?_) (fun t j => ?_) _ j).trans ?_
    · exact load2 arg9.view f9 0 0 rfl (by decide) t s fun r c hr hc => by rw [J.h9, show (r : ℕ) = t by omega, show (c : ℕ) = s by omega]
    · exact load3 arg16.view _ 0 0 0 rfl (by decide) 0 t j fun q r c hq hr hc => by
        rw [show q = 0 from Fin.ext hq, h0, show (r : ℕ) = t by omega, show (c : ℕ) = j by omega]
    · exact load3 arg16.view _ 1 0 0 rfl (by decide) 0 t j fun q r c hq hr hc => by
        rw [show q = 1 from Fin.ext hq, h1]
    · exact congrArg _ (mark_low (fun s => D.lf (n + 128 * (j / 256) + s) (j % 256)) t ht)
  · revert u
    refine Fin.forall_fin_two.mpr ⟨?_, ?_⟩
    · refine (pair_put0 arg14.view f14 (by decide) (by decide) _ _ t j).trans ?_
      rw [J.h55]
      exact dec_val (lf := D.lf) (base := n) (fun t d => (hx t d).2.1) t j
    · refine (pair_put1 arg14.view f14 (by decide) (by decide) _ _ t j).trans ?_
      rw [J.h55]
      exact dec_val (lf := D.lf) (base := n + 128) (fun t d => (hy t d).2.1) t j
  · revert u
    refine Fin.forall_fin_two.mpr ⟨?_, ?_⟩
    · exact (pair_put0 arg15.view f15 (by decide) (by decide) _ _ t j).trans ((kk_val t j).trans (hx t j).2.2)
    · exact (pair_put1 arg15.view f15 (by decide) (by decide) _ _ t j).trans ((kk_val t j).trans (hy t j).2.2)

/-- What the buffers hold at the head of trip `k`. -/
structure Facts (D : Vals) (k : ℕ) {c : Dev nD} (arg11 : Memref sig .tc .vmem S4096x256 .bf16) (arg12 : Memref sig .tc .vmem S2x128x128 .f32) (arg13 : Memref sig .tc .vmem S384x512 .f32) (arg14 : Memref sig .tc .vmem S2x128x256 .bf16) (arg15 : Memref sig .tc .vmem S2x128x256 .bf16) (arg16 : Memref sig .tc .vmem S2x128x512 .bf16)
    (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) : Prop where
  out : ∀ (r : Fin 4096) (j : Fin 256), (r : ℕ) < 256 * k → arg11.view.read (Elt Ideal) f11 (ix2 r j) = D.res r j
  st : ∀ (h : Fin 2) (v d : Fin 128), arg12.view.read (Elt Ideal) f12 (ix3 h v d) = ((D.st h (256 * k) v d : ℝ) : EReal)
  ready : Ready D (256 * min k 15) arg13 arg14 arg15 arg16 f13 f14 f15 f16

/-- A head's state as it is loaded. -/
theorem state_ld (S : ∀ (h : Fin 2) (v d : Fin 128), arg12.view.read (Elt Ideal) f12 (ix3 h v d) = ((D.st h n v d : ℝ) : EReal)) (q : Fin 2)
    {o : Fin 3 → ℕ} (e : o = ![(q : ℕ), 0, 0]) (i : ∀ x : Fin 3, o x + S1x128x128.size x ≤ S2x128x128.size x) (v d : Fin 128) :
    ldState arg12 f12 o i (ix3 0 v d) = ((D.st q n v d : ℝ) : EReal) :=
  load3 arg12.view f12 _ _ _ e i 0 v d fun q' r c hq hr hc => by
    rw [show q' = q from Fin.ext hq, S, show (r : ℕ) = v by omega, show (c : ℕ) = d by omega]

/-- Both heads' states, as a trip writes them. -/
theorem state_put {m : ℕ} {w0 w1 : Vec Ideal S1x128x128 .f32}
    (h0 : ∀ v d : Fin 128, w0 (ix3 0 v d) = ((D.st 0 m v d : ℝ) : EReal)) (h1 : ∀ v d : Fin 128, w1 (ix3 0 v d) = ((D.st 1 m v d : ℝ) : EReal)) :
    ∀ (h : Fin 2) (v d : Fin 128),
    arg12.view.read (Elt Ideal) (arg12.view.writes (Elt Ideal) f12 [⟨Rect.unit (s := S2x128x128) ![1, 0, 0] S1x128x128.size (by decide), w1⟩,
      ⟨Rect.unit (s := S2x128x128) ![0, 0, 0] S1x128x128.size (by decide), w0⟩]) (ix3 h v d) = ((D.st h m v d : ℝ) : EReal) :=
  Fin.forall_fin_two.mpr ⟨fun v d => (pair_put0 arg12.view f12 (by decide) (by decide) w0 w1 v d).trans (h0 v d),
    fun v d => (pair_put1 arg12.view f12 (by decide) (by decide) w0 w1 v d).trans (h1 v d)⟩

end Cert.Proof.Rec
end
-- ==== Proof.RecKeep.lean ====
module
public import proofs.«01_k».proof.Proof.RecStep
@[expose] public section
/-! A trip of either branch keeps what the buffers hold. -/
set_option maxRecDepth 16384
noncomputable section
namespace Cert.Proof.Rec
open Cert.KernelIdeal Cert.KernelIdeal.Gen
open Idealize.ShloMosaic Idealize.ShloMosaic.TcCoe Idealize.SL.Sem

variable {D : Vals} (c : Dev nD) (i : grid0.Coords) (arg3 : Memref sig .tc .vmem S4096x256 .f32) (harg3 : arg3.IsWhole) (arg4 : Memref sig .tc .vmem S4096x256 .f32) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S2x256 .f32) (harg7 : arg7.IsWhole) (arg8 : Memref sig .tc .vmem S1x128 .f32) (harg8 : arg8.IsWhole) (arg9 : Memref sig .tc .vmem S384x128 .bf16) (harg9 : arg9.IsWhole) (arg10 : Memref sig .tc .vmem S128x128 .i32) (harg10 : arg10.IsWhole) (arg11 : Memref sig .tc .vmem S4096x256 .bf16) (harg11 : arg11.IsWhole) (arg12 : Memref sig .tc .vmem S2x128x128 .f32) (harg12 : arg12.IsWhole) (arg13 : Memref sig .tc .vmem S384x512 .f32) (harg13 : arg13.IsWhole) (arg14 : Memref sig .tc .vmem S2x128x256 .bf16) (harg14 : arg14.IsWhole) (arg15 : Memref sig .tc .vmem S2x128x256 .bf16) (harg15 : arg15.IsWhole) (arg16 : Memref sig .tc .vmem S2x128x512 .bf16) (harg16 : arg16.IsWhole)
  (v13 v14 v17 v19 : FVec Ideal S1x256 .f32) (v21 : FVec Ideal S1x128 .f32) (v29 v36 v43 v50 : FVec Ideal S128x128 .f32) (v55 : IVec S128x256 1)
  (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f9 : Buf (Elt Ideal) (arg9.view.loc (c : Thread nD τ))) (f10 : Buf (Elt Ideal) (arg10.view.loc (c : Thread nD τ)))
  (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ)))
  (f7 : Buf (Elt Ideal) (arg7.view.loc (c : Thread nD τ))) (f8 : Buf (Elt Ideal) (arg8.view.loc (c : Thread nD τ))) (k : Fin k0_t1_loop.trips) (acc : BitVec 32)

set_option maxHeartbeats 4000000 in
/-- The factored branch. -/
theorem direct_keep (J : Ins D arg3 arg4 arg5 arg6 arg9 arg10 v13 v14 v17 v19 v21 v29 v36 v43 v50 v55 f3 f4 f5 f6 f9 f10)
    (H : Facts D k arg11 arg12 arg13 arg14 arg15 arg16 f11 f12 f13 f14 f15 f16)
    (hc : (Scalar.cmpi .ne (Scalar.extui (Scalar.cmpi .eq acc 1#32) : BitVec 32) 0#32 = 1#1)) :
    Facts (c := c) D (k + 1) arg11 arg12 arg13 arg14 arg15 arg16
      (tripDirect c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).1
      (tripDirect c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.1
      (tripDirect c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.1
      (tripDirect c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.2.1
      (tripDirect c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.2.2.1
      (tripDirect c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.2.2.2.1 := by
  have hk : (k : ℕ) < 16 := k.isLt
  have P : Ready D (256 * k) arg13 arg14 arg15 arg16 f13 f14 f15 f16 := by
    have := H.ready
    rwa [min_eq_left (by omega)] at this
  have e00 : k0_off1 k 0#32 = ![256 * (k : ℕ), 0] := k0_off1_eq k 0
  have e10 : k0_off1 k 1#32 = ![256 * (k : ℕ) + 128, 0] := k0_off1_eq k 1
  have e01 : k0_off2 k 0#32 = ![256 * (k : ℕ), 128] := k0_off2_eq k 0
  have e11 : k0_off2 k 1#32 = ![256 * (k : ℕ) + 128, 128] := k0_off2_eq k 1
  have c00 := chunk_of (u := 0) (h := 0) (m := 256 * (k : ℕ)) (o15 := ![0, 0, 0]) (o13 := ![0, 0]) J P rfl (by decide) (by rfl) e00 (by rfl) (by decide) (k0_off1_inb k 0) (by decide)
  have c01 := chunk_of (u := 0) (h := 1) (m := 256 * (k : ℕ)) (o15 := ![0, 0, 128]) (o13 := ![0, 128]) J P rfl (by decide) (by rfl) e01 (by rfl) (by decide) (k0_off2_inb k 0) (by decide)
  have c10 := chunk_of (u := 1) (h := 0) (m := 256 * (k : ℕ) + 128) (o15 := ![1, 0, 0]) (o13 := ![0, 256]) J P rfl (by decide) (by rfl) e10 (by rfl) (by decide) (k0_off1_inb k 1) (by decide)
  have c11 := chunk_of (u := 1) (h := 1) (m := 256 * (k : ℕ) + 128) (o15 := ![1, 0, 128]) (o13 := ![0, 384]) J P rfl (by decide) (by rfl) e11 (by rfl) (by decide) (k0_off2_inb k 1) (by decide)
  have a00 := around_of (h := 0) J e00 (k0_off1_inb k 0)
  have a01 := around_of (h := 1) J e01 (k0_off2_inb k 0)
  have a10 := around_of (h := 0) J e10 (k0_off1_inb k 1)
  have a11 := around_of (h := 1) J e11 (k0_off2_inb k 1)
  have s0 := state_ld (o := ![0, 0, 0]) H.st 0 rfl (by decide)
  have s1 := state_ld (o := ![1, 0, 0]) H.st 1 rfl (by decide)
  have o00 := outA_val c00 a00 s0
  have o01 := outA_val c01 a01 s1
  have o10 := outB_val c00 c10 a10 s0
  have o11 := outB_val c01 c11 a11 s1
  refine ⟨fun r j hr => ?_, ?_, ?_⟩
  · exact out_put (n := 256 * k) (R := D.res) e00 e01 e10 e11 (k0_off1_inb k 0) (k0_off2_inb k 0) (k0_off1_inb k 1) (k0_off2_inb k 1)
      o00 o01 o10 o11 (fun r j h => H.out r j h) r j (by omega)
  · have e : 256 * ((k : ℕ) + 1) = 256 * k + 256 := by omega
    rw [e]
    exact state_put (stAB_val c00 c10 s0) (stAB_val c01 c11 s1)
  · exact ready_put (f13 := f13) (f14 := f14) (f15 := f15) (f16 := f16) J (k0_off3_eq k 0) (k0_off3_eq k 1) (k0_off3_inb k 0) (k0_off3_inb k 1) _

set_option maxHeartbeats 4000000 in
/-- The other branch. -/
theorem levels_keep (J : Ins D arg3 arg4 arg5 arg6 arg9 arg10 v13 v14 v17 v19 v21 v29 v36 v43 v50 v55 f3 f4 f5 f6 f9 f10)
    (H : Facts D k arg11 arg12 arg13 arg14 arg15 arg16 f11 f12 f13 f14 f15 f16)
    (hc : ¬(Scalar.cmpi .ne (Scalar.extui (Scalar.cmpi .eq acc 1#32) : BitVec 32) 0#32 = 1#1)) :
    Facts (c := c) D (k + 1) arg11 arg12 arg13 arg14 arg15 arg16
      (tripLevels c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).1
      (tripLevels c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.1
      (tripLevels c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.1
      (tripLevels c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.2.1
      (tripLevels c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.2.2.1
      (tripLevels c i arg3 harg3 arg4 harg4 arg5 harg5 arg6 harg6 arg7 harg7 arg8 harg8 arg9 harg9 arg10 harg10 arg11 harg11 arg12 harg12 arg13 harg13 arg14 harg14 arg15 harg15 arg16 harg16 v13 v14 v17 v19 v21 v29 v36 v43 v50 v55 f3 f4 f5 f6 f7 f8 f9 f10 f11 f12 f13 f14 f15 f16 k acc hc).2.2.2.2.2.1 := by
  have hk : (k : ℕ) < 16 := k.isLt
  have P : Ready D (256 * k) arg13 arg14 arg15 arg16 f13 f14 f15 f16 := by
    have := H.ready
    rwa [min_eq_left (by omega)] at this
  have e00 : k0_off4 k 0#32 = ![256 * (k : ℕ), 0] := k0_off4_eq k 0
  have e10 : k0_off4 k 1#32 = ![256 * (k : ℕ) + 128, 0] := k0_off4_eq k 1
  have e01 : k0_off5 k 0#32 = ![256 * (k : ℕ), 128] := k0_off5_eq k 0
  have e11 : k0_off5 k 1#32 = ![256 * (k : ℕ) + 128, 128] := k0_off5_eq k 1
  have c00 := chunk_of (u := 0) (h := 0) (m := 256 * (k : ℕ)) (o15 := ![0, 0, 0]) (o13 := ![0, 0]) J P rfl (by decide) (by rfl) e00 (by rfl) (by decide) (k0_off4_inb k 0) (by decide)
  have c01 := chunk_of (u := 0) (h := 1) (m := 256 * (k : ℕ)) (o15 := ![0, 0, 128]) (o13 := ![0, 128]) J P rfl (by decide) (by rfl) e01 (by rfl) (by decide) (k0_off5_inb k 0) (by decide)
  have c10 := chunk_of (u := 1) (h := 0) (m := 256 * (k : ℕ) + 128) (o15 := ![1, 0, 0]) (o13 := ![0, 256]) J P rfl (by decide) (by rfl) e10 (by rfl) (by decide) (k0_off4_inb k 1) (by decide)
  have c11 := chunk_of (u := 1) (h := 1) (m := 256 * (k : ℕ) + 128) (o15 := ![1, 0, 128]) (o13 := ![0, 384]) J P rfl (by decide) (by rfl) e11 (by rfl) (by decide) (k0_off5_inb k 1) (by decide)
  have a00 := around_of (h := 0) J e00 (k0_off4_inb k 0)
  have a01 := around_of (h := 1) J e01 (k0_off5_inb k 0)
  have a10 := around_of (h := 0) J e10 (k0_off4_inb k 1)
  have a11 := around_of (h := 1) J e11 (k0_off5_inb k 1)
  have s0 := state_ld (o := ![0, 0, 0]) H.st 0 rfl (by decide)
  have s1 := state_ld (o := ![1, 0, 0]) H.st 1 rfl (by decide)
  have n00 := near_of (u := 0) (h := 0) (m := 256 * (k : ℕ)) (o14 := ![0, 0, 0]) (o2 := ![128, 0]) (o4 := ![256, 0]) J P rfl (by decide) (by rfl) (by rfl) (by rfl) (by decide) (by decide) (by decide)
  have n01 := near_of (u := 0) (h := 1) (m := 256 * (k : ℕ)) (o14 := ![0, 0, 128]) (o2 := ![128, 128]) (o4 := ![256, 128]) J P rfl (by decide) (by rfl) (by rfl) (by rfl) (by decide) (by decide) (by decide)
  have n10 := near_of (u := 1) (h := 0) (m := 256 * (k : ℕ) + 128) (o14 := ![1, 0, 0]) (o2 := ![128, 256]) (o4 := ![256, 256]) J P rfl (by decide) (by rfl) (by rfl) (by rfl) (by decide) (by decide) (by decide)
  have n11 := near_of (u := 1) (h := 1) (m := 256 * (k : ℕ) + 128) (o14 := ![1, 0, 128]) (o2 := ![128, 384]) (o4 := ![256, 384]) J P rfl (by decide) (by rfl) (by rfl) (by rfl) (by decide) (by decide) (by decide)
  have o00 := outC_val c00 a00 n00 s0
  have o01 := outC_val c01 a01 n01 s1
  have o10 := outD_val c00 c10 a10 n10 s0
  have o11 := outD_val c01 c11 a11 n11 s1
  refine ⟨fun r j hr => ?_, ?_, ?_⟩
  · exact out_put (n := 256 * k) (R := D.res) e00 e01 e10 e11 (k0_off4_inb k 0) (k0_off5_inb k 0) (k0_off4_inb k 1) (k0_off5_inb k 1)
      o00 o01 o10 o11 (fun r j h => H.out r j h) r j (by omega)
  · have e : 256 * ((k : ℕ) + 1) = 256 * k + 256 := by omega
    rw [e]
    exact state_put (stAB_val c00 c10 s0) (stAB_val c01 c11 s1)
  · exact ready_put (f13 := f13) (f14 := f14) (f15 := f15) (f16 := f16) J (k0_off6_eq k 0) (k0_off6_eq k 1) (k0_off6_inb k 0) (k0_off6_inb k 1) _

end Cert.Proof.Rec
end
-- ==== Proof.RecBody.lean ====
/-
  The recurrence kernel's body at a point: the contents it leaves in the result's buffer.
-/
module

public import proofs.«01_k».proof.Proof.RecKeep

@[expose] public section

set_option maxRecDepth 16384

noncomputable section

namespace Cert.Proof.Rec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- What the operands' blocks hold. -/
structure Blocks (D : Vals) (x3 : Vec Ideal S4096x256 .f32) (x4 : Vec Ideal S4096x256 .f32) (x5 : Vec Ideal S4096x256 .bf16) (x6 : Vec Ideal S4096x256 .f32) (x7 : Vec Ideal S2x256 .f32) (x8 : Vec Ideal S1x128 .f32) (x9 : Vec Ideal S384x128 .bf16) (x10 : Vec Ideal S128x128 .i32) : Prop where
  h3 : ∀ (r : Fin 4096) (j : Fin 256), x3 (ix2 r j) = ((D.Q r j : ℝ) : EReal)
  h4 : ∀ (r : Fin 4096) (j : Fin 256), x4 (ix2 r j) = D.X r j
  h5 : ∀ (r : Fin 4096) (j : Fin 256), x5 (ix2 r j) = ((D.I r j : ℝ) : EReal)
  h6 : ∀ (r : Fin 4096) (j : Fin 256), x6 (ix2 r j) = ((D.G r j : ℝ) : EReal)
  h7 : ∀ (r : Fin 2) (j : Fin 256), x7 (ix2 r j) = ((D.Z r j : ℝ) : EReal)
  h8 : ∀ v : Fin 128, x8 (ix2 0 v) = D.N v
  h9 : ∀ (r : Fin 384) (s : Fin 128), x9 (ix2 r s) = ((mark r s : ℝ) : EReal)
  h10 : ∀ t s : Fin 128, Level t s (x10 (ix2 t s))

/-- The result's block. -/
def resVec (D : Vals) : Vec Ideal S4096x256 .bf16 := fun y => D.res (y 0).val (y 1).val

/-- The state starts at zero. -/
theorem zero_state (D : Vals) (h : Fin 2) (v d : Fin 128) : k0_pay235 (F := Ideal) (ix3 h v d) = ((D.st h (256 * 0) v d : ℝ) : EReal) := by
  pointwise [k0_pay235]
  rw [Vals.st, state]
  simp

/-- The buffers at the head of trip `k`. -/
def heldVal (D : Vals) (c : Dev nD) (arg3 : Memref sig .tc .vmem S4096x256 .f32) (arg4 : Memref sig .tc .vmem S4096x256 .f32) (arg5 : Memref sig .tc .vmem S4096x256 .bf16) (arg6 : Memref sig .tc .vmem S4096x256 .f32) (arg7 : Memref sig .tc .vmem S2x256 .f32) (arg8 : Memref sig .tc .vmem S1x128 .f32) (arg9 : Memref sig .tc .vmem S384x128 .bf16) (arg10 : Memref sig .tc .vmem S128x128 .i32) (arg11 : Memref sig .tc .vmem S4096x256 .bf16) (arg12 : Memref sig .tc .vmem S2x128x128 .f32) (arg13 : Memref sig .tc .vmem S384x512 .f32) (arg14 : Memref sig .tc .vmem S2x128x256 .bf16) (arg15 : Memref sig .tc .vmem S2x128x256 .bf16) (arg16 : Memref sig .tc .vmem S2x128x512 .bf16) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (k : ℕ) : sProp 𝕄 :=
  iprop(∃ f11 f12 f13 f14 f15 f16, ⌜Facts (c := c) D k arg11 arg12 arg13 arg14 arg15 arg16 f11 f12 f13 f14 f15 f16⌝ ∗ bufs (F := Ideal) c arg3 arg4 arg5 arg6 arg7 arg8 arg9 arg10 arg11 arg12 arg13 arg14 arg15 arg16 f3 f4 f5 f6 f7 f8 f9 f10 f11 f12 f13 f14 f15 f16)

set_option maxHeartbeats 4000000 in
/-- The body's triple: the result's block in terms of its operands' blocks. -/
theorem body_val (c : Dev nD) (i : grid0.Coords) (arg3 : Memref sig .tc .vmem S4096x256 .f32) (harg3 : arg3.IsWhole) (arg4 : Memref sig .tc .vmem S4096x256 .f32) (harg4 : arg4.IsWhole) (arg5 : Memref sig .tc .vmem S4096x256 .bf16) (harg5 : arg5.IsWhole) (arg6 : Memref sig .tc .vmem S4096x256 .f32) (harg6 : arg6.IsWhole) (arg7 : Memref sig .tc .vmem S2x256 .f32) (harg7 : arg7.IsWhole) (arg8 : Memref sig .tc .vmem S1x128 .f32) (harg8 : arg8.IsWhole) (arg9 : Memref sig .tc .vmem S384x128 .bf16) (harg9 : arg9.IsWhole) (arg10 : Memref sig .tc .vmem S128x128 .i32) (harg10 : arg10.IsWhole) (arg11 : Memref sig .tc .vmem S4096x256 .bf16) (harg11 : arg11.IsWhole) (arg12 : Memref sig .tc .vmem S2x128x128 .f32) (harg12 : arg12.IsWhole) (arg13 : Memref sig .tc .vmem S384x512 .f32) (harg13 : arg13.IsWhole) (arg14 : Memref sig .tc .vmem S2x128x256 .bf16) (harg14 : arg14.IsWhole) (arg15 : Memref sig .tc .vmem S2x128x256 .bf16) (harg15 : arg15.IsWhole) (arg16 : Memref sig .tc .vmem S2x128x512 .bf16) (harg16 : arg16.IsWhole) (x3 : Vec Ideal S4096x256 .f32) (x4 : Vec Ideal S4096x256 .f32) (x5 : Vec Ideal S4096x256 .bf16) (x6 : Vec Ideal S4096x256 .f32) (x7 : Vec Ideal S2x256 .f32) (x8 : Vec Ideal S1x128 .f32) (x9 : Vec Ideal S384x128 .bf16) (x10 : Vec Ideal S128x128 .i32) (D : Vals) (B : Blocks D x3 x4 x5 x6 x7 x8 x9 x10) :
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (resVec D) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := Ideal)) Variants.none c none) Set.univ (cc0_hgrn2 i arg3 harg3 arg4 harg4 arg5 harg5 arg6 harg6 arg7 harg7 arg8 harg8 arg9 harg9 arg10 harg10 arg11 harg11 arg12 harg12 arg13 harg13 arg14 harg14 arg15 harg15 arg16 harg16) K := by
    intro K
    sl_unfold [cc0_hgrn2]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10

    have hc : (Scalar.cmpi .ne (Scalar.extui (Scalar.cmpi .eq (BitVec.ofNat 32 (i 2).val) 0#32) : BitVec 32) 0#32) = 1#1 := by
      have : (i 2).val = 0 := Nat.lt_one_iff.mp (i 2).isLt
      rw [this]; decide
    sl_exec_parts (disch := sl_exact hc)
    have h7 : ∀ (r : Fin 2) (j : Fin 256), arg7.view.readAt (Elt Ideal) (Rect.unit (s := S2x256) ![0, 0] S2x256.size (by decide)).toLoadRect (harg7.unread x7) (ix2 r j) = ((D.Z r j : ℝ) : EReal) :=
      fun r j => load2 arg7.view _ 0 0 rfl (by decide) r j fun q d hq hd => by rw [harg7.read_unread, B.h7, show (q : ℕ) = r by omega, show (d : ℕ) = j by omega]
    have J : Ins (c := c) D arg3 arg4 arg5 arg6 arg9 arg10 (body_val.sl.v13 c arg7 harg7 x7) (body_val.sl.v14 c arg7 harg7 x7) (body_val.sl.v17 c arg7 harg7 x7) (body_val.sl.v16 c arg7 harg7 x7) (body_val.sl.v21 c arg8 harg8 x8) body_val.sl.v29 body_val.sl.v36 body_val.sl.r (k0_pay244 body_val.sl.v22) k0_pay245 (harg3.unread x3) (harg4.unread x4) (harg5.unread x5) (harg6.unread x6) (harg9.unread x9) (harg10.unread x10) :=
      { h3 := fun r j => by rw [harg3.read_unread]; exact B.h3 r j
        h4 := fun r j => by rw [harg4.read_unread]; exact B.h4 r j
        h5 := fun r j => by rw [harg5.read_unread]; exact B.h5 r j
        h6 := fun r j => by rw [harg6.read_unread]; exact B.h6 r j
        h9 := fun r j => by rw [harg9.read_unread]; exact B.h9 r j
        h10 := fun r j => by rw [harg10.read_unread]; exact B.h10 r j
        h13 := low_val0 h7
        h14 := low_val1 h7
        h17 := low_val2 h7
        h19 := low_val3 h7
        h21 := fun v => by
           have e : arg8.view.readAt (Elt Ideal) (Rect.unit (s := S1x128) ![0, 0] S1x128.size (by decide)).toLoadRect (harg8.unread x8) (ix2 0 v) = D.N v :=
             load2 arg8.view _ 0 0 rfl (by decide) 0 v fun q d hq hd => by rw [harg8.read_unread, show q = 0 from Fin.ext (by omega), show d = v from Fin.ext (by omega), B.h8]
           have p : ∀ x : Vec Ideal S1x128 .f32, k0_pay240 (F := Ideal) x (ix2 0 v) = x (ix2 0 v) := fun x => by pointwise [k0_pay240]
           exact (p _).trans e
        h29 := sgn8_val
        h36 := sgn16_val
        h43 := sgn32_val
        h50 := sgn64_val
        h55 := rfl }
    sl_for (fun k _ => heldVal D c arg3 arg4 arg5 arg6 arg7 arg8 arg9 arg10 arg11 arg12 arg13 arg14 arg15 arg16 (harg3.unread x3) (harg4.unread x4) (harg5.unread x5) (harg6.unread x6) (harg7.unread x7) (harg8.unread x8) (harg9.unread x9) (harg10.unread x10) k) $$ [H3 H4 H5 H6 H7 H8 H9 H10 H11 H12 H13 H14 H15 H16]
    case region =>
      intro k acc
      unfold heldVal
      iintro ⟨%f11, %f12, %f13, %f14, %f15, %f16, %hF, Hb⟩
      rcases Classical.em (Scalar.cmpi .ne (Scalar.extui (Scalar.cmpi .eq acc 1#32) : BitVec 32) 0#32 = 1#1) with ha | ha
      · iapply (wp_wand_r _ _ _)
        isplitl [Hb]
        · iapply (tripDirect c i arg3 harg3 arg4 harg4 arg5 harg5 arg6 harg6 arg7 harg7 arg8 harg8 arg9 harg9 arg10 harg10 arg11 harg11 arg12 harg12 arg13 harg13 arg14 harg14 arg15 harg15 arg16 harg16 (body_val.sl.v13 c arg7 harg7 x7) (body_val.sl.v14 c arg7 harg7 x7) (body_val.sl.v17 c arg7 harg7 x7) (body_val.sl.v16 c arg7 harg7 x7) (body_val.sl.v21 c arg8 harg8 x8) body_val.sl.v29 body_val.sl.v36 body_val.sl.r (k0_pay244 body_val.sl.v22) k0_pay245 (harg3.unread x3) (harg4.unread x4) (harg5.unread x5) (harg6.unread x6) (harg7.unread x7) (harg8.unread x8) (harg9.unread x9) (harg10.unread x10) f11 f12 f13 f14 f15 f16 k acc ha).2.2.2.2.2.2
          iexact Hb
        · iintro %_ Hb
          iexists _, _, _, _, _, _
          isplitr
          · ipureintro
            exact direct_keep c i arg3 harg3 arg4 harg4 arg5 harg5 arg6 harg6 arg7 harg7 arg8 harg8 arg9 harg9 arg10 harg10 arg11 harg11 arg12 harg12 arg13 harg13 arg14 harg14 arg15 harg15 arg16 harg16 (body_val.sl.v13 c arg7 harg7 x7) (body_val.sl.v14 c arg7 harg7 x7) (body_val.sl.v17 c arg7 harg7 x7) (body_val.sl.v16 c arg7 harg7 x7) (body_val.sl.v21 c arg8 harg8 x8) body_val.sl.v29 body_val.sl.v36 body_val.sl.r (k0_pay244 body_val.sl.v22) k0_pay245 _ _ _ _ _ _ f11 f12 f13 f14 f15 f16 (harg7.unread x7) (harg8.unread x8) k acc J hF ha
          iexact Hb
      · iapply (wp_wand_r _ _ _)
        isplitl [Hb]
        · iapply (tripLevels c i arg3 harg3 arg4 harg4 arg5 harg5 arg6 harg6 arg7 harg7 arg8 harg8 arg9 harg9 arg10 harg10 arg11 harg11 arg12 harg12 arg13 harg13 arg14 harg14 arg15 harg15 arg16 harg16 (body_val.sl.v13 c arg7 harg7 x7) (body_val.sl.v14 c arg7 harg7 x7) (body_val.sl.v17 c arg7 harg7 x7) (body_val.sl.v16 c arg7 harg7 x7) (body_val.sl.v21 c arg8 harg8 x8) body_val.sl.v29 body_val.sl.v36 body_val.sl.r (k0_pay244 body_val.sl.v22) k0_pay245 (harg3.unread x3) (harg4.unread x4) (harg5.unread x5) (harg6.unread x6) (harg7.unread x7) (harg8.unread x8) (harg9.unread x9) (harg10.unread x10) f11 f12 f13 f14 f15 f16 k acc ha).2.2.2.2.2.2
          iexact Hb
        · iintro %_ Hb
          iexists _, _, _, _, _, _
          isplitr
          · ipureintro
            exact levels_keep c i arg3 harg3 arg4 harg4 arg5 harg5 arg6 harg6 arg7 harg7 arg8 harg8 arg9 harg9 arg10 harg10 arg11 harg11 arg12 harg12 arg13 harg13 arg14 harg14 arg15 harg15 arg16 harg16 (body_val.sl.v13 c arg7 harg7 x7) (body_val.sl.v14 c arg7 harg7 x7) (body_val.sl.v17 c arg7 harg7 x7) (body_val.sl.v16 c arg7 harg7 x7) (body_val.sl.v21 c arg8 harg8 x8) body_val.sl.v29 body_val.sl.v36 body_val.sl.r (k0_pay244 body_val.sl.v22) k0_pay245 _ _ _ _ _ _ f11 f12 f13 f14 f15 f16 (harg7.unread x7) (harg8.unread x8) k acc J hF ha
          iexact Hb
    · unfold heldVal bufs
      iexists _, _, _, _, _, _
      isplitr
      swap
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
      ipureintro
      refine ⟨fun r j h => absurd h (Nat.not_lt_zero _), fun h v d => ?_, ?_⟩
      · refine (put3_hit arg12.view _ 0 0 0 rfl (by decide) _ [] h v d (Nat.zero_add _).symm (Nat.zero_add _).symm (Nat.zero_add _).symm).trans ?_
        exact zero_state D h v d
      · exact ready_put (n := 0) (f13 := f13) (f14 := arg14.view.junk) (f15 := arg15.view.junk) (f16 := arg16.view.junk) (ox := ![0, 0]) (oy := ![128, 0]) J rfl rfl (by decide) (by decide) []
    iintro %_ HI
    unfold heldVal bufs
    icases HI with ⟨%g11, %g12, %g13, %g14, %g15, %g16, %hF, H3, H4, H5, H6, H7, H8, H9, H10, H11, H12, H13, H14, H15, H16⟩
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      refine funext fun y => ?_
      rw [eq_ix2 y]
      exact hF.out _ _ (y 0).isLt
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    · iexists _, _; isplitr; swap; · iexact H16
      ipureintro; rfl

end Cert.Proof.Rec

end
-- ==== Proof.RecLaunch.lean ====
/-
  The launch of the recurrence kernel on the extended reals, the result's block named at every grid point.
-/
module

public import proofs.«01_k».proof.Proof.RecBody

@[expose] public section

set_option maxRecDepth 16384

noncomputable section

namespace Cert.Proof.Rec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (D : Dev nD → Fin cfg0.N → Vals)

/-- The proof data: the arrays as the region finds them, each input's buffer at its block, the output's at the recurrence of the point's values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => resVec (D c t)
  Φ _ := Pipeline.ΦA spec0 c
  q w := Pipeline.shareOf spec0 w
  owed _ := 0

/-- The proof data's arrays are those of the region's entry. -/
theorem A_eq (c : Dev nD) (w : Fin cfg0.W) : (dats m D 0 c).A w = V m c (Pipeline.arrRef spec0 w) := by
  dsimp only [dats]

theorem after_0 (c : Dev nD) (t : Fin cfg0.N) : (dats m D 0 c).after 0 t = iblk m c 0 t := by dsimp only [dats]
theorem after_1 (c : Dev nD) (t : Fin cfg0.N) : (dats m D 0 c).after 1 t = iblk m c 1 t := by dsimp only [dats]
theorem after_2 (c : Dev nD) (t : Fin cfg0.N) : (dats m D 0 c).after 2 t = iblk m c 2 t := by dsimp only [dats]
theorem after_3 (c : Dev nD) (t : Fin cfg0.N) : (dats m D 0 c).after 3 t = iblk m c 3 t := by dsimp only [dats]
theorem after_4 (c : Dev nD) (t : Fin cfg0.N) : (dats m D 0 c).after 4 t = iblk m c 4 t := by dsimp only [dats]
theorem after_5 (c : Dev nD) (t : Fin cfg0.N) : (dats m D 0 c).after 5 t = iblk m c 5 t := by dsimp only [dats]
theorem after_6 (c : Dev nD) (t : Fin cfg0.N) : (dats m D 0 c).after 6 t = iblk m c 6 t := by dsimp only [dats]
theorem after_8 (c : Dev nD) (t : Fin cfg0.N) : (dats m D 0 c).after 8 t = resVec (D c t) := by dsimp only [dats]
theorem after_7 (c : Dev nD) (t : Fin cfg0.N) : (dats m D 0 c).after 7 t = iblk m c 7 t := by dsimp only [dats]

theorem before_0 (c : Dev nD) (t : Fin cfg0.N) (d) : (dats m D 0 c).before 0 t d = iblk m c 0 t :=
  before0_0_of m (dats m D 0 c) (A_eq m D c 0) (after_0 m D c) t d
theorem before_1 (c : Dev nD) (t : Fin cfg0.N) (d) : (dats m D 0 c).before 1 t d = iblk m c 1 t :=
  before0_1_of m (dats m D 0 c) (A_eq m D c 1) (after_1 m D c) t d
theorem before_2 (c : Dev nD) (t : Fin cfg0.N) (d) : (dats m D 0 c).before 2 t d = iblk m c 2 t :=
  before0_2_of m (dats m D 0 c) (A_eq m D c 2) (after_2 m D c) t d
theorem before_3 (c : Dev nD) (t : Fin cfg0.N) (d) : (dats m D 0 c).before 3 t d = iblk m c 3 t :=
  before0_3_of m (dats m D 0 c) (A_eq m D c 3) (after_3 m D c) t d
theorem before_4 (c : Dev nD) (t : Fin cfg0.N) (d) : (dats m D 0 c).before 4 t d = iblk m c 4 t :=
  before0_4_of m (dats m D 0 c) (A_eq m D c 4) (after_4 m D c) t d
theorem before_5 (c : Dev nD) (t : Fin cfg0.N) (d) : (dats m D 0 c).before 5 t d = iblk m c 5 t :=
  before0_5_of m (dats m D 0 c) (A_eq m D c 5) (after_5 m D c) t d
theorem before_6 (c : Dev nD) (t : Fin cfg0.N) (d) : (dats m D 0 c).before 6 t d = iblk m c 6 t :=
  before0_6_of m (dats m D 0 c) (A_eq m D c 6) (after_6 m D c) t d
theorem before_7 (c : Dev nD) (t : Fin cfg0.N) (d) : (dats m D 0 c).before 7 t d = iblk m c 7 t :=
  before0_7_of m (dats m D 0 c) (A_eq m D c 7) (after_7 m D c) t d

/-- What the body is called with at a point. -/
def preAt (c : Dev nD) (t : Fin cfg0.N) : sProp 𝕄 :=
  iprop((dats m D 0 c).Φ t.castSucc ∗ (dats m D 0 c).owesAt () t.castSucc
    ∗ (∃ d, owns (c : Thread nD τ) (st0_0 t) fullShare ((dats m D 0 c).before 0 t d))
    ∗ (∃ d, owns (c : Thread nD τ) (st0_1 t) fullShare ((dats m D 0 c).before 1 t d))
    ∗ (∃ d, owns (c : Thread nD τ) (st0_2 t) fullShare ((dats m D 0 c).before 2 t d))
    ∗ (∃ d, owns (c : Thread nD τ) (st0_3 t) fullShare ((dats m D 0 c).before 3 t d))
    ∗ (∃ d, owns (c : Thread nD τ) (st0_4 t) fullShare ((dats m D 0 c).before 4 t d))
    ∗ (∃ d, owns (c : Thread nD τ) (st0_5 t) fullShare ((dats m D 0 c).before 5 t d))
    ∗ (∃ d, owns (c : Thread nD τ) (st0_6 t) fullShare ((dats m D 0 c).before 6 t d))
    ∗ (∃ d, owns (c : Thread nD τ) (st0_7 t) fullShare ((dats m D 0 c).before 7 t d))
    ∗ (∃ d, owns (c : Thread nD τ) (st0_8 t) fullShare ((dats m D 0 c).before 8 t d)))

/-- What it hands back. -/
def postAt (c : Dev nD) (t : Fin cfg0.N) : sProp 𝕄 :=
  iprop((dats m D 0 c).Φ t.succ ∗ (dats m D 0 c).owesAt () t.succ
    ∗ (dats m D 0 c).leavesExact 0 t
    ∗ (dats m D 0 c).leavesExact 1 t
    ∗ (dats m D 0 c).leavesExact 2 t
    ∗ (dats m D 0 c).leavesExact 3 t
    ∗ (dats m D 0 c).leavesExact 4 t
    ∗ (dats m D 0 c).leavesExact 5 t
    ∗ (dats m D 0 c).leavesExact 6 t
    ∗ (dats m D 0 c).leavesExact 7 t
    ∗ (dats m D 0 c).leavesExact 8 t)

/-- The region's invariant, scratch by scratch, over memrefs. -/
theorem phi_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA
  rw [scopedRest0_eq]
  simp only [owns_whole]
  try rfl

set_option maxHeartbeats 1200000 in
/-- The body at any point of the grid. -/
theorem body_sound (c : Dev nD) (t : Fin cfg0.N) (hB : Blocks (D c t) (iblk m c 0 t) (iblk m c 1 t) (iblk m c 2 t) (iblk m c 3 t) (iblk m c 4 t) (iblk m c 5 t) (iblk m c 6 t) (iblk m c 7 t)) :
    preAt m D c t ⊢ wp frame (wpE (defs₀ (F := Ideal)) Variants.none c none) Set.univ (bodyAt0 t) (fun _ => postAt m D c t) := by
  unfold preAt postAt bodyAt0
  simp only [before_0, before_1, before_2, before_3, before_4, before_5, before_6, before_7]
  rw [show (dats m D 0 c).Φ t.succ = (dats m D 0 c).Φ t.castSucc from rfl,
    show (dats m D 0 c).owesAt () t.succ = (dats m D 0 c).owesAt () t.castSucc from rfl]
  rw [show (dats m D 0 c).Φ t.castSucc = Pipeline.ΦA spec0 c from rfl, phi_eq]
  rw [show (dats m D 0 c).leavesExact 0 t = owns (c : Thread nD τ) (st0_0 t) fullShare ((dats m D 0 c).after 0 t) from by
      unfold Dat.leavesExact; rw [show cfg0.idle 0 (cfg0.grid.coords t) = false from rfl], after_0]
  rw [show (dats m D 0 c).leavesExact 1 t = owns (c : Thread nD τ) (st0_1 t) fullShare ((dats m D 0 c).after 1 t) from by
      unfold Dat.leavesExact; rw [show cfg0.idle 1 (cfg0.grid.coords t) = false from rfl], after_1]
  rw [show (dats m D 0 c).leavesExact 2 t = owns (c : Thread nD τ) (st0_2 t) fullShare ((dats m D 0 c).after 2 t) from by
      unfold Dat.leavesExact; rw [show cfg0.idle 2 (cfg0.grid.coords t) = false from rfl], after_2]
  rw [show (dats m D 0 c).leavesExact 3 t = owns (c : Thread nD τ) (st0_3 t) fullShare ((dats m D 0 c).after 3 t) from by
      unfold Dat.leavesExact; rw [show cfg0.idle 3 (cfg0.grid.coords t) = false from rfl], after_3]
  rw [show (dats m D 0 c).leavesExact 4 t = owns (c : Thread nD τ) (st0_4 t) fullShare ((dats m D 0 c).after 4 t) from by
      unfold Dat.leavesExact; rw [show cfg0.idle 4 (cfg0.grid.coords t) = false from rfl], after_4]
  rw [show (dats m D 0 c).leavesExact 5 t = owns (c : Thread nD τ) (st0_5 t) fullShare ((dats m D 0 c).after 5 t) from by
      unfold Dat.leavesExact; rw [show cfg0.idle 5 (cfg0.grid.coords t) = false from rfl], after_5]
  rw [show (dats m D 0 c).leavesExact 6 t = owns (c : Thread nD τ) (st0_6 t) fullShare ((dats m D 0 c).after 6 t) from by
      unfold Dat.leavesExact; rw [show cfg0.idle 6 (cfg0.grid.coords t) = false from rfl], after_6]
  rw [show (dats m D 0 c).leavesExact 7 t = owns (c : Thread nD τ) (st0_7 t) fullShare ((dats m D 0 c).after 7 t) from by
      unfold Dat.leavesExact; rw [show cfg0.idle 7 (cfg0.grid.coords t) = false from rfl], after_7]
  rw [show (dats m D 0 c).leavesExact 8 t = owns (c : Thread nD τ) (st0_8 t) fullShare ((dats m D 0 c).after 8 t) from by
      unfold Dat.leavesExact; rw [show cfg0.idle 8 (cfg0.grid.coords t) = false from rfl], after_8]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_val c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (D c t) hB _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  iintro ⟨H0, H1, H2, H3, H4, H5, H6, H7, H8, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body there. -/
theorem row_eq (t : Fin cfg0.N) :
    defs₀ (F := Ideal) .tc cfg0.body (cfg0.bodyArgs t (cfg0.slots t)) = bodyAt0 t := by
  unfold defs₀; rw [Defs.onTc_tc]

/-- The body obligation at every point. -/
theorem obligation (c : Dev nD) (hB : ∀ t, Blocks (D c t) (iblk m c 0 t) (iblk m c 1 t) (iblk m c 2 t) (iblk m c 3 t) (iblk m c 4 t) (iblk m c 5 t) (iblk m c 6 t) (iblk m c 7 t)) : BodyObligation (dats m D 0 c) (defs₀ (F := Ideal)) Variants.none () Set.univ := fun t => by
  rw [bigSep_W0, bigSep_W0, row_eq]
  exact triple_restated (body_sound m D c t (hB t)) rfl .rfl fun _ => .rfl

set_option backward.isDefEq.respectTransparency.types false in
/-- The launch: the run ends with the arrays at what the proof data computes and every counter at zero. -/
theorem run_quiescent (hB : ∀ c t, Blocks (D c t) (iblk m c 0 t) (iblk m c 1 t) (iblk m c 2 t) (iblk m c 3 t) (iblk m c 4 t) (iblk m c 5 t) (iblk m c 6 t) (iblk m c 7 t)) : θ_run defs (onTc (τ := τ) (main (F := Ideal))) (s₀ m ρ) (fun r => (Pipeline.FramePost cfgs (dats m D) 0 (V m)) r ∧ r.2.sem = fun _ => 0) :=
  Pipeline.θ_run_frame_shared (Q' := _) cfgs (dats m D) (0 : Fin 1) launch₀0 defs₀ Variants.none m ρ main
    (hbody := fun c => (obligation m D c (hB c)).loose) (hq := fun _ _ _ => rfl)
    (howed := fun _ _ => rfl) (V := V m) (hmain := hmain m Variants.none) (hA := A_eq m D) (hΦ := fun _ _ => rfl)

/-- The run with the result array named. -/
theorem run_blocks (hB : ∀ c t, Blocks (D c t) (iblk m c 0 t) (iblk m c 1 t) (iblk m c 2 t) (iblk m c 3 t) (iblk m c 4 t) (iblk m c 5 t) (iblk m c 6 t) (iblk m c 7 t)) : θ_run defs (onTc (τ := τ) (main (F := Ideal))) ⟨m, fun _ => 0, ρ⟩ fun r => ∀ c : Dev nD,
      r.2.mem ((c.tc : Thread nD τ).loc main_v1) = (dats m D 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 8, h.2 c⟩)
    (θ_run_and (run_quiescent m ρ D hB)
      (frame_of m ρ (dats m D) (A_eq m D) ((θ_run defs _ _).mono (fun _ h => h.1) (run_quiescent m ρ D hB))))

end Cert.Proof.Rec

end
-- ==== Proof.RecLevel.lean ====
module
public import proofs.«01_k».proof.Proof.RecOps
@[expose] public section
/-! The kernel's table of where the rows of a pair part. -/
set_option maxRecDepth 16384
noncomputable section
namespace Cert.Proof.Rec
open Cert.KernelIdeal Cert.KernelIdeal.Gen
open Idealize.ShloMosaic Idealize.ShloMosaic.TcCoe Idealize.SL.Sem

/-- `Level`, decided. -/
def levelB (t s : ℕ) (l : BitVec 32) : Bool :=
  if t < s then l.toNat == 4294967295
  else if t = s then l.toNat == 0
  else Nat.ble 1 l.toNat && Nat.ble l.toNat 7 && (t / 2 ^ l.toNat == s / 2 ^ l.toNat)
    && (t / 2 ^ (l.toNat - 1) % 2 == 1) && (s / 2 ^ (l.toNat - 1) % 2 == 0)

theorem level_of {t s : ℕ} {l : BitVec 32} (h : levelB t s l = true) : Level t s l := by
  unfold levelB at h
  split_ifs at h with h1 h2
  · refine .inl ⟨h1, BitVec.eq_of_toNat_eq ?_⟩
    simpa using h
  · refine .inr (.inl ⟨h2, BitVec.eq_of_toNat_eq ?_⟩)
    simpa using h
  · simp only [Bool.and_eq_true, Nat.ble_eq, beq_iff_eq] at h
    obtain ⟨⟨⟨⟨ha, hb⟩, hc⟩, hd⟩, he⟩ := h
    refine .inr (.inr ⟨l.toNat - 1, by omega, ?_, ?_, hd, he⟩)
    · rw [show l.toNat - 1 + 1 = l.toNat by omega]; exact BitVec.eq_of_toNat_eq (by rw [BitVec.toNat_ofNat, Nat.mod_eq_of_lt l.isLt])
    · rw [show l.toNat - 1 + 1 = l.toNat by omega]; exact hc

/-- A word of the table at its place. -/
theorem level_low : ∀ (t : Fin 64) (s : Fin 128), levelB t s (lit1t (t * 128 + s)) = true := by decide +kernel

theorem level_high : ∀ (t : Fin 64) (s : Fin 128), levelB (64 + t) s (lit1t ((64 + t) * 128 + s)) = true := by decide +kernel

theorem level_tab (t s : Fin 128) : Level t s (lit1t (t * 128 + s)) := by
  by_cases h : (t : ℕ) < 64
  · exact level_of (level_low ⟨t, h⟩ s)
  · have := level_of (level_high ⟨t - 64, by omega⟩ s)
    simpa only [show 64 + ((t : ℕ) - 64) = t by omega] using this

end Cert.Proof.Rec
end
-- ==== Proof.RecArray.lean ====
/-
  The recurrence kernel's array after the run, as a function of the arguments on the extended reals, for arguments whose
  entries that the recurrence reads are finite.
-/
module

public import proofs.«01_k».proof.Defs
public import proofs.«01_k».proof.Proof.RecLaunch
public import proofs.«01_k».proof.Proof.RecLevel
public import proofs.«01_k».proof.Proof.RecTab
public import Idealize.ShloMosaic.Lib.Pointwise
public import Idealize.ShloMosaic.Lib.Pipeline.ValueKit
public import Idealize.ShloMosaic.Lib.Claim
public import Idealize.ShloMosaic.Lib.ReduceAll

@[expose] public section

set_option maxRecDepth 16384

noncomputable section

namespace Cert.Proof.Rec

open Idealize.ShloMosaic Idealize.ShloMosaic.TcCoe Idealize.SL.Sem
open Cert.KernelIdeal Cert.KernelIdeal.Gen

/-- The side conditions of the precondition's operations. -/
instance preFacts : Cert.Pre_finite.Facts where
  slices_S32768x4096_S32768x1024_0_0 := by decide
  slices_S32768x4096_S32768x1024_0_2048 := by decide
  h_S_ := by decide
  bitsLt_bf16_f32 := by decide
  bcast_S_S32768x1024 := by decide
  reducesTo_S32768x1024_S_d0_1 := by decide
  bcast_S_S2x1024 := by decide
  reducesTo_S2x1024_S_d0_1 := by decide

/-- The real at row `r`, column `c` of an array, zero outside of it. -/
def at2 {n k : ℕ} {φ : FTy} (x : FVec Ideal ⟨2, ![n, k]⟩ φ) (r c : ℕ) : ℝ :=
  if h : r < n ∧ c < k then EReal.toReal (x (ix2 ⟨r, h.1⟩ ⟨c, h.2⟩)) else 0

/-- The entry at row `r`, column `c` of an array, zero outside of it. -/
def ext2 {n k : ℕ} {φ : FTy} (x : FVec Ideal ⟨2, ![n, k]⟩ φ) (r c : ℕ) : EReal :=
  if h : r < n ∧ c < k then x (ix2 ⟨r, h.1⟩ ⟨c, h.2⟩) else 0

theorem ext2_eq {n k : ℕ} {φ : FTy} (x : FVec Ideal ⟨2, ![n, k]⟩ φ) (r : Fin n) (c : Fin k) : x (ix2 r c) = ext2 x r c := by
  rw [ext2, dif_pos ⟨r.isLt, c.isLt⟩]

/-- The first `w` columns of an array are finite. -/
def Finite {n k : ℕ} {φ : FTy} (w : ℕ) (x : FVec Ideal ⟨2, ![n, k]⟩ φ) : Prop :=
  ∀ (r : Fin n) (c : Fin k), (c : ℕ) < w → x (ix2 r c) = ((at2 x r c : ℝ) : EReal)

/-- The columns of the queries and of the result's gates are finite. -/
def Sides {n k : ℕ} {φ : FTy} (x : FVec Ideal ⟨2, ![n, k]⟩ φ) : Prop :=
  ∀ (r : Fin n) (c : Fin k), ((c : ℕ) < 1024 ∨ 2048 ≤ (c : ℕ) ∧ (c : ℕ) < 3072) → x (ix2 r c) = ((at2 x r c : ℝ) : EReal)

/-- An extended real smaller than `⊤` in absolute value is the real it is read as. -/
theorem real_of_abs {n k : ℕ} {φ : FTy} (x : FVec Ideal ⟨2, ![n, k]⟩ φ) (r : Fin n) (c : Fin k)
    (h : max (x (ix2 r c) : EReal) (-(x (ix2 r c) : EReal)) < ⊤) : x (ix2 r c) = ((at2 x r c : ℝ) : EReal) := by
  rw [at2, dif_pos ⟨r.isLt, c.isLt⟩]
  obtain ⟨h1, h2⟩ := max_lt_iff.mp h
  refine (EReal.coe_toReal h1.ne ?_).symm
  intro e
  rw [show (x (ix2 r c) : EReal) = ⊥ from e, EReal.neg_bot] at h2
  exact lt_irrefl _ h2

theorem inf_eq : Ideal.ofBits .f32 0x7F800000#32 = (⊤ : EReal) := by
  simp [Ideal.ofBits, Ideal.ieee]

theorem ofBool_one {b : Bool} (h : BitVec.ofBool b = 1#1) : b = true := by
  revert h; cases b <;> decide

/-- The operands of one batch from column `o` on. -/
def vals (u : FVec Ideal S32768x4096 .f32) (w : FVec Ideal S32768x4096 .bf16) (z : FVec Ideal S2x1024 .f32) (gn : FVec Ideal S128 .f32) (b o : ℕ) : Vals where
  Q r c := at2 u (4096 * b + r) (o + c)
  X r c := ext2 u (4096 * b + r) (1024 + (o + c))
  I r c := at2 w (4096 * b + r) (o + c)
  G r c := at2 u (4096 * b + r) (2048 + (o + c))
  Z r c := at2 z r (o + c)
  N v := if h : v < 128 then gn (ix1 ⟨v, h⟩) else 0

variable {u : FVec Ideal S32768x4096 .f32} {w : FVec Ideal S32768x4096 .bf16} {z : FVec Ideal S2x1024 .f32} {gn : FVec Ideal S128 .f32}

/-- A block's result is the batch's, at the block's columns. -/
theorem res_shift (b p r c : ℕ) : (vals u w z gn b (256 * p)).res r c = (vals u w z gn b 0).res r (256 * p + c) := by
  have e : ∀ P : ℕ → ℕ → ℝ, (fun r d => P r (256 * p + (128 * (c / 128) + d))) = fun r d => P r (0 + (128 * ((256 * p + c) / 128) + d)) := by
    intro P; funext r d; congr 1; omega
  have e2 : (256 * p + c) % 128 = c % 128 := by omega
  unfold Vals.res
  rw [e2]
  have hq : sh (c / 128) (vals u w z gn b (256 * p)).q = sh ((256 * p + c) / 128) (vals u w z gn b 0).q :=
    e fun r x => silu (at2 u (4096 * b + r) x)
  have hk : sh (c / 128) (vals u w z gn b (256 * p)).k = sh ((256 * p + c) / 128) (vals u w z gn b 0).k :=
    e fun r x => fresh (logis (at2 z 1 x - at2 z 0 x)) (ext2 u (4096 * b + r) (1024 + x))
  have hl : sh (c / 128) (vals u w z gn b (256 * p)).lf = sh ((256 * p + c) / 128) (vals u w z gn b 0).lf :=
    e fun r x => Real.log (keep (logis (at2 z 1 x - at2 z 0 x)) (ext2 u (4096 * b + r) (1024 + x))) * (Real.log 2)⁻¹
  have hi : sh (c / 128) (vals u w z gn b (256 * p)).I = sh ((256 * p + c) / 128) (vals u w z gn b 0).I :=
    e fun r x => at2 w (4096 * b + r) x
  rw [hq, hk, hl, hi]
  have hg : (vals u w z gn b (256 * p)).G r c = (vals u w z gn b 0).G r (256 * p + c) := by
    show at2 u _ (2048 + (256 * p + c)) = at2 u _ (2048 + (0 + (256 * p + c))); rw [zero_add]
  rw [hg]
  rfl

/-- The whole result. -/
def whole (u : FVec Ideal S32768x4096 .f32) (w : FVec Ideal S32768x4096 .bf16) (z : FVec Ideal S2x1024 .f32) (gn : FVec Ideal S128 .f32) : Vec Ideal S32768x1024 .bf16 :=
  fun i => (vals u w z gn ((i 0).val / 4096) 0).res ((i 0).val % 4096) (i 1).val

variable (m : (ℓ : Loc nD τ sig) → Buf (Elt Ideal) ℓ)

/-- Each window's block index at every grid point. -/
theorem idx : ∀ t : Fin cfg0.N, win0_0.index t = ![t.val / 4, t.val % 4] ∧ win0_1.index t = ![t.val / 4, 4 + t.val % 4] ∧ win0_2.index t = ![t.val / 4, t.val % 4]
    ∧ win0_3.index t = ![t.val / 4, 8 + t.val % 4] ∧ win0_4.index t = ![0, t.val % 4] ∧ win0_5.index t = ![0, 0] ∧ win0_6.index t = ![0, 0] ∧ win0_7.index t = ![0, 0]
    ∧ win0_8.index t = ![t.val / 4, t.val % 4] ∧ t.val < 32 :=
  (by decide +kernel : ∀ t : Fin grid0.N, _)

/-- The precondition: the arrays' columns that the recurrence reads are finite. -/
theorem finite_of_pre (h : Cert.Pre_finite.fn (F := Ideal) u w z gn = fun _ => 1#1) : Sides u ∧ Finite 1024 w ∧ Finite 1024 z := by
  have e := congrFun h ix0
  unfold Cert.Pre_finite.fn Cert.Pre_finite.fn_part1 at e
  obtain ⟨e, e3⟩ := Idealize.ShloMosaic.IntOp.andi_eq_one.mp e
  obtain ⟨e, e2⟩ := Idealize.ShloMosaic.IntOp.andi_eq_one.mp e
  obtain ⟨e0, e1⟩ := Idealize.ShloMosaic.IntOp.andi_eq_one.mp e
  haveI : Subsingleton Cert.Pre_finite.S_.Idx := ⟨fun a b => funext fun i => i.elim0⟩
  refine ⟨fun r k hk => ?_, fun r k hk => ?_, fun r k hk => ?_⟩
  · rcases hk with hk | ⟨hk, hk'⟩
    · have q := Host.reduce_andi_all _ _ _ _ _ e0 (ix2 r ⟨k, hk⟩)
      revert q
      pointwise
      intro q
      have q := of_decide_eq_true (ofBool_one q)
      rw [inf_eq] at q
      exact real_of_abs _ _ _ q
    · have q := Host.reduce_andi_all _ _ _ _ _ e1 (ix2 r ⟨k - 2048, by omega⟩)
      revert q
      pointwise
      intro q
      have q := of_decide_eq_true (ofBool_one q)
      rw [inf_eq] at q
      refine real_of_abs u r k ?_
      have hk2 : (⟨2048 + (k.val - 2048), by omega⟩ : Fin 4096) = k := Fin.ext (by dsimp only; omega)
      rw [← hk2]
      exact q
  · have q := Host.reduce_andi_all _ _ _ _ _ e2 (ix2 r ⟨k, hk⟩)
    revert q
    pointwise
    intro q
    have q := of_decide_eq_true (ofBool_one q)
    rw [inf_eq] at q
    exact real_of_abs _ _ _ q
  · have q := Host.reduce_andi_all _ _ _ _ _ e3 (ix2 r k)
    revert q
    pointwise
    intro q
    have q := of_decide_eq_true (ofBool_one q)
    rw [inf_eq] at q
    exact real_of_abs _ _ _ q

theorem read_q (c : Dev nD) (t : Fin cfg0.N) (r : Fin 4096) (j : Fin 256) :
    iblk m c 0 t (ix2 r j) = m ((c : Thread nD τ).loc main_arg0) (ix2 ⟨4096 * (t.val / 4) + r, by have : t.val < 32 := t.isLt; omega⟩ ⟨256 * (t.val % 4) + j, by omega⟩) := by
  blk_ext! [iblk, V, idx t]

theorem read_x (c : Dev nD) (t : Fin cfg0.N) (r : Fin 4096) (j : Fin 256) :
    iblk m c 1 t (ix2 r j) = m ((c : Thread nD τ).loc main_arg0) (ix2 ⟨4096 * (t.val / 4) + r, by have : t.val < 32 := t.isLt; omega⟩ ⟨1024 + (256 * (t.val % 4) + j), by omega⟩) := by
  blk_ext! [iblk, V, idx t]

theorem read_i (c : Dev nD) (t : Fin cfg0.N) (r : Fin 4096) (j : Fin 256) :
    iblk m c 2 t (ix2 r j) = m ((c : Thread nD τ).loc main_arg1) (ix2 ⟨4096 * (t.val / 4) + r, by have : t.val < 32 := t.isLt; omega⟩ ⟨256 * (t.val % 4) + j, by omega⟩) := by
  blk_ext! [iblk, V, idx t]

theorem read_g (c : Dev nD) (t : Fin cfg0.N) (r : Fin 4096) (j : Fin 256) :
    iblk m c 3 t (ix2 r j) = m ((c : Thread nD τ).loc main_arg0) (ix2 ⟨4096 * (t.val / 4) + r, by have : t.val < 32 := t.isLt; omega⟩ ⟨2048 + (256 * (t.val % 4) + j), by omega⟩) := by
  blk_ext! [iblk, V, idx t]

theorem read_z (c : Dev nD) (t : Fin cfg0.N) (r : Fin 2) (j : Fin 256) :
    iblk m c 4 t (ix2 r j) = m ((c : Thread nD τ).loc main_arg2) (ix2 r ⟨256 * (t.val % 4) + j, by omega⟩) := by
  blk_ext! [iblk, V, idx t]

theorem V0 (c : Dev nD) : V m c main_v0 = shapeCast S1x128 (m ((c : Thread nD τ).loc main_arg3)) shapeCasts_S128_S1x128 := by
  unfold V
  after_results_simp <;> (try dsimp only [Matrix.cons_val]) <;> (try after_results_simp) <;> rfl

theorem Vcst (c : Dev nD) : V m c main_cst = fun i => FloatOps.ofBits (F := Ideal) .bf16 (lit0 (S384x128.rowMajor i)) := by
  unfold V
  after_results_simp <;> (try dsimp only [Matrix.cons_val]) <;> (try after_results_simp) <;> rfl

theorem Vc (c : Dev nD) : V m c main_c = fun i => lit1 (S128x128.rowMajor i) := by
  unfold V
  after_results_simp <;> (try dsimp only [Matrix.cons_val]) <;> (try after_results_simp) <;> rfl

theorem read_n (c : Dev nD) (t : Fin cfg0.N) (v : Fin 128) :
    iblk m c 5 t (ix2 0 v) = m ((c : Thread nD τ).loc main_arg3) (ix1 v) := by
  trans (V m c main_v0) (ix2 (0 : Fin 1) v)
  · blk_ext! [iblk, idx t]
  · rw [V0]; pointwise

theorem read_sums (c : Dev nD) (t : Fin cfg0.N) (r : Fin 384) (s : Fin 128) :
    iblk m c 6 t (ix2 r s) = ((mark r s : ℝ) : EReal) := by
  trans (V m c main_cst) (ix2 r s)
  · blk_ext! [iblk, idx t]
  · rw [Vcst]
    have e : (S384x128.rowMajor (ix2 r s)).val = r * 128 + s := by rw [Shape.rowMajor_val_two]; rfl
    have h := sum_tab r s
    rw [← e] at h
    show Ideal.ofBits .bf16 (lit0t (S384x128.rowMajor (ix2 r s)).val) = _
    unfold mark
    cases hb : inSum r s
    · rw [hb] at h
      rw [show lit0t (S384x128.rowMajor (ix2 r s)).val = 0#16 from BitVec.eq_of_toNat_eq h]
      simp [Ideal.ofBits, Ideal.ieee]
    · rw [hb] at h
      rw [show lit0t (S384x128.rowMajor (ix2 r s)).val = 0x3F80#16 from BitVec.eq_of_toNat_eq h]
      simp [Ideal.ofBits, Ideal.ieee, -EReal.coe_mul]; norm_num

theorem read_levels (c : Dev nD) (t : Fin cfg0.N) (r s : Fin 128) : Level r s (iblk m c 7 t (ix2 r s)) := by
  have : iblk m c 7 t (ix2 r s) = (V m c main_c) (ix2 r s) := by blk_ext! [iblk, idx t]
  rw [this, Vc]
  have e : (S128x128.rowMajor (ix2 r s)).val = r * 128 + s := by rw [Shape.rowMajor_val_two]; rfl
  have h := level_tab r s
  rw [← e] at h
  exact h

theorem emb_8 (t : Fin cfg0.N) (p : Fin 4096) (q : Fin 256) :
    ((cfg0.win 8).blk t).view.emb (ix2 p q) = ix2 ⟨4096 * (t.val / 4) + p, by have : t.val < 32 := t.isLt; omega⟩ ⟨256 * (t.val % 4) + q, by omega⟩ := by
  blk_ext [idx t]

/-- The values of grid point `t`. -/
def valsAt (c : Dev nD) (t : Fin cfg0.N) : Vals :=
  vals (m ((c.tc : Thread nD τ).loc main_arg0)) (m ((c.tc : Thread nD τ).loc main_arg1)) (m ((c.tc : Thread nD τ).loc main_arg2)) (m ((c.tc : Thread nD τ).loc main_arg3)) (t.val / 4) (256 * (t.val % 4))

/-- Every point's blocks hold its values. -/
theorem blocks (h : Cert.Pre_KernelIdeal_finite (hPre_finite := preFacts) m) (c : Dev nD) (t : Fin cfg0.N) :
    Blocks (valsAt m c t) (iblk m c 0 t) (iblk m c 1 t) (iblk m c 2 t) (iblk m c 3 t) (iblk m c 4 t) (iblk m c 5 t) (iblk m c 6 t) (iblk m c 7 t) := by
  obtain ⟨hu, hw, hz⟩ := finite_of_pre (h c)
  refine ⟨fun r j => ?_, fun r j => ?_, fun r j => ?_, fun r j => ?_, fun r j => ?_, fun v => ?_, read_sums m c t, read_levels m c t⟩
  · rw [read_q]; exact hu _ _ (by dsimp only; omega)
  · rw [read_x]; exact ext2_eq (φ := .f32) _ _ _
  · rw [read_i]; exact hw _ _ (by dsimp only; omega)
  · rw [read_g]; exact hu _ _ (by dsimp only; omega)
  · rw [read_z]; exact hz _ _ (by dsimp only; omega)
  · rw [read_n]; unfold valsAt vals; dsimp only; rw [dif_pos v.isLt]

/-- The array after the run. -/
theorem whole_eq (c : Dev nD) : (dats m (valsAt m) 0 c).arrAt 8 cfg0.N
    = whole (m ((c.tc : Thread nD τ).loc main_arg0)) (m ((c.tc : Thread nD τ).loc main_arg1)) (m ((c.tc : Thread nD τ).loc main_arg2)) (m ((c.tc : Thread nD τ).loc main_arg3)) := by
  refine (dats m (valsAt m) 0 c).arrAt_eq_of_covers 8 _ (by decide +kernel) fun t hf y => ?_
  obtain ⟨p, q, rfl⟩ : ∃ (p : Fin 4096) (q : Fin 256), y = ix2 p q := ⟨y 0, y 1, eq_ix2 y⟩
  blk_simp
  rw [after_8, emb_8]
  have ht : t.val < 32 := t.isLt
  have e0 : (4096 * (t.val / 4) + p) / 4096 = t.val / 4 := by omega
  have e1 : (4096 * (t.val / 4) + p) % 4096 = p := by omega
  show (valsAt m c t).res p q = (vals _ _ _ _ ((4096 * (t.val / 4) + p) / 4096) 0).res ((4096 * (t.val / 4) + p) % 4096) (256 * (t.val % 4) + q)
  rw [e0, e1]
  exact res_shift _ _ _ _

end Cert.Proof.Rec
end
-- ==== Proof.RecTerms.lean ====
/-
  The terms of the reference's operations before its loop over chunks.
-/
module

public import proofs.«01_k».proof.Proof.RecArray
public import proofs.«01_k».proof.Proof.Gen.ReferenceIdeal.Run
public import Idealize.ShloMosaic.Lib.DynamicIndex

@[expose] public section

set_option maxRecDepth 16384

noncomputable section

namespace Cert.Proof.Rec

open Idealize.ShloMosaic Idealize.ShloMosaic.TcCoe Idealize.SL.Sem
open Cert.ReferenceIdeal Cert.ReferenceIdeal.Gen Cert.ReferenceIdeal.Value
open Idealize.ShloMosaic.StableHlo

/-- The softmax of the bounds' logits over their two rows. -/
def softT (z : FVec Ideal S2x1024 .f32) : FVec Ideal S2x1024 .f32 :=
  Host.divf (Host.exp (subf z (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf z (constant S_ .f32 0xFF800000#32) reducesTo_S2x1024_S1024_d0 h_S_))))))
    (broadcastInDim S2x1024 ![0, 1] bcast_S1x1024_S2x1024_0_1 (broadcastInDim S1x1024 ![1] bcast_S1024_S1x1024_1 (Host.reduceAdd (Host.exp (subf z (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf z (constant S_ .f32 0xFF800000#32) reducesTo_S2x1024_S1024_d0 h_S_)))))) (constant S_ .f32 0x00000000#32) reducesTo_S2x1024_S1024_d0 h_S_)))

/-- Its running sums down the rows. -/
def softCum (z : FVec Ideal S2x1024 .f32) : FVec Ideal S2x1024 .f32 :=
  Host.reduceWindowAdd ![2, 1] ![1, 1] ![1, 0] ![0, 0] (softT z) (broadcastInDim S_ ![] bcast_S_S_ (constant S_ .f32 0x00000000#32)) reduceWindows_S2x1024_S2x1024_w2s1p1_0_w1s1p0_0 h_S_

/-- The gates' lower bounds. -/
def lowT (z : FVec Ideal S2x1024 .f32) : FVec Ideal S1024 .f32 :=
  shapeCast S1024 (extractStridedSlice S1x1024 ![1, 0] (subf (softCum z) (broadcastInDim S2x1024 ![0, 1] bcast_S1x1024_S2x1024_0_1 (extractStridedSlice S1x1024 ![0, 0] (softCum z) slices_S2x1024_S1x1024_0_0))) slices_S2x1024_S1x1024_1_0) shapeCasts_S1x1024_S1024

/-- One, at every entry. -/
def oneT : FVec Ideal S8x4096x1024 .f32 := broadcastInDim S8x4096x1024 ![] bcast_S_S8x4096x1024 (constant S_ .f32 0x3F800000#32)
/-- Zero, at every entry. -/
def zeroT : FVec Ideal S8x4096x1024 .f32 := broadcastInDim S8x4096x1024 ![] bcast_S_S8x4096x1024 (constant S_ .f32 0x00000000#32)
/-- A vector over the columns, along all rows. -/
def along (x : FVec Ideal S1024 .f32) : FVec Ideal S8x4096x1024 .f32 :=
  broadcastInDim S8x4096x1024 ![0, 1, 2] bcast_S1x1x1024_S8x4096x1024_0_1_2 (broadcastInDim S1x1x1024 ![2] bcast_S1024_S1x1x1024_2 x)

/-- The queries' arguments by batch. -/
def qArg (u : FVec Ideal S32768x4096 .f32) : FVec Ideal S8x4096x1024 .f32 :=
  shapeCast S8x4096x1024 (extractStridedSlice S32768x1024 ![0, 0] u slices_S32768x4096_S32768x1024_0_0) shapeCasts_S32768x1024_S8x4096x1024
/-- The gates' arguments by batch. -/
def xArg (u : FVec Ideal S32768x4096 .f32) : FVec Ideal S8x4096x1024 .f32 :=
  shapeCast S8x4096x1024 (extractStridedSlice S32768x1024 ![0, 1024] u slices_S32768x4096_S32768x1024_0_1024) shapeCasts_S32768x1024_S8x4096x1024
/-- The values by batch. -/
def iArg (w : FVec Ideal S32768x4096 .bf16) : FVec Ideal S8x4096x1024 .f32 :=
  shapeCast S8x4096x1024 (extractStridedSlice S32768x1024 ![0, 0] (extf .f32 w bitsLt_bf16_f32) slices_S32768x4096_S32768x1024_0_0) shapeCasts_S32768x1024_S8x4096x1024

/-- The activated queries. -/
def qT (u : FVec Ideal S32768x4096 .f32) : FVec Ideal S8x4096x1024 .f32 :=
  mulf (qArg u) (Host.divf oneT (addf oneT (Host.exp (Host.negf (qArg u)))))

/-- The logarithm of a sum of two exponentials. -/
def logAdd (a b : FVec Ideal S8x4096x1024 .f32) : FVec Ideal S8x4096x1024 .f32 :=
  select (cmpf .une (subf a b) (subf a b)) (addf a b) (addf (maximumf a b) (Host.log1p (Host.exp (Host.negf (Host.absf (subf a b))))))

/-- The logarithm of what the gates keep. -/
def lfT (u : FVec Ideal S32768x4096 .f32) (z : FVec Ideal S2x1024 .f32) : FVec Ideal S8x4096x1024 .f32 :=
  logAdd (along (Host.log (lowT z))) (addf (along (Host.log1p (Host.negf (lowT z)))) (Host.negf (logAdd (Host.negf (xArg u)) zeroT)))

/-- The keys. -/
def kT (u : FVec Ideal S32768x4096 .f32) (z : FVec Ideal S2x1024 .f32) : FVec Ideal S8x4096x1024 .f32 :=
  mulf (along (subf (broadcastInDim S1024 ![] bcast_S_S1024 (constant S_ .f32 0x3F800000#32)) (lowT z)))
    (Host.divf oneT (addf oneT (Host.exp (Host.negf (Host.negf (xArg u))))))

/-- The rows in chunks of 64, the columns in heads of 128. -/
def chunked (x : FVec Ideal S8x4096x1024 .f32) : FVec Ideal S64x8x8x64x128 .f32 :=
  transpose S64x8x8x64x128 [1, 0, 3, 2, 4] (shapeCast S8x64x64x8x128 x shapeCasts_S8x4096x1024_S8x64x64x8x128) transposes_S8x64x64x8x128_S64x8x8x64x128_1_0_3_2_4

/-- The running sums within the chunks. -/
def cumT (x : FVec Ideal S64x8x8x64x128 .f32) : FVec Ideal S64x8x8x64x128 .f32 :=
  Host.reduceWindowAdd ![1, 1, 1, 64, 1] ![1, 1, 1, 1, 1] ![0, 0, 0, 63, 0] ![0, 0, 0, 0, 0] x (broadcastInDim S_ ![] bcast_S_S_ (constant S_ .f32 0x00000000#32)) reduceWindows_S64x8x8x64x128_S64x8x8x64x128_w1s1p0_0_w1s1p0_0_w1s1p0_0_w64s1p63_0_w1s1p0_0 h_S_

/-- Which earlier rows of a chunk a row reads. -/
def maskT : IVec S64x64x1 1 :=
  broadcastInDim S64x64x1 ![0, 1] bcast_S64x64_S64x64x1_0_1 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))

end Cert.Proof.Rec
end
-- ==== Proof.RecGate.lean ====
/-
  The values of the reference's queries, keys, gates and values at every entry, for finite arguments.
-/
module

public import proofs.«01_k».proof.Proof.RecTerms

@[expose] public section

set_option maxRecDepth 16384

noncomputable section

namespace Cert.Proof.Rec

open Idealize.ShloMosaic Idealize.ShloMosaic.TcCoe Idealize.SL.Sem
open Cert.ReferenceIdeal Cert.ReferenceIdeal.Gen

variable {u : FVec Ideal S32768x4096 .f32} {w : FVec Ideal S32768x4096 .bf16} {z : FVec Ideal S2x1024 .f32} {gn : FVec Ideal S128 .f32}

/-- A fold that adds is the sum. -/
theorem foldl_add {ι : Type} (f : ι → EReal) : ∀ (l : List ι) (v : EReal), l.foldl (fun r n => r + f n) v = v + (l.map f).sum
  | [], v => by simp
  | a :: l, v => by rw [List.foldl_cons, foldl_add f l, List.map_cons, List.sum_cons, add_assoc]

/-- The rows that a window of `M + 1` rows ending at row `t` has of an array are its rows up to `t`. -/
theorem window_rows (M t : ℕ) (ht : t ≤ M) (X : ℕ → ℝ) :
    ∑ n : Fin (M + 1), (if M ≤ t + n then X (t + n - M) else 0) = ∑ j ∈ Finset.range (t + 1), X j := by
  rw [Fin.sum_univ_eq_sum_range (fun n => if M ≤ t + n then X (t + n - M) else 0) (M + 1), ← Finset.sum_filter]
  refine Finset.sum_nbij' (fun n => t + n - M) (fun j => j + M - t) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_range] at hn ⊢; omega
  · intro n _; rfl

theorem zero_word : Ideal.ofBits .f32 0x00000000#32 = ((0 : ℝ) : EReal) := by
  simp [Ideal.ofBits, Ideal.ieee]

theorem one_word : Ideal.ofBits .f32 0x3F800000#32 = ((1 : ℝ) : EReal) := by
  simp [Ideal.ofBits, Ideal.ieee, -EReal.coe_mul]; norm_num

/-- The running sums within the chunks. -/
theorem cumT_val (x : FVec Ideal S64x8x8x64x128 .f32) (n : Fin 64) (b h : Fin 8) (t : Fin 64) (d : Fin 128) (X : ℕ → ℝ)
    (hx : ∀ j : Fin 64, x (ix5 n b h j d) = ((X j : ℝ) : EReal)) :
    cumT x (ix5 n b h t d) = ((∑ j ∈ Finset.range (t + 1), X j : ℝ) : EReal) := by
  unfold cumT Host.reduceWindowAdd
  show Ideal.hostReduceWindowAdd _ _ _ _ _ x (Ideal.ofBits .f32 0x00000000#32) (ix5 n b h t d) = _
  unfold Ideal.hostReduceWindowAdd Host.reduceWindow
  dsimp only
  rw [foldl_add, zero_word, EReal.coe_zero, zero_add, ← Fin.sum_univ_def]
  let W : Shape := ⟨5, ![1, 1, 1, 64, 1]⟩
  have hco : ∀ k : Fin W.numel, (W.rowMajor.symm k 0).val = 0 ∧ (W.rowMajor.symm k 1).val = 0 ∧ (W.rowMajor.symm k 2).val = 0
      ∧ (W.rowMajor.symm k 3).val = k.val ∧ (W.rowMajor.symm k 4).val = 0 := by
    intro k
    have h0 : (W.rowMajor.symm k 0).val < 1 := (W.rowMajor.symm k 0).isLt
    have h1 : (W.rowMajor.symm k 1).val < 1 := (W.rowMajor.symm k 1).isLt
    have h2 : (W.rowMajor.symm k 2).val < 1 := (W.rowMajor.symm k 2).isLt
    have h4 : (W.rowMajor.symm k 4).val < 1 := (W.rowMajor.symm k 4).isLt
    have e : ((((W.rowMajor.symm k 0).val * 1 + (W.rowMajor.symm k 1).val) * 1 + (W.rowMajor.symm k 2).val) * 64 + (W.rowMajor.symm k 3).val) * 1
        + (W.rowMajor.symm k 4).val = k.val :=
      (Shape.rowMajor_val_five (d := ![1, 1, 1, 64, 1]) (W.rowMajor.symm k)).symm.trans (congrArg Fin.val (Equiv.apply_symm_apply W.rowMajor k))
    omega
  have hN : W.numel = 64 := by decide
  rw [sum_coe (g := fun k : Fin W.numel => if 63 ≤ (t : ℕ) + k then X (t + k - 63) else 0)]
  · rw [← window_rows 63 t (by omega) X]
    exact congrArg _ (Fintype.sum_equiv (finCongr hN) _ _ fun _ => rfl)
  · intro k
    obtain ⟨c0, c1, c2, c3, c4⟩ := hco k
    have hk : k.val < 64 := lt_of_lt_of_eq k.isLt hN
    split
    · next hin =>
      have h3 := hin 3
      change 63 ≤ t.val * 1 + (W.rowMajor.symm k 3).val ∧ t.val * 1 + (W.rowMajor.symm k 3).val - 63 < 64 at h3
      rw [c3] at h3
      rw [if_pos (by omega)]
      refine (congrArg x (funext fun a => Fin.ext ?_)).trans (hx ⟨t.val + k.val - 63, by omega⟩)
      match a with
      | ⟨0, _⟩ => show n.val * 1 + (W.rowMajor.symm k 0).val - 0 = n.val; omega
      | ⟨1, _⟩ => show b.val * 1 + (W.rowMajor.symm k 1).val - 0 = b.val; omega
      | ⟨2, _⟩ => show h.val * 1 + (W.rowMajor.symm k 2).val - 0 = h.val; omega
      | ⟨3, _⟩ => show t.val * 1 + (W.rowMajor.symm k 3).val - 63 = t.val + k.val - 63; omega
      | ⟨4, _⟩ => show d.val * 1 + (W.rowMajor.symm k 4).val - 0 = d.val; omega
    · next hin =>
      rw [if_neg fun hle => hin fun a => by
        match a with
        | ⟨0, _⟩ => show 0 ≤ n.val * 1 + (W.rowMajor.symm k 0).val ∧ n.val * 1 + (W.rowMajor.symm k 0).val - 0 < 64; omega
        | ⟨1, _⟩ => show 0 ≤ b.val * 1 + (W.rowMajor.symm k 1).val ∧ b.val * 1 + (W.rowMajor.symm k 1).val - 0 < 8; omega
        | ⟨2, _⟩ => show 0 ≤ h.val * 1 + (W.rowMajor.symm k 2).val ∧ h.val * 1 + (W.rowMajor.symm k 2).val - 0 < 8; omega
        | ⟨3, _⟩ => show 63 ≤ t.val * 1 + (W.rowMajor.symm k 3).val ∧ t.val * 1 + (W.rowMajor.symm k 3).val - 63 < 64; omega
        | ⟨4, _⟩ => show 0 ≤ d.val * 1 + (W.rowMajor.symm k 4).val ∧ d.val * 1 + (W.rowMajor.symm k 4).val - 0 < 128; omega]
      rfl

/-- The running sums of the softmax's two rows. -/
theorem softCum_val (z : FVec Ideal S2x1024 .f32) (t : Fin 2) (c : Fin 1024) (X : ℕ → ℝ)
    (hx : ∀ j : Fin 2, softT z (ix2 j c) = ((X j : ℝ) : EReal)) :
    softCum z (ix2 t c) = ((∑ j ∈ Finset.range (t + 1), X j : ℝ) : EReal) := by
  unfold softCum Host.reduceWindowAdd
  show Ideal.hostReduceWindowAdd _ _ _ _ _ (softT z) (Ideal.ofBits .f32 0x00000000#32) (ix2 t c) = _
  unfold Ideal.hostReduceWindowAdd Host.reduceWindow
  dsimp only
  rw [foldl_add, zero_word, EReal.coe_zero, zero_add, ← Fin.sum_univ_def]
  let W : Shape := ⟨2, ![2, 1]⟩
  have hco : ∀ k : Fin W.numel, (W.rowMajor.symm k 0).val = k.val ∧ (W.rowMajor.symm k 1).val = 0 := by
    intro k
    have h1 : (W.rowMajor.symm k 1).val < 1 := (W.rowMajor.symm k 1).isLt
    have e : (W.rowMajor.symm k 0).val * 1 + (W.rowMajor.symm k 1).val = k.val :=
      (Shape.rowMajor_val_two (d := ![2, 1]) (W.rowMajor.symm k)).symm.trans (congrArg Fin.val (Equiv.apply_symm_apply W.rowMajor k))
    omega
  have hN : W.numel = 2 := by decide
  rw [sum_coe (g := fun k : Fin W.numel => if 1 ≤ (t : ℕ) + k then X (t + k - 1) else 0)]
  · rw [← window_rows 1 t (by omega) X]
    exact congrArg _ (Fintype.sum_equiv (finCongr hN) _ _ fun _ => rfl)
  · intro k
    obtain ⟨c0, c1⟩ := hco k
    have hk : k.val < 2 := lt_of_lt_of_eq k.isLt hN
    split
    · next hin =>
      have h0 := hin 0
      change 1 ≤ t.val * 1 + (W.rowMajor.symm k 0).val ∧ t.val * 1 + (W.rowMajor.symm k 0).val - 1 < 2 at h0
      rw [c0] at h0
      rw [if_pos (by omega)]
      refine (congrArg (softT z) (funext fun a => Fin.ext ?_)).trans (hx ⟨t.val + k.val - 1, by omega⟩)
      match a with
      | ⟨0, _⟩ => show t.val * 1 + (W.rowMajor.symm k 0).val - 1 = t.val + k.val - 1; omega
      | ⟨1, _⟩ => show c.val * 1 + (W.rowMajor.symm k 1).val - 0 = c.val; omega
    · next hin =>
      rw [if_neg fun hle => hin fun a => by
        match a with
        | ⟨0, _⟩ => show 1 ≤ t.val * 1 + (W.rowMajor.symm k 0).val ∧ t.val * 1 + (W.rowMajor.symm k 0).val - 1 < 2; omega
        | ⟨1, _⟩ => show 0 ≤ c.val * 1 + (W.rowMajor.symm k 1).val ∧ c.val * 1 + (W.rowMajor.symm k 1).val - 0 < 1024; omega]
      rfl

theorem chunked_val (x : FVec Ideal S8x4096x1024 .f32) (n : Fin 64) (b h : Fin 8) (t : Fin 64) (d : Fin 128) :
    chunked x (ix5 n b h t d) = x (ix3 b ⟨64 * n + t, by omega⟩ ⟨128 * h + d, by omega⟩) := by
  pointwise [chunked]
  exact congrArg x (congrArg₂ (fun p q => ix3 b p q) (Fin.ext (by dsimp only; omega)) (Fin.ext (by dsimp only; omega)))

theorem qArg_val (hu : Sides u) (b : Fin 8) (r : Fin 4096) (c : Fin 1024) :
    qArg u (ix3 b r c) = ((at2 u (4096 * b + r) c : ℝ) : EReal) := by
  pointwise [qArg]
  refine (hu _ _ (by dsimp only; omega)).trans ?_
  dsimp only
  rw [mul_comm]

theorem xArg_val (b : Fin 8) (r : Fin 4096) (c : Fin 1024) :
    xArg u (ix3 b r c) = ext2 u (4096 * b + r) (1024 + c) := by
  pointwise [xArg]
  refine (ext2_eq _ _ _).trans ?_
  dsimp only
  rw [mul_comm]

theorem iArg_val (hw : Finite 1024 w) (b : Fin 8) (r : Fin 4096) (c : Fin 1024) :
    iArg w (ix3 b r c) = ((at2 w (4096 * b + r) c : ℝ) : EReal) := by
  pointwise [iArg]
  refine (hw _ _ (by dsimp only; omega)).trans ?_
  dsimp only
  rw [mul_comm]

/-- The softmax's two rows are reals, the second the gate's lower bound. -/
theorem soft_val (hz : Finite 1024 z) (c : Fin 1024) :
    ∃ P : ℕ → ℝ, (∀ j : Fin 2, softT z (ix2 j c) = ((P j : ℝ) : EReal)) ∧ P 1 = low (at2 z) c := by
  have hz' : ∀ r : Fin 2, z (ix2 r c) = ((at2 z r c : ℝ) : EReal) := fun r => hz r c c.isLt
  obtain ⟨m, hm⟩ : ∃ m : ℝ, max (Ideal.ofBits .f32 4286578688#32) (Finset.fold max (Ideal.ofBits .f32 4286578688#32) (fun x : Fin 2 => ((at2 z x c : ℝ) : EReal)) Finset.univ) = (m : EReal) := by
    refine ⟨max (at2 z 0 c) (at2 z 1 c), ?_⟩
    rw [show Ideal.ofBits .f32 4286578688#32 = (⊥ : EReal) by simp [Ideal.ofBits, Ideal.ieee]]
    rw [show (Finset.univ : Finset (Fin 2)) = {0, 1} from rfl, Finset.fold_insert (by decide), Finset.fold_singleton, max_bot_right, max_bot_left, max_val]
    rfl
  refine ⟨fun j => Real.exp (at2 z j c - m) * (1 / (Real.exp (at2 z 0 c - m) + Real.exp (at2 z 1 c - m))), fun j => ?_, low_eq _ _ _⟩
  pointwise [softT]
  simp only [hz', Fin.sum_univ_two]
  rw [hm, ← EReal.coe_sub, ← EReal.coe_sub, ← EReal.coe_sub, Ideal.exp_coe, Ideal.exp_coe, Ideal.exp_coe, ← EReal.coe_add, Ideal.div_coe (by positivity), ← EReal.coe_mul]
  rfl

/-- The gate's lower bound. -/
theorem lowT_val (hz : Finite 1024 z) (c : Fin 1024) : lowT z (ix1 c) = ((low (at2 z) c : ℝ) : EReal) := by
  obtain ⟨P, hP, h1⟩ := soft_val hz c
  pointwise [lowT]
  rw [softCum_val z 1 c P hP, softCum_val z 0 c P hP, ← EReal.coe_sub, ← h1]
  congr 1
  simp [Finset.sum_range_succ]

theorem oneT_val (i : S8x4096x1024.Idx) : oneT i = ((1 : ℝ) : EReal) := one_word
theorem zeroT_val (i : S8x4096x1024.Idx) : zeroT i = ((0 : ℝ) : EReal) := zero_word

theorem along_val (x : FVec Ideal S1024 .f32) (b : Fin 8) (r : Fin 4096) (c : Fin 1024) : along x (ix3 b r c) = x (ix1 c) := by
  pointwise [along]

/-- The quotient of one and a real that is not zero. -/
theorem inv_val {y : ℝ} (h : y ≠ 0) : Ideal.div ((1 : ℝ) : EReal) (y : EReal) = ((y⁻¹ : ℝ) : EReal) := by
  rw [Ideal.div_coe h, ← EReal.coe_mul, one_mul, one_div]

theorem qT_val (hu : Sides u) (b : Fin 8) (r : Fin 4096) (c : Fin 1024) :
    qT u (ix3 b r c) = (((vals u w z gn b 0).q r c : ℝ) : EReal) := by
  pointwise [qT]
  rw [qArg_val hu, oneT_val, ← EReal.coe_neg, Ideal.exp_coe, ← EReal.coe_add, inv_val (by positivity), ← EReal.coe_mul]
  simp only [Vals.q, vals, zero_add]
  rfl

/-- The sum of exponentials in logarithms, at any entries. -/
theorem logAdd_at (x y : FVec Ideal S8x4096x1024 .f32) (i : S8x4096x1024.Idx) :
    logAdd x y i = (max (x i) (y i) : EReal) + Ideal.log (1 + Ideal.exp (-(max (x i - y i) (-(x i - y i)) : EReal))) := by
  have h0 : ∀ e : EReal, FloatOps.cmpf (F := Ideal) (φ := .f32) .une e e = 0#1 := fun e => by
    show BitVec.ofBool (decide (e ≠ e)) = 0#1
    rw [decide_eq_false (not_not.mpr rfl)]
    decide
  show Scalar.select (FloatOps.cmpf (F := Ideal) (φ := .f32) .une (x i - y i) (x i - y i)) (x i + y i)
    (max (x i) (y i) + Ideal.log (1 + Ideal.exp (-(max (x i - y i) (-(x i - y i)))))) = _
  rw [h0, sel_f rfl]

theorem logAdd_val (x y : FVec Ideal S8x4096x1024 .f32) (i : S8x4096x1024.Idx) (A B : ℝ) (hx : x i = ((A : ℝ) : EReal)) (hy : y i = ((B : ℝ) : EReal)) :
    logAdd x y i = ((Real.log (Real.exp A + Real.exp B) : ℝ) : EReal) := by
  rw [logAdd_at, hx, hy, ← EReal.coe_sub, ← EReal.coe_neg, max_val, max_val, ← EReal.coe_neg, Ideal.exp_coe, ← EReal.coe_one, ← EReal.coe_add, Ideal.log_coe,
    if_neg (not_le.mpr (by positivity)), ← EReal.coe_add, ← log_add, zero_sub]
  rfl

/-- Where a difference is infinite the larger one is left. -/
theorem logAdd_inf (x y : FVec Ideal S8x4096x1024 .f32) (i : S8x4096x1024.Idx) (h : (x i - y i : EReal) = ⊤ ∨ (x i - y i : EReal) = ⊥) :
    logAdd x y i = (max (x i) (y i) : EReal) := by
  have e : max (x i - y i : EReal) (-(x i - y i) : EReal) = ⊤ := by
    rcases h with h | h
    · rw [h]; exact max_eq_left le_top
    · rw [h, EReal.neg_bot]; exact max_eq_right le_top
  rw [logAdd_at, e, EReal.neg_top, Ideal.exp_bot, add_zero, ← EReal.coe_one, Ideal.log_coe, if_neg (by norm_num), Real.log_one, EReal.coe_zero, add_zero]

/-- The logarithm of what a gate lets through, negated: infinite where it lets nothing through. -/
theorem soft_bot (i : S8x4096x1024.Idx) (h : xArg u i = (⊥ : EReal)) : logAdd (Host.negf (xArg u)) zeroT i = (⊤ : EReal) := by
  have hx : Host.negf (xArg u) i = (⊤ : EReal) := by
    show (-(xArg u i) : EReal) = _
    rw [h, EReal.neg_bot]
  rw [logAdd_inf _ _ _ (Or.inl (by rw [hx, zeroT_val, EReal.top_sub_coe])), hx]
  exact max_eq_left le_top

theorem soft_pos (i : S8x4096x1024.Idx) (e : EReal) (h : xArg u i = e) (he : e ≠ ⊥) :
    ∃ s : ℝ, 0 < s ∧ s = thru e ∧ logAdd (Host.negf (xArg u)) zeroT i = ((-Real.log s : ℝ) : EReal) := by
  have hx : Host.negf (xArg u) i = (-e : EReal) := by
    show (-(xArg u i) : EReal) = _
    rw [h]
  induction e with
  | bot => exact absurd rfl he
  | top =>
    rw [EReal.neg_top] at hx
    refine ⟨1, one_pos, rfl, ?_⟩
    rw [logAdd_inf _ _ _ (Or.inr (by rw [hx, zeroT_val, EReal.bot_sub])), hx, zeroT_val, Real.log_one, neg_zero]
    exact max_eq_right bot_le
  | coe x =>
    refine ⟨logis x, logis_pos x, rfl, ?_⟩
    rw [logAdd_val _ _ _ (-x) 0 (by rw [hx, EReal.coe_neg]) (zeroT_val _), Real.exp_zero, add_comm, logis, Real.log_inv, neg_neg]

theorem lfT_val (hz : Finite 1024 z) (b : Fin 8) (r : Fin 4096) (c : Fin 1024) :
    lfT u z (ix3 b r c) = ((Real.log (keep (low (at2 z) c) (ext2 u (4096 * b + r) (1024 + c))) : ℝ) : EReal) := by
  obtain ⟨h0, h1⟩ := low_pos (Z := at2 z) c
  have h1' : 0 < 1 - low (at2 z) c := by linarith
  have hlog : along (Host.log (lowT z)) (ix3 b r c) = ((Real.log (low (at2 z) c) : ℝ) : EReal) := by
    rw [along_val]
    show Ideal.log (lowT z (ix1 c)) = _
    rw [lowT_val hz, Ideal.log_coe, if_neg (not_le.mpr h0)]
  have hlog1 : along (Host.log1p (Host.negf (lowT z))) (ix3 b r c) = ((Real.log (1 - low (at2 z) c) : ℝ) : EReal) := by
    rw [along_val]
    show Ideal.log (1 + -(lowT z (ix1 c))) = _
    rw [lowT_val hz, ← EReal.coe_neg, ← EReal.coe_one, ← EReal.coe_add, ← sub_eq_add_neg, Ideal.log_coe, if_neg (not_le.mpr h1')]
  have hx := xArg_val (u := u) b r c
  generalize ext2 u (4096 * b + r) (1024 + c) = e at hx ⊢
  unfold lfT
  by_cases he : e = ⊥
  · subst he
    have hy : addf (along (Host.log1p (Host.negf (lowT z)))) (Host.negf (logAdd (Host.negf (xArg u)) zeroT)) (ix3 b r c) = (⊥ : EReal) := by
      show (along _ (ix3 b r c) + -(logAdd _ _ (ix3 b r c)) : EReal) = _
      rw [soft_bot _ hx, EReal.neg_top, EReal.add_bot]
    refine (logAdd_inf _ _ _ (Or.inl ?_)).trans ?_
    · rw [hlog]
      refine (congrArg (fun y : EReal => ((Real.log (low (at2 z) c) : ℝ) : EReal) - y) hy).trans ?_
      exact EReal.coe_sub_bot _
    · rw [hlog]
      refine (congrArg (fun y : EReal => max ((Real.log (low (at2 z) c) : ℝ) : EReal) y) hy).trans ?_
      rw [max_bot_right]
      show _ = ((Real.log (low (at2 z) c + (1 - low (at2 z) c) * 0) : ℝ) : EReal)
      rw [mul_zero, add_zero]
  · obtain ⟨s, hs, e1, e2⟩ := soft_pos _ e hx he
    refine (logAdd_val _ _ _ _ (Real.log (1 - low (at2 z) c) + Real.log s) hlog ?_).trans ?_
    · show along _ (ix3 b r c) + -(logAdd _ _ (ix3 b r c)) = _
      rw [hlog1, e2, ← EReal.coe_neg, neg_neg, ← EReal.coe_add]
    · rw [Real.exp_add, Real.exp_log h0, Real.exp_log h1', Real.exp_log hs, e1]
      rfl

/-- The quotient that the reference's keys have: what the gate holds back. -/
theorem held_val (e : EReal) : Ideal.div ((1 : ℝ) : EReal) (((1 : ℝ) : EReal) + Ideal.exp (-(-e))) = ((1 - thru e : ℝ) : EReal) := by
  rw [neg_neg]
  induction e with
  | bot =>
    rw [Ideal.exp_bot, add_zero, inv_val one_ne_zero]
    show _ = ((1 - 0 : ℝ) : EReal)
    norm_num
  | top =>
    rw [Ideal.exp_top, EReal.coe_add_top, Ideal.div, if_neg (by simp), EReal.inv_top, mul_zero]
    show _ = ((1 - 1 : ℝ) : EReal)
    rw [sub_self, EReal.coe_zero]
  | coe x =>
    rw [Ideal.exp_coe, ← EReal.coe_add, inv_val (by positivity)]
    show _ = ((1 - logis x : ℝ) : EReal)
    rw [← logis_neg, logis, neg_neg]

theorem kT_val (hz : Finite 1024 z) (b : Fin 8) (r : Fin 4096) (c : Fin 1024) :
    kT u z (ix3 b r c) = (((vals u w z gn b 0).k r c : ℝ) : EReal) := by
  show along _ (ix3 b r c) * Ideal.div (oneT (ix3 b r c)) (oneT (ix3 b r c) + Ideal.exp (-(-(xArg u (ix3 b r c))))) = _
  rw [along_val]
  show (Ideal.ofBits .f32 0x3F800000#32 - lowT z (ix1 c)) * _ = _
  rw [one_word, lowT_val hz, oneT_val, xArg_val, held_val, ← EReal.coe_sub, ← EReal.coe_mul]
  simp only [Vals.k, vals, zero_add, fresh, low]

theorem maskT_val (t s : Fin 64) : maskT (ix3 t s 0) = BitVec.ofBool (decide (s ≤ t)) := by
  pointwise [maskT]
  revert t s
  decide +kernel

end Cert.Proof.Rec
end
-- ==== Proof.RecScan.lean ====
/-
  One trip of the reference's loop over chunks: the state and the outputs it leaves, from those it finds.
-/
module

public import proofs.«01_k».proof.Proof.RecGate

@[expose] public section

set_option maxRecDepth 16384

noncomputable section

namespace Cert.Proof.Rec

open Idealize.ShloMosaic Idealize.ShloMosaic.TcCoe Idealize.SL.Sem
open Cert.ReferenceIdeal Cert.ReferenceIdeal.Gen Cert.ReferenceIdeal.Value
open Idealize.ShloMosaic.StableHlo

/-- Where a trip's slices start, from the loop's counter. -/
abbrev startAt (ctr : IVec S_ 32) : Fin 5 → Int :=
  fun k => (((![ctr, constantI S_ 32 0#32, constantI S_ 32 0#32, constantI S_ 32 0#32, constantI S_ 32 0#32] : Fin 5 → (⟨S_, .i32⟩ : BufTy).Contents (Elt Ideal))) k (Shape.Idx.first h_S_)).toInt

theorem startAt_val {ctr : IVec S_ 32} {n : Fin 64} (hc : ctr = fun _ => BitVec.ofNat 32 n) (a : Fin 5) :
    startAt ctr a = ((![n.val, 0, 0, 0, 0] : Fin 5 → ℕ) a : Int) := by
  subst hc
  match a with
  | ⟨0, _⟩ => exact toInt_ofNat_of_lt (by omega)
  | ⟨1, _⟩ => rfl
  | ⟨2, _⟩ => rfl
  | ⟨3, _⟩ => rfl
  | ⟨4, _⟩ => rfl

/-- A trip's slice of the chunks is the counter's chunk. -/
theorem slice_val (x : Vec Ideal S64x8x8x64x128 .f32) {ctr : IVec S_ 32} {n : Fin 64} (hc : ctr = fun _ => BitVec.ofNat 32 n)
    (b h : Fin 8) (t : Fin 64) (d : Fin 128) :
    shapeCast S8x8x64x128 (Host.dynamicSlice S1x8x8x64x128 x (startAt ctr) sliceFits_S64x8x8x64x128_S1x8x8x64x128) shapeCasts_S1x8x8x64x128_S8x8x64x128 (ix4 b h t d)
      = x (ix5 n b h t d) := by
  have hoff : S64x8x8x64x128.Slices ![n.val, 0, 0, 0, 0] S1x8x8x64x128 := ⟨rfl, fun a => by
    have := n.isLt
    match a with
    | ⟨0, _⟩ => show n.val + 1 ≤ 64; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega⟩
  rw [Host.dynamicSlice_eq_extractStridedSlice _ _ _ ![n.val, 0, 0, 0, 0] _ hoff (startAt_val hc)]
  pointwise

/-- A trip's outputs are written to the counter's chunk. -/
theorem update_val (x : Vec Ideal S64x8x8x64x128 .f32) (y : Vec Ideal S1x8x8x64x128 .f32) {ctr : IVec S_ 32} {n : Fin 64} (hc : ctr = fun _ => BitVec.ofNat 32 n)
    (k : Fin 64) (b h : Fin 8) (t : Fin 64) (d : Fin 128) :
    Host.dynamicUpdateSlice x y (startAt ctr) updateFits_S64x8x8x64x128_S1x8x8x64x128 (ix5 k b h t d)
      = if k = n then y (ix5 0 b h t d) else x (ix5 k b h t d) := by
  have hle : ∀ a : Fin 5, (![n.val, 0, 0, 0, 0] : Fin 5 → ℕ) a + S1x8x8x64x128.size a ≤ S64x8x8x64x128.size a := fun a => by
    have := n.isLt
    match a with
    | ⟨0, _⟩ => show n.val + 1 ≤ 64; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega
  have hcl : ∀ a : Fin 5, Host.clampedStart S64x8x8x64x128 S1x8x8x64x128 (updateFits_S64x8x8x64x128_S1x8x8x64x128).1 (startAt ctr) a = (![n.val, 0, 0, 0, 0] : Fin 5 → ℕ) a := fun a =>
    Host.clampedStart_of_le (s := S64x8x8x64x128) (t := S1x8x8x64x128) _ (startAt ctr) a _ (startAt_val hc a) (hle a)
  rw [Host.dynamicUpdateSlice_apply]
  by_cases hk : k = n
  · rw [if_pos hk, dif_pos]
    · refine congrArg y (funext fun a => ?_)
      match a with
      | ⟨0, _⟩ => exact Fin.ext (by show k.val - _ = 0; erw [hcl 0]; show k.val - n.val = 0; rw [hk]; omega)
      | ⟨1, _⟩ => exact Fin.ext (by show b.val - _ = b.val; erw [hcl 1]; rfl)
      | ⟨2, _⟩ => exact Fin.ext (by show h.val - _ = h.val; erw [hcl 2]; rfl)
      | ⟨3, _⟩ => exact Fin.ext (by show t.val - _ = t.val; erw [hcl 3]; rfl)
      | ⟨4, _⟩ => exact Fin.ext (by show d.val - _ = d.val; erw [hcl 4]; rfl)
    · intro a
      erw [hcl a]
      match a with
      | ⟨0, _⟩ => show n.val ≤ k.val ∧ k.val < n.val + 1; rw [hk]; omega
      | ⟨1, _⟩ => show 0 ≤ b.val ∧ b.val < 0 + 8; omega
      | ⟨2, _⟩ => show 0 ≤ h.val ∧ h.val < 0 + 8; omega
      | ⟨3, _⟩ => show 0 ≤ t.val ∧ t.val < 0 + 64; omega
      | ⟨4, _⟩ => show 0 ≤ d.val ∧ d.val < 0 + 128; omega
  · rw [if_neg hk, dif_neg]
    intro hin
    have h0 := hin 0
    erw [hcl 0] at h0
    have h1 : n.val ≤ k.val ∧ k.val < n.val + 1 := h0
    exact hk (Fin.ext (by omega))

variable {u : FVec Ideal S32768x4096 .f32} {w : FVec Ideal S32768x4096 .bf16} {z : FVec Ideal S2x1024 .f32} {gn : FVec Ideal S128 .f32}

theorem exp_log2 (x : ℝ) : Real.exp (x * Real.log 2) = (2:ℝ) ^ x := by
  rw [Real.rpow_def_of_pos two_pos, mul_comm]

/-- The loop's unchanged arrays hold the batches' values. -/
structure Loaded (D : ℕ → Vals) (V : Valuation τ sig (Elt Ideal)) : Prop where
  h0 : ∀ (n : Fin 64) (b h : Fin 8) (t : Fin 64) (d : Fin 128), (V (Proc.devRef .tc main_v72_0) : Vec Ideal S64x8x8x64x128 .f32) (ix5 n b h t d) = (((D b).q (64 * n + t) (128 * h + d) : ℝ) : EReal)
  h1 : ∀ (n : Fin 64) (b h : Fin 8) (t : Fin 64) (d : Fin 128), (V (Proc.devRef .tc main_v72_1) : Vec Ideal S64x8x8x64x128 .f32) (ix5 n b h t d) = (((D b).k (64 * n + t) (128 * h + d) : ℝ) : EReal)
  h2 : ∀ (n : Fin 64) (b h : Fin 8) (t : Fin 64) (d : Fin 128), (V (Proc.devRef .tc main_v72_2) : Vec Ideal S64x8x8x64x128 .f32) (ix5 n b h t d) = (((D b).I (64 * n + t) (128 * h + d) : ℝ) : EReal)
  h3 : ∀ (n : Fin 64) (b h : Fin 8) (t : Fin 64) (d : Fin 128), (V (Proc.devRef .tc main_v72_3) : Vec Ideal S64x8x8x64x128 .f32) (ix5 n b h t d) = ((cum (D b).lf (64 * n) t (128 * h + d) * Real.log 2 : ℝ) : EReal)
  h4 : V (Proc.devRef .tc main_v72_4) = maskT

/-- The loop's counter and state before trip `n`. -/
structure Before (D : ℕ → Vals) (n : ℕ) (V : Valuation τ sig (Elt Ideal)) : Prop where
  h5 : V (Proc.devRef .tc main_v72_5) = fun _ => BitVec.ofNat 32 n
  h6 : ∀ (b h : Fin 8) (d v : Fin 128), (V (Proc.devRef .tc main_v72_6) : Vec Ideal S8x8x128x128 .f32) (ix4 b h d v) = (((D b).st h (64 * n) v d : ℝ) : EReal)
  h7 : ∀ (k : Fin 64) (b h : Fin 8) (t : Fin 64) (v : Fin 128), (k : ℕ) < n → (V (Proc.devRef .tc main_v72_7) : Vec Ideal S64x8x8x64x128 .f32) (ix5 k b h t v)
    = ((outp (sh h (D b).q) (sh h (D b).k) (sh h (D b).lf) (sh h (D b).I) (64 * k + t) v : ℝ) : EReal)

variable {D : ℕ → Vals} {V : Valuation τ sig (Elt Ideal)} {n : Fin 64}

theorem v95_val (L : Loaded D V) (B : Before D n V) (b h : Fin 8) (t : Fin 64) (d : Fin 128) :
    (res_main_while0b_v95 V : Vec Ideal S8x8x64x128 .f32) (ix4 b h t d) = (((D b).q (64 * n + t) (128 * h + d) : ℝ) : EReal) :=
  (slice_val _ B.h5 b h t d).trans (L.h0 n b h t d)
theorem v96_val (L : Loaded D V) (B : Before D n V) (b h : Fin 8) (t : Fin 64) (d : Fin 128) :
    (res_main_while0b_v96 V : Vec Ideal S8x8x64x128 .f32) (ix4 b h t d) = (((D b).k (64 * n + t) (128 * h + d) : ℝ) : EReal) :=
  (slice_val _ B.h5 b h t d).trans (L.h1 n b h t d)
theorem v97_val (L : Loaded D V) (B : Before D n V) (b h : Fin 8) (t : Fin 64) (d : Fin 128) :
    (res_main_while0b_v97 V : Vec Ideal S8x8x64x128 .f32) (ix4 b h t d) = (((D b).I (64 * n + t) (128 * h + d) : ℝ) : EReal) :=
  (slice_val _ B.h5 b h t d).trans (L.h2 n b h t d)
theorem v98_val (L : Loaded D V) (B : Before D n V) (b h : Fin 8) (t : Fin 64) (d : Fin 128) :
    (res_main_while0b_v98 V : Vec Ideal S8x8x64x128 .f32) (ix4 b h t d) = ((cum (D b).lf (64 * n) t (128 * h + d) * Real.log 2 : ℝ) : EReal) :=
  (slice_val _ B.h5 b h t d).trans (L.h3 n b h t d)
theorem v115_val (L : Loaded D V) (B : Before D n V) (b h : Fin 8) (d : Fin 128) :
    (res_main_while0b_v115 V : Vec Ideal S8x8x128 .f32) (ix3 b h d) = ((cum (D b).lf (64 * n) 63 (128 * h + d) * Real.log 2 : ℝ) : EReal) := by
  pointwise [res_main_while0b_v115]
  exact v98_val L B b h 63 d

/-- The state after the trip. -/
theorem state_next (L : Loaded D V) (B : Before D n V) (b h : Fin 8) (d v : Fin 128) :
    (step_main_v72_6 V : Vec Ideal S8x8x128x128 .f32) (ix4 b h d v) = (((D b).st h (64 * (n + 1)) v d : ℝ) : EReal) := by
  unfold step_main_v72_6
  rw [id_eq]
  pointwise
  rw [v115_val L B, B.h6, Ideal.exp_coe, ← EReal.coe_mul, sum_coe (g := fun s : Fin 64 => ((D b).k (64 * n + s) (128 * h + d) * Real.exp (cum (D b).lf (64 * n) 63 (128 * h + d) * Real.log 2 - cum (D b).lf (64 * n) s (128 * h + d) * Real.log 2)) * (D b).I (64 * n + s) (128 * h + v))
    (fun s => by rw [v96_val L B, v97_val L B, v98_val L B, ← EReal.coe_sub, Ideal.exp_coe, ← EReal.coe_mul, ← EReal.coe_mul]), ← EReal.coe_add]
  refine congrArg Real.toEReal ((congrArg₂ (· + ·) ?_ (Finset.sum_congr rfl fun s _ => ?_)).trans
    (chunk_state (sh h (D b).k) (sh h (D b).lf) (sh h (D b).I) (64 * n) 64 v d (by omega)))
  · rw [exp_log2, mul_comm]; rfl
  · rw [← sub_mul, exp_log2, mul_comm]; rfl

/-- A masked decay. -/
theorem decay_val (t s : Fin 64) (x y : ℝ) :
    Scalar.select (BitVec.ofBool (decide (s ≤ t))) (Ideal.exp (Scalar.select (BitVec.ofBool (decide (s ≤ t))) (((x * Real.log 2 : ℝ) : EReal) - ((y * Real.log 2 : ℝ) : EReal)) ((0 : ℝ) : EReal))) ((0 : ℝ) : EReal)
      = ((if s ≤ t then (2:ℝ) ^ (x - y) else 0 : ℝ) : EReal) := by
  by_cases hs : s ≤ t
  · rw [sel_t (by simp [hs]), sel_t (by simp [hs]), if_pos hs, ← EReal.coe_sub, Ideal.exp_coe, ← sub_mul, exp_log2]
  · rw [sel_f (by simp [hs]), if_neg hs]

/-- The counter's chunk of outputs after the trip. -/
theorem out_next (L : Loaded D V) (B : Before D n V) (b h : Fin 8) (t : Fin 64) (v : Fin 128) :
    (step_main_v72_7 V : Vec Ideal S64x8x8x64x128 .f32) (ix5 n b h t v)
    = ((outp (sh h (D b).q) (sh h (D b).k) (sh h (D b).lf) (sh h (D b).I) (64 * n + t) v : ℝ) : EReal) := by
  refine (update_val _ _ B.h5 n b h t v).trans ?_
  rw [if_pos rfl]
  pointwise
  have hz : id (constant (F := Ideal) S_ FTy.f32 0#32) ix0 = ((0 : ℝ) : EReal) := zero_word
  rw [sum_coe (g := fun s : Fin 64 => (∑ d : Fin 128, (D b).q (64 * n + t) (128 * h + d) * (D b).k (64 * n + s) (128 * h + d) * (if s ≤ t then (2:ℝ) ^ (cum (D b).lf (64 * n) t (128 * h + d) - cum (D b).lf (64 * n) s (128 * h + d)) else 0)) * (D b).I (64 * n + s) (128 * h + v))
      (fun s => by
        rw [sum_coe (g := fun d : Fin 128 => (D b).q (64 * n + t) (128 * h + d) * (D b).k (64 * n + s) (128 * h + d) * (if s ≤ t then (2:ℝ) ^ (cum (D b).lf (64 * n) t (128 * h + d) - cum (D b).lf (64 * n) s (128 * h + d)) else 0))
          (fun d => by rw [v95_val L B, v96_val L B, v98_val L B, v98_val L B, L.h4, maskT_val, hz, decay_val, ← EReal.coe_mul, ← EReal.coe_mul]),
          v97_val L B, ← EReal.coe_mul]),
    sum_coe (g := fun d : Fin 128 => (D b).q (64 * n + t) (128 * h + d) * (2:ℝ) ^ cum (D b).lf (64 * n) t (128 * h + d) * (D b).st h (64 * n) v d)
      (fun d => by rw [v95_val L B, v98_val L B, B.h6, Ideal.exp_coe, exp_log2, ← EReal.coe_mul, ← EReal.coe_mul]), ← EReal.coe_add]
  refine congrArg Real.toEReal ((congrArg₂ (· + ·) (Finset.sum_congr rfl fun s _ => ?_) rfl).trans
    (chunk_out (sh h (D b).q) (sh h (D b).k) (sh h (D b).lf) (sh h (D b).I) (64 * n) 64 t v t.isLt))
  refine congrArg₂ (· * ·) ?_ rfl
  unfold score
  by_cases hs : s ≤ t
  · simp only [if_pos hs, if_pos (Fin.le_def.mp hs)]; rfl
  · simp only [if_neg hs, if_neg (fun h' => hs (Fin.le_def.mpr h')), mul_zero, Finset.sum_const_zero]

/-- The chunks before the counter's keep their outputs. -/
theorem out_keep (B : Before D n V) (k : Fin 64) (hk : k ≠ n) (b h : Fin 8) (t : Fin 64) (v : Fin 128) :
    (step_main_v72_7 V : Vec Ideal S64x8x8x64x128 .f32) (ix5 k b h t v) = (V (Proc.devRef .tc main_v72_7) : Vec Ideal S64x8x8x64x128 .f32) (ix5 k b h t v) :=
  (update_val _ _ B.h5 k b h t v).trans (if_neg hk)

/-- A trip keeps the loop's unchanged arrays. -/
theorem loaded_next (L : Loaded D V) : Loaded D (STEP V) where
  h0 := fun n b h t d => by rw [STEP_main_v72_0]; exact L.h0 n b h t d
  h1 := fun n b h t d => by rw [STEP_main_v72_1]; exact L.h1 n b h t d
  h2 := fun n b h t d => by rw [STEP_main_v72_2]; exact L.h2 n b h t d
  h3 := fun n b h t d => by rw [STEP_main_v72_3]; exact L.h3 n b h t d
  h4 := by rw [STEP_main_v72_4]; exact L.h4

/-- A trip moves the loop on by one chunk. -/
theorem before_next (L : Loaded D V) (B : Before D n V) : Before D (n + 1) (STEP V) where
  h5 := by
    rw [STEP_main_v72_5]
    refine funext fun i => ?_
    have e : (V (Proc.devRef .tc main_v72_5) : IVec S_ 32) i = BitVec.ofNat 32 n := congrFun B.h5 i
    show BitVec.add (V (Proc.devRef .tc main_v72_5) i) 1#32 = _
    refine (congrArg (fun p : BitVec 32 => p.add 1#32) e).trans ?_
    exact (BitVec.ofNat_add n.val 1).symm
  h6 := fun b h d v => by rw [STEP_main_v72_6]; exact state_next L B b h d v
  h7 := fun k b h t v hk => by
    rw [STEP_main_v72_7]
    by_cases e : k = n
    · subst e; exact out_next L B b h t v
    · rw [out_keep B k e]
      exact B.h7 k b h t v (by have : k.val ≠ n.val := fun h' => e (Fin.ext h'); omega)

/-- The loop, trip by trip. -/
theorem before_iter (L : Loaded D V) (B : Before D 0 V) (n : ℕ) (hn : n ≤ 64) : Loaded D (STEP^[n] V) ∧ Before D n (STEP^[n] V) := by
  induction n with
  | zero => exact ⟨L, B⟩
  | succ n ih =>
    obtain ⟨L', B'⟩ := ih (by omega)
    rw [Function.iterate_succ_apply']
    exact ⟨loaded_next L', before_next (n := ⟨n, by omega⟩) L' B'⟩

end Cert.Proof.Rec
end
-- ==== Proof.RecEntry.lean ====
/-
  The arrays that the reference's loop over chunks starts from, but for the running sums (RecEntryB).
-/
module

public import proofs.«01_k».proof.Proof.RecTerms

@[expose] public section

set_option maxRecDepth 16384

noncomputable section

namespace Cert.Proof.Rec

open Idealize.ShloMosaic Idealize.ShloMosaic.TcCoe Idealize.SL.Sem
open Cert.ReferenceIdeal Cert.ReferenceIdeal.Gen Cert.ReferenceIdeal.Value
open Idealize.ShloMosaic.StableHlo

variable (m : (ℓ : Loc nD τ sig) → Buf (Elt Ideal) ℓ) (c : Dev nD)

theorem entry_i : entryContents preI m c (Proc.devRef .tc main_v72_2) = chunked (iArg (m ((c.tc : Thread nD τ).loc main_arg1))) := by
  simp only [entryContents, afterL_cons, afterL_nil]
  after_reads_simp
  rfl

theorem entry_mask : entryContents preI m c (Proc.devRef .tc main_v72_4) = maskT := by
  simp only [entryContents, afterL_cons, afterL_nil]
  after_reads_simp
  rfl

theorem entry_q : entryContents preI m c (Proc.devRef .tc main_v72_0) = chunked (qT (m ((c.tc : Thread nD τ).loc main_arg0))) := by
  simp only [entryContents, afterL_cons, afterL_nil]
  after_reads_simp
  rfl

theorem entry_k : entryContents preI m c (Proc.devRef .tc main_v72_1) = chunked (kT (m ((c.tc : Thread nD τ).loc main_arg0)) (m ((c.tc : Thread nD τ).loc main_arg2))) := by
  simp only [entryContents, afterL_cons, afterL_nil]
  after_reads_simp
  rfl

theorem entry_state (i : S8x8x128x128.Idx) : entryContents preI m c (Proc.devRef .tc main_v72_6) i = ((0 : ℝ) : EReal) := by
  simp only [entryContents, afterL_cons, afterL_nil]
  after_reads_simp
  show broadcastInDim S8x8x128x128 ![] bcast_S_S8x8x128x128 (constant (F := Ideal) S_ .f32 0x00000000#32) i = _
  rw [show i = ix4 (i 0) (i 1) (i 2) (i 3) from eq_ix4 i]
  pointwise
  simp

end Cert.Proof.Rec
end
-- ==== Proof.RecEntryB.lean ====
/-
  The running sums of the gates' logarithms that the reference's loop over chunks starts from, stretch by stretch of its program.
-/
module

public import proofs.«01_k».proof.Proof.RecTerms

@[expose] public section

set_option maxRecDepth 16384

noncomputable section

namespace Cert.Proof.Rec

open Idealize.ShloMosaic Idealize.ShloMosaic.TcCoe Idealize.SL.Sem
open Cert.ReferenceIdeal Cert.ReferenceIdeal.Gen Cert.ReferenceIdeal.Value
open Idealize.ShloMosaic.StableHlo

variable (V : Valuation τ sig (Elt Ideal)) (m : (ℓ : Loc nD τ sig) → Buf (Elt Ideal) ℓ) (c : Dev nD)

/-- The last stretches sum the gates' logarithms. -/
theorem sums_of : afterL [hostOps0_7, hostOps0_8, hostOps0_9, hostOps0_10] V (Proc.devRef .tc main_v72_3) = cumT (V (Proc.devRef .tc main_v65)) := by
  simp only [afterL_cons, afterL_nil]
  after_reads_simp
  rfl

/-- The stretch before them adds the two logarithms and chunks the result. -/
theorem logs_of : after hostOps0_6 V (Proc.devRef .tc main_v65) = chunked (logAdd (along (V (Proc.devRef .tc main_v25))) (addf (along (V (Proc.devRef .tc main_v27))) (V (Proc.devRef .tc main_v28)))) := by
  after_reads_simp
  rfl

/-- The stretch before that one holds the logarithm of a logistic. -/
theorem logis_of : after hostOps0_5 V (Proc.devRef .tc main_v28) = Host.negf (logAdd (Host.negf (V (Proc.devRef .tc main_v4))) zeroT) := by
  after_reads_simp
  rfl

theorem keep25 : after hostOps0_5 V (Proc.devRef .tc main_v25) = V (Proc.devRef .tc main_v25) := by
  after_reads_simp

theorem keep27 : after hostOps0_5 V (Proc.devRef .tc main_v27) = V (Proc.devRef .tc main_v27) := by
  after_reads_simp

theorem first25 : afterL [hostOps0, hostOps0_1, hostOps0_2, hostOps0_3, hostOps0_4] (launchContents m c) (Proc.devRef .tc main_v25) = Host.log (lowT (m ((c.tc : Thread nD τ).loc main_arg2))) := by
  simp only [afterL_cons, afterL_nil]
  after_reads_simp
  rfl

theorem first27 : afterL [hostOps0, hostOps0_1, hostOps0_2, hostOps0_3, hostOps0_4] (launchContents m c) (Proc.devRef .tc main_v27) = Host.log1p (Host.negf (lowT (m ((c.tc : Thread nD τ).loc main_arg2)))) := by
  simp only [afterL_cons, afterL_nil]
  after_reads_simp
  rfl

theorem first4 : afterL [hostOps0, hostOps0_1, hostOps0_2, hostOps0_3, hostOps0_4] (launchContents m c) (Proc.devRef .tc main_v4) = xArg (m ((c.tc : Thread nD τ).loc main_arg0)) := by
  simp only [afterL_cons, afterL_nil]
  after_reads_simp
  rfl

/-- The running sums at the loop's entry. -/
theorem entry_b : entryContents preI m c (Proc.devRef .tc main_v72_3) = cumT (chunked (lfT (m ((c.tc : Thread nD τ).loc main_arg0)) (m ((c.tc : Thread nD τ).loc main_arg2)))) := by
  refine (sums_of (after hostOps0_6 (after hostOps0_5 (afterL [hostOps0, hostOps0_1, hostOps0_2, hostOps0_3, hostOps0_4] (launchContents m c))))).trans (congrArg cumT ?_)
  rw [logs_of, logis_of, keep25, keep27, first25, first27, first4]
  rfl

end Cert.Proof.Rec
end
-- ==== Proof.RecEnd.lean ====
/-
  What the reference's loop leaves, and what the reference makes of it: the norm over a head's columns, its weight and the gate.
-/
module

public import proofs.«01_k».proof.Proof.RecScan
public import proofs.«01_k».proof.Proof.RecEntry
public import proofs.«01_k».proof.Proof.RecEntryB

@[expose] public section

set_option maxRecDepth 16384

noncomputable section

namespace Cert.Proof.Rec

open Idealize.ShloMosaic Idealize.ShloMosaic.TcCoe Idealize.SL.Sem
open Cert.ReferenceIdeal Cert.ReferenceIdeal.Gen Cert.ReferenceIdeal.Value
open Idealize.ShloMosaic.StableHlo

variable (x : Vec Ideal S64x8x8x64x128 .f32) (u : FVec Ideal S32768x4096 .f32) (w : FVec Ideal S32768x4096 .bf16) (z : FVec Ideal S2x1024 .f32) (gn : FVec Ideal S128 .f32)

/-- The loop's outputs by batch, row, head and column. -/
def rowsT : FVec Ideal S8x4096x8x128 .f32 :=
  shapeCast S8x4096x8x128 (transpose S8x64x64x8x128 [1, 0, 3, 2, 4] x transposes_S64x8x8x64x128_S8x64x64x8x128_1_0_3_2_4) shapeCasts_S8x64x64x8x128_S8x4096x8x128

/-- The gates of the result. -/
def gArg : FVec Ideal S8x4096x1024 .f32 :=
  shapeCast S8x4096x1024 (extractStridedSlice S32768x1024 ![0, 2048] u slices_S32768x4096_S32768x1024_0_2048) shapeCasts_S32768x1024_S8x4096x1024

/-- The outputs normed over their heads' columns, and weighted. -/
def normT : FVec Ideal S8x4096x8x128 .f32 :=
  mulf (mulf (rowsT x) (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf (rowsT x) (rowsT x)) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))) (broadcastInDim S8x4096x8x128 ![0, 1, 2, 3] bcast_S1x1x1x128_S8x4096x8x128_0_1_2_3 (broadcastInDim S1x1x1x128 ![3] bcast_S128_S1x1x1x128_3 gn))

/-- The result from the loop's outputs. -/
def endT : FVec Ideal S32768x1024 .bf16 :=
  truncf .bf16 (shapeCast S32768x1024 (mulf (shapeCast S8x4096x1024 (normT x gn) shapeCasts_S8x4096x8x128_S8x4096x1024) (mulf (gArg u) (Host.divf oneT (addf oneT (Host.exp (Host.negf (gArg u))))))) shapeCasts_S8x4096x1024_S32768x1024) bitsLt_bf16_f32

theorem end_eq (V : Valuation τ sig (Elt Ideal)) : out_main_v94 V = endT (V (Proc.devRef .tc main_v72_7)) (V (Proc.devRef .tc main_arg0)) (V (Proc.devRef .tc main_arg3)) := rfl

theorem rowsT_val (b : Fin 8) (r : Fin 4096) (h : Fin 8) (v : Fin 128) :
    rowsT x (ix4 b r h v) = x (ix5 ⟨r / 64, by omega⟩ b h ⟨r % 64, by omega⟩ v) := by
  pointwise [rowsT]

variable {x u w z gn}

theorem gArg_val (hu : Sides u) (b : Fin 8) (r : Fin 4096) (c : Fin 1024) :
    gArg u (ix3 b r c) = ((at2 u (4096 * b + r) (2048 + c) : ℝ) : EReal) := by
  pointwise [gArg]
  refine (hu _ _ (by dsimp only; omega)).trans ?_
  dsimp only
  rw [mul_comm]

/-- The norm of a row whose outputs are real. -/
theorem normT_val (b : Fin 8) (r : Fin 4096) (h : Fin 8) (v : Fin 128) (O : ℕ → ℝ) (hO : ∀ v : Fin 128, rowsT x (ix4 b r h v) = ((O v : ℝ) : EReal)) :
    normT x gn (ix4 b r h v) = ((O v * (√((∑ x : Fin 128, O x * O x) * (1 / 128) + eps))⁻¹ : ℝ) : EReal) * gn (ix1 v) := by
  pointwise [normT]
  rw [hO, width_eq, eps_eq, sum_coe (fun x => show _ = ((O x * O x : ℝ) : EReal) by rw [hO, ← EReal.coe_mul])]
  have hpos : 0 < (∑ x : Fin 128, O x * O x) * (1 / 128) + eps := by
    have : 0 ≤ ∑ x : Fin 128, O x * O x := Finset.sum_nonneg fun x _ => mul_self_nonneg _
    have he : 0 < eps := by norm_num [eps]
    positivity
  rw [Ideal.div_coe (by norm_num), ← EReal.coe_mul, ← EReal.coe_add, Ideal.rsqrt_coe, if_neg (not_lt.mpr hpos.le), if_neg hpos.ne', ← EReal.coe_mul]

theorem endT_val (hu : Sides u)
    (hx : ∀ (n : Fin 64) (b h : Fin 8) (t : Fin 64) (v : Fin 128), x (ix5 n b h t v)
      = ((outp (sh h (vals u w z gn b 0).q) (sh h (vals u w z gn b 0).k) (sh h (vals u w z gn b 0).lf) (sh h (vals u w z gn b 0).I) (64 * n + t) v : ℝ) : EReal)) :
    endT x u gn = whole u w z gn := by
  funext i
  obtain ⟨r, c, rfl⟩ : ∃ (r : Fin 32768) (c : Fin 1024), i = ix2 r c := ⟨i 0, i 1, eq_ix2 i⟩
  pointwise [endT, oneT]
  rw [gArg_val hu, normT_val _ _ _ _ (outp (sh (c / 128) (vals u w z gn (r / 4096) 0).q) (sh (c / 128) (vals u w z gn (r / 4096) 0).k) (sh (c / 128) (vals u w z gn (r / 4096) 0).lf) (sh (c / 128) (vals u w z gn (r / 4096) 0).I) (r % 4096))
    (fun v => by
      rw [rowsT_val, hx]
      dsimp only
      rw [Nat.div_add_mod])]
  have hg : ((at2 u (4096 * (r / 4096) + r % 4096) (2048 + c) : ℝ) : EReal) * Ideal.div 1 (1 + Ideal.exp (-((at2 u (4096 * (r / 4096) + r % 4096) (2048 + c) : ℝ) : EReal)))
      = ((silu ((vals u w z gn (r / 4096) 0).G (r % 4096) c) : ℝ) : EReal) := by
    rw [← EReal.coe_neg, Ideal.exp_coe, ← EReal.coe_one, ← EReal.coe_add, inv_val (by positivity), ← EReal.coe_mul]
    simp only [silu, vals, zero_add]
  have hn : gn (ix1 ⟨(c : ℕ) % 128, by omega⟩) = (vals u w z gn (r / 4096) 0).N (c % 128) := by
    unfold vals
    dsimp only
    rw [dif_pos (Nat.mod_lt _ (by omega))]
  refine (congrArg₂ (· * ·) (congrArg₂ (· * ·) rfl hn) hg).trans ?_
  rfl

section
variable (m : (ℓ : Loc nD τ sig) → Buf (Elt Ideal) ℓ) (c : Dev nD)

/-- The loop's unchanged arrays, from finite arguments. -/
theorem entry_loaded (e0 : m ((c.tc : Thread nD τ).loc main_arg0) = u) (e1 : m ((c.tc : Thread nD τ).loc main_arg1) = w) (e2 : m ((c.tc : Thread nD τ).loc main_arg2) = z)
    (hu : Sides u) (hw : Finite 1024 w) (hz : Finite 1024 z) : Loaded (fun b => vals u w z gn b 0) (entryContents preI m c) := by
  subst e0 e1 e2
  exact {
    h0 := fun n b h t d => (congrFun (entry_q m c) _).trans ((chunked_val _ n b h t d).trans (qT_val hu b _ _))
    h1 := fun n b h t d => (congrFun (entry_k m c) _).trans ((chunked_val _ n b h t d).trans (kT_val hz b _ _))
    h2 := fun n b h t d => (congrFun (entry_i m c) _).trans ((chunked_val _ n b h t d).trans ((iArg_val hw b _ _).trans (by
      simp only [vals, zero_add])))
    h3 := fun n b h t d => (congrFun (entry_b m c) _).trans ((cumT_val _ n b h t d
      (fun j => Real.log (keep (low (at2 (m ((c.tc : Thread nD τ).loc main_arg2) : FVec Ideal S2x1024 .f32)) (128 * h + d)) (ext2 (m ((c.tc : Thread nD τ).loc main_arg0) : FVec Ideal S32768x4096 .f32) (4096 * b + (64 * n + j)) (1024 + (128 * h + d)))))
      (fun j => (chunked_val _ n b h j d).trans (lfT_val hz b _ _))).trans (congrArg Real.toEReal (by
        have hl : Real.log 2 ≠ 0 := (Real.log_pos one_lt_two).ne'
        unfold cum
        rw [Finset.sum_mul]
        refine Finset.sum_congr rfl fun j _ => ?_
        simp only [Vals.lf, vals, zero_add]
        rw [mul_assoc, inv_mul_cancel₀ hl, mul_one])))
    h4 := entry_mask m c }

/-- The loop starts at chunk zero with a state of zeros. -/
theorem entry_before (D : ℕ → Vals) : Before D 0 (entryContents preI m c) where
  h5 := ctr_entry m c
  h6 := fun b h d v => (entry_state m c _).trans (congrArg Real.toEReal (by simp [Vals.st, state]))
  h7 := fun k b h t v hk => absurd hk (Nat.not_lt_zero _)

/-- The reference's result, from finite arguments. -/
theorem ref_whole (e0 : m ((c.tc : Thread nD τ).loc main_arg0) = u) (e1 : m ((c.tc : Thread nD τ).loc main_arg1) = w) (e2 : m ((c.tc : Thread nD τ).loc main_arg2) = z)
    (e3 : m ((c.tc : Thread nD τ).loc main_arg3) = gn) (hu : Sides u) (hw : Finite 1024 w) (hz : Finite 1024 z) :
    out_main_v94 (STEP^[64] (entryContents preI m c)) = whole u w z gn := by
  have hB := (before_iter (entry_loaded (gn := gn) m c e0 e1 e2 hu hw hz) (entry_before m c _) 64 le_rfl).2
  rw [end_eq, iter_main_arg0, iter_main_arg3, e0, e3]
  exact endT_val hu fun n b h t v => hB.h7 n b h t v n.isLt

end

end Cert.Proof.Rec
end
-- ==== Proof.RecClaim.lean ====
/-
  The recurrence computes the function of its reference on the extended reals, for finite arguments: the kernel's result
  array (RecArray) and the reference's term after its loop over chunks (RecEnd) are the same function of the arguments.
-/
module

public import proofs.«01_k».proof.Defs
public import proofs.«01_k».proof.Proof.RecEnd

@[expose] public section

set_option maxRecDepth 16384

noncomputable section

namespace Cert.Proof.Rec

open Idealize.ShloMosaic Idealize.ShloMosaic.TcCoe Idealize.SL.Sem

theorem algebraic : Cert.algebraic_KernelIdeal_ReferenceIdeal_pre_finite (hPre_finite := preFacts) := by
  intro m ρ m' ρ' hpre hagree
  refine ⟨_, run_blocks m ρ (valsAt m) (blocks m hpre), ?_⟩
  refine (θ_run Cert.ReferenceIdeal.defs _ _).mono (fun _ h c => ⟨(h c).1.trans ?_, (h c).2⟩) (Cert.ReferenceIdeal.Value.run (F := Ideal) m' ρ')
  obtain ⟨h0, h1, h2, h3⟩ := hagree c
  obtain ⟨hu, hw, hz⟩ := finite_of_pre (hpre c)
  exact (ref_whole m' c h0 h1 h2 h3 hu hw hz).trans (whole_eq m c).symm

end Cert.Proof.Rec
end
-- ==== Proof.OutPlain.lean ====
/-
  The output projection without the final normalisation, as the first layer calls it, computes the function of its
  reference on the extended reals: both results are `resid` (OutArray) of the arguments.
-/
module

public import proofs.«01_k».proof.Defs
public import proofs.«01_k».proof.Proof.OutArray
public import proofs.«01_k».proof.Proof.Gen.Kernel4Ideal.Value
public import proofs.«01_k».proof.Proof.Gen.Reference4Ideal.Run

@[expose] public section

set_option maxRecDepth 16384

noncomputable section

namespace Cert.Proof.OutPlain

open Idealize.ShloMosaic Idealize.ShloMosaic.TcCoe Idealize.SL.Sem
open Cert.Kernel4Ideal Cert.Kernel4Ideal.Gen

variable (m : (ℓ : Loc nD τ sig) → Buf (Elt Ideal) ℓ)

/-- The whole result: the residual plus the gate times the product, at every row and column. -/
def plainOf (a b : Vec Ideal S32768x1024 .bf16) (w : Vec Ideal S2048x1024 .f32) (x : Vec Ideal S8x4096x1024 .f32)
    (md : Vec Ideal S8x3072 .f32) : Vec Ideal S32768x1024 .f32 := fun i =>
  Out.resid a b w x md (i 0) (i 1)

/-- The reference's result term is `plainOf` of the same arrays. -/
theorem ref_eq (a b : FVec Ideal S32768x1024 .bf16) (w : FVec Ideal S2048x1024 .f32) (x : FVec Ideal S8x4096x1024 .f32)
    (md : FVec Ideal S8x3072 .f32) :
    (shapeCast Cert.Reference4Ideal.S32768x1024 (addf (F := Ideal) x (mulf (broadcastInDim Cert.Reference4Ideal.S8x4096x1024 ![0, 1, 2] Cert.Reference4Ideal.Facts₀.bcast_S8x1x1024_S8x4096x1024_0_1_2 (broadcastInDim Cert.Reference4Ideal.S8x1x1024 ![0, 2] Cert.Reference4Ideal.Facts₀.bcast_S8x1024_S8x1x1024_0_2 (extractStridedSlice Cert.Reference4Ideal.S8x1024 ![0, 2048] md Cert.Reference4Ideal.Facts₀.slices_S8x3072_S8x1024_0_2048))) (Host.dotGeneral Cert.Reference4Ideal.dot_S8x4096x2048_S2048x1024_S8x4096x1024_2_0_01_1_n_n none (concatenate Cert.Reference4Ideal.S8x4096x2048 2 [⟨Cert.Reference4Ideal.S8x4096x1024, (shapeCast Cert.Reference4Ideal.S8x4096x1024 (extf (F := Ideal) .f32 a Cert.Reference4Ideal.Facts₀.bitsLt_bf16_f32) Cert.Reference4Ideal.Facts₀.shapeCasts_S32768x1024_S8x4096x1024)⟩, ⟨Cert.Reference4Ideal.S8x4096x1024, (shapeCast Cert.Reference4Ideal.S8x4096x1024 (extf (F := Ideal) .f32 b Cert.Reference4Ideal.Facts₀.bitsLt_bf16_f32) Cert.Reference4Ideal.Facts₀.shapeCasts_S32768x1024_S8x4096x1024)⟩] Cert.Reference4Ideal.Facts₀.concatenates_S8x4096x1024_S8x4096x1024_S8x4096x2048_d2) w))) Cert.Reference4Ideal.Facts₀.shapeCasts_S8x4096x1024_S32768x1024 : FVec Ideal S32768x1024 .f32) = plainOf a b w x md := by
  funext y
  obtain ⟨p, q, rfl⟩ : ∃ (p : Fin 32768) (q : Fin 1024), y = ix2 p q := ⟨y 0, y 1, eq_ix2 y⟩
  pointwise
  rfl

/-- Each window's block index at every grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val / 8, 0, 0]
    ∧ win0_6.index t = ![t.val, 0] ∧ t.val < 64 :=
  (by decide +kernel : ∀ t : Fin grid0.N, _)

/-- The kernel's block result at row `p`, column `q`. -/
theorem pay_apply (a b : Vec Ideal S512x1024 .bf16) (w₁ w₂ : Vec Ideal S1024x1024 .bf16) (g : Vec Ideal S1x1x1024 .f32)
    (x : Vec Ideal S512x1024 .f32) (p : Fin 512) (q : Fin 1024) :
    k0_pay1 a w₁ b w₂ g x (ix2 p q)
    = x (ix2 p q) + g (ix3 0 0 q) * (∑ k : Fin 1024, a (ix2 p k) * w₁ (ix2 k q) + ∑ k : Fin 1024, b (ix2 p k) * w₂ (ix2 k q)) := by
  pointwise [k0_pay1]

/-- Row `512 t + p` of the arrays. -/
abbrev rowAt (t : Fin cfg0.N) (p : Fin 512) : Fin 32768 := ⟨t.val * 512 + p, by have := (idx t).2.2.2.2.2.2; omega⟩

/-! What each block holds, at an index of the argument it is cut from. -/

theorem read_a (c : Dev nD) (t : Fin cfg0.N) (p : Fin 512) (k : Fin 1024) :
    iblk m c 0 t (ix2 p k) = m ((c : Thread nD τ).loc main_arg0) (ix2 (rowAt t p) k) := by
  blk_ext! [iblk, V, idx t]

theorem read_b (c : Dev nD) (t : Fin cfg0.N) (p : Fin 512) (k : Fin 1024) :
    iblk m c 1 t (ix2 p k) = m ((c : Thread nD τ).loc main_arg1) (ix2 (rowAt t p) k) := by
  blk_ext! [iblk, V, idx t]

theorem read_w₁ (c : Dev nD) (t : Fin cfg0.N) (k : Fin 1024) (j : Fin 1024) :
    View.ld (iblk m c 2 t) r0_1 (ix2 k j) = m ((c : Thread nD τ).loc main_arg2) (ix2 ⟨k, by omega⟩ j) := by
  pointwise
  blk_ext! [iblk, V, idx t]

theorem read_w₂ (c : Dev nD) (t : Fin cfg0.N) (k : Fin 1024) (j : Fin 1024) :
    View.ld (iblk m c 2 t) r0_2 (ix2 k j) = m ((c : Thread nD τ).loc main_arg2) (ix2 ⟨1024 + k, by omega⟩ j) := by
  pointwise
  blk_ext! [iblk, V, idx t]

theorem read_x (c : Dev nD) (t : Fin cfg0.N) (p : Fin 512) (j : Fin 1024) :
    iblk m c 3 t (ix2 p j) = m ((c : Thread nD τ).loc main_arg3)
      (ix3 ⟨(rowAt t p).val / 4096, by omega⟩ ⟨(rowAt t p).val % 4096, by omega⟩ j) := by
  blk_ext! [iblk, V, idx t]

theorem read_g (c : Dev nD) (t : Fin cfg0.N) (p : Fin 512) (j : Fin 1024) :
    View.ld (iblk m c 4 t) r0_3 (ix3 0 0 j) = m ((c : Thread nD τ).loc main_arg4)
      (ix2 ⟨(rowAt t p).val / 4096, by omega⟩ ⟨2048 + j, by omega⟩) := by
  pointwise
  blk_ext! [iblk, V, idx t]

theorem emb_eq (t : Fin cfg0.N) (p : Fin 512) (q : Fin 1024) : ((cfg0.win 6).blk t).view.emb (ix2 p q) = ix2 (rowAt t p) q := by
  blk_ext [idx t]

/-- What a grid point writes is `plainOf` of the arrays at its block's rows. -/
theorem point (c : Dev nD) (t : Fin cfg0.N) (y : S512x1024.Idx) :
    k0_pay1 (iblk m c 0 t) (View.ld (iblk m c 2 t) r0_1) (iblk m c 1 t) (View.ld (iblk m c 2 t) r0_2)
      (View.ld (iblk m c 4 t) r0_3) (iblk m c 3 t) y
    = plainOf (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  obtain ⟨p, q, rfl⟩ : ∃ (p : Fin 512) (q : Fin 1024), y = ix2 p q := ⟨y 0, y 1, eq_ix2 y⟩
  refine (pay_apply _ _ _ _ _ _ p q).trans ?_
  rw [read_x, read_g m c t p, emb_eq]
  unfold plainOf Out.resid
  congr 2
  congr 1
  · exact Finset.sum_congr rfl fun k _ => congrArg₂ _ (read_a m c t p k) (read_w₁ m c t k q)
  · exact Finset.sum_congr rfl fun k _ => congrArg₂ _ (read_b m c t p k) (read_w₂ m c t k q)

/-- The array after the run. -/
theorem array_eq (c : Dev nD) : (dats m 0 c).arrAt 6 cfg0.N
    = plainOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  exact point m c t y

theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5⟩ := hagree c
  rw [h0, h1, h2, h3, h4]
  exact (ref_eq _ _ _ _ _).trans (array_eq m c).symm

end Cert.Proof.OutPlain
end
-- ==== Proof.Modulation.lean ====
/-
  The modulation call computes the function of its reference on the extended reals where the conditioning is finite:
  the kernel's `silu` goes through the hyperbolic tangent, the reference's through the exponential.
-/
module

public import proofs.«01_k».proof.Defs
public import proofs.«01_k».proof.Proof.RecGate
public import proofs.«01_k».proof.Proof.Gen.Kernel5Ideal.Value
public import proofs.«01_k».proof.Proof.Gen.Reference5Ideal.Run

@[expose] public section

set_option maxRecDepth 16384

noncomputable section

namespace Cert.Proof.Modulation

open Idealize.ShloMosaic Idealize.ShloMosaic.TcCoe Idealize.SL.Sem
open Cert.Kernel5Ideal Cert.Kernel5Ideal.Gen
open Cert.Proof.Rec (at2 silu silu_val inv_val real_of_abs inf_eq ofBool_one)

variable (m : (ℓ : Loc nD τ sig) → Buf (Elt Ideal) ℓ)

instance preFacts : Cert.Pre_finite_c.Facts where
  bcast_S_S8x1024 := by decide
  reducesTo_S8x1024_S_d0_1 := by decide
  h_S_ := by decide

/-- Layer `l`'s modulation of batch `r`, column `j`. -/
def md (c : Vec Ideal S8x1024 .f32) (w : Vec Ideal S2x1024x3072 .f32) (b : Vec Ideal S2x3072 .f32)
    (l : Fin 2) (r : Fin 8) (j : Fin 3072) : EReal :=
  ∑ k : Fin 1024, ((silu (at2 (φ := .f32) c r k) : ℝ) : EReal) * w (ix3 l k j) + b (ix2 l j)

/-- Both layers' modulations. -/
def mods (c : Vec Ideal S8x1024 .f32) (w : Vec Ideal S2x1024x3072 .f32) (b : Vec Ideal S2x3072 .f32) :
    Vec Ideal S2x8x3072 .f32 := fun i => md c w b (i 0) (i 1) (i 2)

/-- The precondition: the conditioning's entries are real numbers. -/
theorem real_of_pre {c : FVec Ideal S8x1024 .f32} {w : FVec Ideal S2x1024x3072 .f32} {b : FVec Ideal S2x3072 .f32}
    (h : Cert.Pre_finite_c.fn (F := Ideal) c w b = fun _ => 1#1) (r : Fin 8) (k : Fin 1024) :
    c (ix2 r k) = ((at2 (φ := .f32) c r k : ℝ) : EReal) := by
  have e := congrFun h ix0
  unfold Cert.Pre_finite_c.fn at e
  haveI : Subsingleton Cert.Pre_finite_c.S_.Idx := ⟨fun a b => funext fun i => i.elim0⟩
  have q := Host.reduce_andi_all _ _ _ _ _ e (ix2 r k)
  revert q
  pointwise
  intro q
  have q := of_decide_eq_true (ofBool_one q)
  rw [inf_eq] at q
  exact real_of_abs _ _ _ q

/-- The reference's `silu` of a real number. -/
theorem silu_ref (x : ℝ) : (x : EReal) * Ideal.div 1 (1 + Ideal.exp (-(x : EReal))) = ((silu x : ℝ) : EReal) := by
  have h : (1 : ℝ) + Real.exp (-x) ≠ 0 := by positivity
  rw [← EReal.coe_neg, Ideal.exp_coe, ← EReal.coe_one, ← EReal.coe_add, inv_val h, ← EReal.coe_mul]
  rfl

/-- One layer of the reference, from that layer's weights and bias. -/
theorem ref_layer (c : FVec Ideal S8x1024 .f32) (w : FVec Ideal S2x1024x3072 .f32) (b : FVec Ideal S2x3072 .f32)
    (hc : ∀ r k, c (ix2 r k) = ((at2 (φ := .f32) c r k : ℝ) : EReal)) (l : Fin 2) (r : Fin 8) (j : Fin 3072) :
    ∑ k : Fin 1024, c (ix2 r k) * Ideal.div 1 (1 + Ideal.exp (-(c (ix2 r k) : EReal))) * w (ix3 l k j) + b (ix2 l j)
    = md c w b l r j := by
  unfold md
  congr 1
  refine Finset.sum_congr rfl fun k _ => ?_
  rw [hc r k, silu_ref]

/-- The reference's result term is `mods` of the same arrays. -/
theorem ref_eq (c : FVec Ideal S8x1024 .f32) (w : FVec Ideal S2x1024x3072 .f32) (b : FVec Ideal S2x3072 .f32)
    (hc : ∀ r k, c (ix2 r k) = ((at2 (φ := .f32) c r k : ℝ) : EReal)) :
    (concatenate Cert.Reference5Ideal.S2x8x3072 0 [⟨Cert.Reference5Ideal.S1x8x3072, (broadcastInDim Cert.Reference5Ideal.S1x8x3072 ![1, 2] Cert.Reference5Ideal.Facts₀.bcast_S8x3072_S1x8x3072_1_2 (addf (F := Ideal) (Host.dotGeneral Cert.Reference5Ideal.dot_S8x1024_S1024x3072_S8x3072_1_0_0_1_n_n none (mulf c (Host.divf (broadcastInDim Cert.Reference5Ideal.S8x1024 ![] Cert.Reference5Ideal.Facts₀.bcast_S_S8x1024 (constant Cert.Reference5Ideal.S_ .f32 0x3F800000#32)) (addf (broadcastInDim Cert.Reference5Ideal.S8x1024 ![] Cert.Reference5Ideal.Facts₀.bcast_S_S8x1024 (constant Cert.Reference5Ideal.S_ .f32 0x3F800000#32)) (Host.exp (Host.negf c))))) (shapeCast _ (extractStridedSlice Cert.Reference5Ideal.S1x1024x3072 ![0, 0, 0] w Cert.Reference5Ideal.Facts₀.slices_S2x1024x3072_S1x1024x3072_0_0_0) Cert.Reference5Ideal.Facts₀.shapeCasts_S1x1024x3072_S1024x3072)) (broadcastInDim Cert.Reference5Ideal.S8x3072 ![0, 1] Cert.Reference5Ideal.Facts₀.bcast_S1x3072_S8x3072_0_1 (broadcastInDim Cert.Reference5Ideal.S1x3072 ![1] Cert.Reference5Ideal.Facts₀.bcast_S3072_S1x3072_1 (shapeCast _ (extractStridedSlice Cert.Reference5Ideal.S1x3072 ![0, 0] b Cert.Reference5Ideal.Facts₀.slices_S2x3072_S1x3072_0_0) Cert.Reference5Ideal.Facts₀.shapeCasts_S1x3072_S3072)))))⟩, ⟨Cert.Reference5Ideal.S1x8x3072, (broadcastInDim Cert.Reference5Ideal.S1x8x3072 ![1, 2] Cert.Reference5Ideal.Facts₀.bcast_S8x3072_S1x8x3072_1_2 (addf (F := Ideal) (Host.dotGeneral Cert.Reference5Ideal.dot_S8x1024_S1024x3072_S8x3072_1_0_0_1_n_n none (mulf c (Host.divf (broadcastInDim Cert.Reference5Ideal.S8x1024 ![] Cert.Reference5Ideal.Facts₀.bcast_S_S8x1024 (constant Cert.Reference5Ideal.S_ .f32 0x3F800000#32)) (addf (broadcastInDim Cert.Reference5Ideal.S8x1024 ![] Cert.Reference5Ideal.Facts₀.bcast_S_S8x1024 (constant Cert.Reference5Ideal.S_ .f32 0x3F800000#32)) (Host.exp (Host.negf c))))) (shapeCast _ (extractStridedSlice Cert.Reference5Ideal.S1x1024x3072 ![1, 0, 0] w Cert.Reference5Ideal.Facts₀.slices_S2x1024x3072_S1x1024x3072_1_0_0) Cert.Reference5Ideal.Facts₀.shapeCasts_S1x1024x3072_S1024x3072)) (broadcastInDim Cert.Reference5Ideal.S8x3072 ![0, 1] Cert.Reference5Ideal.Facts₀.bcast_S1x3072_S8x3072_0_1 (broadcastInDim Cert.Reference5Ideal.S1x3072 ![1] Cert.Reference5Ideal.Facts₀.bcast_S3072_S1x3072_1 (shapeCast _ (extractStridedSlice Cert.Reference5Ideal.S1x3072 ![1, 0] b Cert.Reference5Ideal.Facts₀.slices_S2x3072_S1x3072_1_0) Cert.Reference5Ideal.Facts₀.shapeCasts_S1x3072_S3072)))))⟩] Cert.Reference5Ideal.Facts₀.concatenates_S1x8x3072_S1x8x3072_S2x8x3072_d0 : FVec Ideal S2x8x3072 .f32) = mods c w b := by
  funext y
  obtain ⟨l, r, j, rfl⟩ : ∃ (l : Fin 2) (r : Fin 8) (j : Fin 3072), y = ix3 l r j := ⟨y 0, y 1, y 2, eq_ix3 y⟩
  refine Eq.trans ?_ (ref_layer c w b hc l r j)
  fin_cases l
  · pointwise
  · pointwise

/-- Each window's block index at every grid point. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] ∧ t.val < 6 :=
  (by decide +kernel : ∀ t : Fin grid0.N, _)

/-- The layer and the column that a block's column `j` is. -/
abbrev layAt (t : Fin cfg0.N) : Fin 2 := ⟨t.val / 3, by have := (idx t).2.2.2.2; omega⟩
abbrev colAt (t : Fin cfg0.N) (j : Fin 1024) : Fin 3072 := ⟨t.val % 3 * 1024 + j, by omega⟩

/-- The kernel's block result at row `r`, column `j`. -/
theorem pay_apply (c : Vec Ideal S8x1024 .f32) (w : Vec Ideal S1x1024x1024 .f32) (b : Vec Ideal S1x1x1024 .f32)
    (hc : ∀ r k, c (ix2 r k) = ((at2 (φ := .f32) c r k : ℝ) : EReal)) (r : Fin 8) (j : Fin 1024) :
    k0_pay1 c w b (ix3 0 r j) = ∑ k : Fin 1024, ((silu (at2 (φ := .f32) c r k) : ℝ) : EReal) * w (ix3 0 k j) + b (ix3 0 0 j) := by
  pointwise [k0_pay1]
  congr 1
  refine Finset.sum_congr rfl fun k _ => ?_
  congr 1
  rw [hc r k]
  exact silu_val _

/-! What each block holds, at an index of the argument it is cut from. -/

theorem read_c (c : Dev nD) (t : Fin cfg0.N) : (iblk m c 0 t : Vec Ideal S8x1024 .f32) = m ((c : Thread nD τ).loc main_arg0) := by
  funext y
  obtain ⟨r, k, rfl⟩ : ∃ (r : Fin 8) (k : Fin 1024), y = ix2 r k := ⟨y 0, y 1, eq_ix2 y⟩
  blk_ext! [iblk, V, idx t]

theorem read_w (c : Dev nD) (t : Fin cfg0.N) (k j : Fin 1024) :
    iblk m c 1 t (ix3 0 k j) = m ((c : Thread nD τ).loc main_arg1) (ix3 (layAt t) k (colAt t j)) := by
  blk_ext! [iblk, V, idx t]

theorem read_b (c : Dev nD) (t : Fin cfg0.N) (j : Fin 1024) :
    iblk m c 2 t (ix3 0 0 j) = m ((c : Thread nD τ).loc main_arg2) (ix2 (layAt t) (colAt t j)) := by
  blk_ext! [iblk, V, idx t]

theorem emb_eq (t : Fin cfg0.N) (r : Fin 8) (j : Fin 1024) :
    ((cfg0.win 3).blk t).view.emb (ix3 0 r j) = ix3 (layAt t) r (colAt t j) := by
  blk_ext [idx t]

/-- What a grid point writes is `mods` of the arrays at its block's columns. -/
theorem point (h : Cert.Pre_Kernel5Ideal_finite_c (hPre_finite_c := preFacts) m) (c : Dev nD) (t : Fin cfg0.N) (y : S1x8x1024.Idx) :
    k0_pay1 (iblk m c 0 t) (iblk m c 1 t) (iblk m c 2 t) y
    = mods (m ((c : Thread nD τ).loc main_arg0)) (m ((c : Thread nD τ).loc main_arg1)) (m ((c : Thread nD τ).loc main_arg2))
        (((cfg0.win 3).blk t).view.emb y) := by
  obtain ⟨o, r, j, rfl⟩ : ∃ (o : Fin 1) (r : Fin 8) (j : Fin 1024), y = ix3 o r j := ⟨y 0, y 1, y 2, eq_ix3 y⟩
  obtain rfl : o = 0 := Subsingleton.elim _ _
  rw [read_c]
  refine (pay_apply _ _ _ (real_of_pre (h c)) r j).trans ?_
  rw [emb_eq]
  unfold mods md
  rw [read_b]
  congr 1
  exact Finset.sum_congr rfl fun k _ => congrArg₂ _ rfl (read_w m c t k j)

/-- The array after the run. -/
theorem array_eq (h : Cert.Pre_Kernel5Ideal_finite_c (hPre_finite_c := preFacts) m) (c : Dev nD) : (dats m 0 c).arrAt 3 cfg0.N
    = mods (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m h c t y

theorem algebraic : Cert.algebraic_Kernel5Ideal_Reference5Ideal_pre_finite_c (hPre_finite_c := preFacts) := by
  intro m ρ m' ρ' hpre hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨h0, h1, h2⟩ := hagree c
  rw [h0, h1, h2]
  exact (ref_eq _ _ _ (real_of_pre (hpre c))).trans (array_eq m hpre c).symm

end Cert.Proof.Modulation
end
-- ==== Proof.lean ====
/-
  The claims, assembled from the modules that prove them.
-/
module

public import proofs.«01_k».proof.Defs
public import proofs.«01_k».proof.Proof.Frames
public import proofs.«01_k».proof.Proof.OutClaim
public import proofs.«01_k».proof.Proof.InClaim
public import proofs.«01_k».proof.Proof.RecClaim
public import proofs.«01_k».proof.Proof.OutPlain
public import proofs.«01_k».proof.Proof.Modulation
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Rec.preFacts, Modulation.preFacts,
    Frames.kernel, Frames.kernelIdeal, fun m ρ _ => Frames.kernelIdeal m ρ trivial,
    Frames.referenceIdeal, fun m ρ _ => Frames.referenceIdeal m ρ trivial,
    Frames.kernel2, Frames.kernel2Ideal, Frames.reference2Ideal, Frames.kernel3, Frames.kernel3Ideal, Frames.reference3Ideal,
    Frames.kernel4, Frames.kernel4Ideal, Frames.reference4Ideal,
    Frames.kernel5, Frames.kernel5Ideal, fun m ρ _ => Frames.kernel5Ideal m ρ trivial,
    Frames.reference5Ideal, fun m ρ _ => Frames.reference5Ideal m ρ trivial,
    Frames.preserves, Rec.algebraic, trivial, In.algebraic, trivial, Out.algebraic, trivial, OutPlain.algebraic,
    trivial, Modulation.algebraic⟩

end Cert.Proof
end
